-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 256]⟩ ⟨2, ![8192, 256]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x1024 : Shape := ⟨2, ![1024, 1024]⟩
abbrev S2048x256 : Shape := ⟨2, ![2048, 256]⟩
abbrev S2x512x512 : Shape := ⟨3, ![2, 512, 512]⟩
abbrev S2x512x8 : Shape := ⟨3, ![2, 512, 8]⟩
abbrev S2x4x128x512 : Shape := ⟨4, ![2, 4, 128, 512]⟩
abbrev S2x4x128x8 : Shape := ⟨4, ![2, 4, 128, 8]⟩
abbrev S2x4 : Shape := ⟨2, ![2, 4]⟩
abbrev S4 : Shape := ⟨1, ![4]⟩
abbrev S_ : Shape := ⟨0, ![]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x512x128 : Shape := ⟨3, ![1, 512, 128]⟩
abbrev S1x512x1 : Shape := ⟨3, ![1, 512, 1]⟩
abbrev S1x1 : Shape := ⟨2, ![1, 1]⟩
abbrev S1x1x128x512 : Shape := ⟨4, ![1, 1, 128, 512]⟩
abbrev S128x512 : Shape := ⟨2, ![128, 512]⟩
abbrev S1x128x512 : Shape := ⟨3, ![1, 128, 512]⟩
abbrev S1x1x128x8 : Shape := ⟨4, ![1, 1, 128, 8]⟩
abbrev S128x8 : Shape := ⟨2, ![128, 8]⟩
abbrev S1x128x8 : Shape := ⟨3, ![1, 128, 8]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S1x1x128x1 : Shape := ⟨4, ![1, 1, 128, 1]⟩
abbrev S1x1x128x128 : Shape := ⟨4, ![1, 1, 128, 128]⟩
abbrev S128x1024 : Shape := ⟨2, ![128, 1024]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S1024x1024, .bf16⟩
  | .hbm, ⟨3, _⟩ => ⟨S2048x256, .bf16⟩
  | .hbm, ⟨4, _⟩ => ⟨S2048x256, .bf16⟩
  | .hbm, ⟨5, _⟩ => ⟨S512x1024, .bf16⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x256, .bf16⟩
  | .local _ .vmem, ⟨4, _⟩ => ⟨S2048x256, .bf16⟩
  | .local _ .vmem, ⟨5, _⟩ => ⟨S512x1024, .bf16⟩
  | .local _ .vmem, ⟨6, _⟩ => ⟨S2x512x512, .bf16⟩
  | .local _ .vmem, ⟨7, _⟩ => ⟨S2x512x8, .f32⟩
  | .local _ .vmem, ⟨8, _⟩ => ⟨S2x4x128x512, .bf16⟩
  | .local _ .vmem, ⟨9, _⟩ => ⟨S2x4x128x8, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_63 : BitVec 32) : Fin 3 → Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v112 : BitVec 32 := Scalar.addi v2 c1_i32_63
  let c4_i32_64 : BitVec 32 := 4#32
  let v113 : BitVec 32 := Scalar.remsi v112 c4_i32_64
  let c128_i32 : BitVec 32 := 128#32
  let v114 : BitVec 32 := Scalar.muli v113 c128_i32
  let c0_i32_76 : BitVec 32 := 0#32
  ![0, v114.toNat, 0]
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v112 : BitVec 32 := Scalar.addi v2 c1_i32_63
  let c4_i32_64 : BitVec 32 := 4#32
  let v113 : BitVec 32 := Scalar.remsi v112 c4_i32_64
  let c1_i32_72 : BitVec 32 := 1#32
  let v115 : BitVec 32 := Scalar.muli v113 c1_i32_72
  let v116 : BitVec 32 := Scalar.addi c0_i32_73 v115
  v116.toNat
def k0_off2 (d0 : Dev nD) (c1_i32_63 : BitVec 32) : Fin 3 → Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v112 : BitVec 32 := Scalar.addi v2 c1_i32_63
  let c4_i32_64 : BitVec 32 := 4#32
  let v113 : BitVec 32 := Scalar.remsi v112 c4_i32_64
  let c128_i32_77 : BitVec 32 := 128#32
  let v125 : BitVec 32 := Scalar.muli v113 c128_i32_77
  let c0_i32_89 : BitVec 32 := 0#32
  ![0, v125.toNat, 0]
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_63 : BitVec 32 := 1#32
  let v112 : BitVec 32 := Scalar.addi v2 c1_i32_63
  let c4_i32_64 : BitVec 32 := 4#32
  let v113 : BitVec 32 := Scalar.remsi v112 c4_i32_64
  let c1_i32_85 : BitVec 32 := 1#32
  let v126 : BitVec 32 := Scalar.muli v113 c1_i32_85
  let v127 : BitVec 32 := Scalar.addi c0_i32_86 v126
  v127.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_90 : BitVec 32 := 2#32
  let v136 : BitVec 32 := Scalar.addi v2 c2_i32_90
  let c4_i32_91 : BitVec 32 := 4#32
  let v137 : BitVec 32 := Scalar.remsi v136 c4_i32_91
  let c1_i32_100 : BitVec 32 := 1#32
  let v139 : BitVec 32 := Scalar.muli v137 c1_i32_100
  let v140 : BitVec 32 := Scalar.addi c0_i32_101 v139
  v140.toNat
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_90 : BitVec 32 := 2#32
  let v136 : BitVec 32 := Scalar.addi v2 c2_i32_90
  let c4_i32_91 : BitVec 32 := 4#32
  let v137 : BitVec 32 := Scalar.remsi v136 c4_i32_91
  let c1_i32_113 : BitVec 32 := 1#32
  let v150 : BitVec 32 := Scalar.muli v137 c1_i32_113
  let v151 : BitVec 32 := Scalar.addi c0_i32_114 v150
  v151.toNat
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_118 : BitVec 32 := 3#32
  let v160 : BitVec 32 := Scalar.addi v2 c3_i32_118
  let c4_i32_119 : BitVec 32 := 4#32
  let v161 : BitVec 32 := Scalar.remsi v160 c4_i32_119
  let c1_i32_128 : BitVec 32 := 1#32
  let v163 : BitVec 32 := Scalar.muli v161 c1_i32_128
  let v164 : BitVec 32 := Scalar.addi c0_i32_129 v163
  v164.toNat
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_118 : BitVec 32 := 3#32
  let v160 : BitVec 32 := Scalar.addi v2 c3_i32_118
  let c4_i32_119 : BitVec 32 := 4#32
  let v161 : BitVec 32 := Scalar.remsi v160 c4_i32_119
  let c1_i32_141 : BitVec 32 := 1#32
  let v174 : BitVec 32 := Scalar.muli v161 c1_i32_141
  let v175 : BitVec 32 := Scalar.addi c0_i32_142 v174
  v175.toNat
def k0_off3 (d0 : Dev nD) (c1_i32_202 : BitVec 32) : Fin 3 → Nat :=
  let c1_i32_205 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v272 : BitVec 32 := Scalar.addi v2 c1_i32_202
  let c4_i32_203 : BitVec 32 := 4#32
  let v273 : BitVec 32 := Scalar.remsi v272 c4_i32_203
  let c128_i32_204 : BitVec 32 := 128#32
  let v274 : BitVec 32 := Scalar.muli v273 c128_i32_204
  let c0_i32_216 : BitVec 32 := 0#32
  ![1, v274.toNat, 0]
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_202 : BitVec 32 := 1#32
  let v272 : BitVec 32 := Scalar.addi v2 c1_i32_202
  let c4_i32_203 : BitVec 32 := 4#32
  let v273 : BitVec 32 := Scalar.remsi v272 c4_i32_203
  let c1_i32_212 : BitVec 32 := 1#32
  let v275 : BitVec 32 := Scalar.muli v273 c1_i32_212
  let v276 : BitVec 32 := Scalar.addi c0_i32_213 v275
  v276.toNat
def k0_off4 (d0 : Dev nD) (c1_i32_202 : BitVec 32) : Fin 3 → Nat :=
  let c1_i32_218 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v272 : BitVec 32 := Scalar.addi v2 c1_i32_202
  let c4_i32_203 : BitVec 32 := 4#32
  let v273 : BitVec 32 := Scalar.remsi v272 c4_i32_203
  let c128_i32_217 : BitVec 32 := 128#32
  let v285 : BitVec 32 := Scalar.muli v273 c128_i32_217
  let c0_i32_229 : BitVec 32 := 0#32
  ![1, v285.toNat, 0]
def k0_dev11 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_202 : BitVec 32 := 1#32
  let v272 : BitVec 32 := Scalar.addi v2 c1_i32_202
  let c4_i32_203 : BitVec 32 := 4#32
  let v273 : BitVec 32 := Scalar.remsi v272 c4_i32_203
  let c1_i32_225 : BitVec 32 := 1#32
  let v286 : BitVec 32 := Scalar.muli v273 c1_i32_225
  let v287 : BitVec 32 := Scalar.addi c0_i32_226 v286
  v287.toNat
def k0_dev12 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_230 : BitVec 32 := 2#32
  let v296 : BitVec 32 := Scalar.addi v2 c2_i32_230
  let c4_i32_231 : BitVec 32 := 4#32
  let v297 : BitVec 32 := Scalar.remsi v296 c4_i32_231
  let c1_i32_240 : BitVec 32 := 1#32
  let v299 : BitVec 32 := Scalar.muli v297 c1_i32_240
  let v300 : BitVec 32 := Scalar.addi c0_i32_241 v299
  v300.toNat
def k0_dev13 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_230 : BitVec 32 := 2#32
  let v296 : BitVec 32 := Scalar.addi v2 c2_i32_230
  let c4_i32_231 : BitVec 32 := 4#32
  let v297 : BitVec 32 := Scalar.remsi v296 c4_i32_231
  let c1_i32_253 : BitVec 32 := 1#32
  let v310 : BitVec 32 := Scalar.muli v297 c1_i32_253
  let v311 : BitVec 32 := Scalar.addi c0_i32_254 v310
  v311.toNat
def k0_dev14 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_258 : BitVec 32 := 3#32
  let v320 : BitVec 32 := Scalar.addi v2 c3_i32_258
  let c4_i32_259 : BitVec 32 := 4#32
  let v321 : BitVec 32 := Scalar.remsi v320 c4_i32_259
  let c1_i32_268 : BitVec 32 := 1#32
  let v323 : BitVec 32 := Scalar.muli v321 c1_i32_268
  let v324 : BitVec 32 := Scalar.addi c0_i32_269 v323
  v324.toNat
def k0_dev15 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_258 : BitVec 32 := 3#32
  let v320 : BitVec 32 := Scalar.addi v2 c3_i32_258
  let c4_i32_259 : BitVec 32 := 4#32
  let v321 : BitVec 32 := Scalar.remsi v320 c4_i32_259
  let c1_i32_281 : BitVec 32 := 1#32
  let v334 : BitVec 32 := Scalar.muli v321 c1_i32_281
  let v335 : BitVec 32 := Scalar.addi c0_i32_282 v334
  v335.toNat
def k0_off5 (d0 : Dev nD) : Fin 3 → Nat :=
  let c0_287 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v345 : Index := Scalar.indexCast v344
  let c0_288 : Index := 0#32
  ![0, v345.toNat, 0]
def k0_off6 (d0 : Dev nD) : Fin 3 → Nat :=
  let c0_289 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v349 : Index := Scalar.indexCast v344
  let c0_290 : Index := 0#32
  ![0, v349.toNat, 0]
def k0_off7 (d0 : Dev nD) : Fin 3 → Nat :=
  let c0_291 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v352 : Index := Scalar.indexCast v344
  let c4_292 : Index := 4#32
  ![0, v352.toNat, 4]
def k0_off8 (d0 : Dev nD) : Fin 3 → Nat :=
  let c0_293 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v355 : Index := Scalar.indexCast v344
  let c128_294 : Index := 128#32
  ![0, v355.toNat, 128]
def k0_off9 (d0 : Dev nD) : Fin 3 → Nat :=
  let c0_295 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v359 : Index := Scalar.indexCast v344
  let c1_296 : Index := 1#32
  ![0, v359.toNat, 1]
def k0_off10 (d0 : Dev nD) : Fin 3 → Nat :=
  let c0_297 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v362 : Index := Scalar.indexCast v344
  let c5_298 : Index := 5#32
  ![0, v362.toNat, 5]
def k0_off11 (d0 : Dev nD) : Fin 3 → Nat :=
  let c0_299 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v365 : Index := Scalar.indexCast v344
  let c256_300 : Index := 256#32
  ![0, v365.toNat, 256]
def k0_off12 (d0 : Dev nD) : Fin 3 → Nat :=
  let c0_301 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v369 : Index := Scalar.indexCast v344
  let c2_302 : Index := 2#32
  ![0, v369.toNat, 2]
def k0_off13 (d0 : Dev nD) : Fin 3 → Nat :=
  let c0_303 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v372 : Index := Scalar.indexCast v344
  let c6_304 : Index := 6#32
  ![0, v372.toNat, 6]
def k0_off14 (d0 : Dev nD) : Fin 3 → Nat :=
  let c0_305 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v375 : Index := Scalar.indexCast v344
  let c384_306 : Index := 384#32
  ![0, v375.toNat, 384]
def k0_off15 (d0 : Dev nD) : Fin 3 → Nat :=
  let c0_307 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v379 : Index := Scalar.indexCast v344
  let c3_308 : Index := 3#32
  ![0, v379.toNat, 3]
def k0_off16 (d0 : Dev nD) : Fin 3 → Nat :=
  let c0_309 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v382 : Index := Scalar.indexCast v344
  let c7_310 : Index := 7#32
  ![0, v382.toNat, 7]
def k0_off17 (d0 : Dev nD) : Fin 3 → Nat :=
  let c1_533 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v673 : Index := Scalar.indexCast v344
  let c0_534 : Index := 0#32
  ![1, v673.toNat, 0]
def k0_off18 (d0 : Dev nD) : Fin 3 → Nat :=
  let c1_535 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v677 : Index := Scalar.indexCast v344
  let c0_536 : Index := 0#32
  ![1, v677.toNat, 0]
def k0_off19 (d0 : Dev nD) : Fin 3 → Nat :=
  let c1_537 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v680 : Index := Scalar.indexCast v344
  let c4_538 : Index := 4#32
  ![1, v680.toNat, 4]
def k0_off20 (d0 : Dev nD) : Fin 3 → Nat :=
  let c1_539 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v683 : Index := Scalar.indexCast v344
  let c128_540 : Index := 128#32
  ![1, v683.toNat, 128]
def k0_off21 (d0 : Dev nD) : Fin 3 → Nat :=
  let c1_541 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v687 : Index := Scalar.indexCast v344
  let c1_542 : Index := 1#32
  ![1, v687.toNat, 1]
def k0_off22 (d0 : Dev nD) : Fin 3 → Nat :=
  let c1_543 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v690 : Index := Scalar.indexCast v344
  let c5_544 : Index := 5#32
  ![1, v690.toNat, 5]
def k0_off23 (d0 : Dev nD) : Fin 3 → Nat :=
  let c1_545 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v693 : Index := Scalar.indexCast v344
  let c256_546 : Index := 256#32
  ![1, v693.toNat, 256]
def k0_off24 (d0 : Dev nD) : Fin 3 → Nat :=
  let c1_547 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v697 : Index := Scalar.indexCast v344
  let c2_548 : Index := 2#32
  ![1, v697.toNat, 2]
def k0_off25 (d0 : Dev nD) : Fin 3 → Nat :=
  let c1_549 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v700 : Index := Scalar.indexCast v344
  let c6_550 : Index := 6#32
  ![1, v700.toNat, 6]
def k0_off26 (d0 : Dev nD) : Fin 3 → Nat :=
  let c1_551 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v703 : Index := Scalar.indexCast v344
  let c384_552 : Index := 384#32
  ![1, v703.toNat, 384]
def k0_off27 (d0 : Dev nD) : Fin 3 → Nat :=
  let c1_553 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v707 : Index := Scalar.indexCast v344
  let c3_554 : Index := 3#32
  ![1, v707.toNat, 3]
def k0_off28 (d0 : Dev nD) : Fin 3 → Nat :=
  let c1_555 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v710 : Index := Scalar.indexCast v344
  let c7_556 : Index := 7#32
  ![1, v710.toNat, 7]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let v1030 : Index := Scalar.indexCast v344
  let c0_782 : Index := 0#32
  ![v1030.toNat, 0]
def k0_off30 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_286 : BitVec 32 := 128#32
  let v344 : BitVec 32 := Scalar.muli v2 c128_i32_286
  let c0_i32_789 : BitVec 32 := 0#32
  ![v344.toNat, 0]
def k0_dev16 (d0 : Dev nD) : Nat :=
  let c0_i32_788 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_783 : BitVec 32 := 1#32
  let v1032 : BitVec 32 := Scalar.addi v2 c1_i32_783
  let c4_i32_784 : BitVec 32 := 4#32
  let v1033 : BitVec 32 := Scalar.remsi v1032 c4_i32_784
  let c1_i32_787 : BitVec 32 := 1#32
  let v1034 : BitVec 32 := Scalar.muli v1033 c1_i32_787
  let v1035 : BitVec 32 := Scalar.addi c0_i32_788 v1034
  v1035.toNat
def k0_dev17 (d0 : Dev nD) : Nat :=
  let c0_i32_796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_791 : BitVec 32 := 2#32
  let v1042 : BitVec 32 := Scalar.addi v2 c2_i32_791
  let c4_i32_792 : BitVec 32 := 4#32
  let v1043 : BitVec 32 := Scalar.remsi v1042 c4_i32_792
  let c1_i32_795 : BitVec 32 := 1#32
  let v1044 : BitVec 32 := Scalar.muli v1043 c1_i32_795
  let v1045 : BitVec 32 := Scalar.addi c0_i32_796 v1044
  v1045.toNat
def k0_dev18 (d0 : Dev nD) : Nat :=
  let c0_i32_804 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_799 : BitVec 32 := 3#32
  let v1052 : BitVec 32 := Scalar.addi v2 c3_i32_799
  let c4_i32_800 : BitVec 32 := 4#32
  let v1053 : BitVec 32 := Scalar.remsi v1052 c4_i32_800
  let c1_i32_803 : BitVec 32 := 1#32
  let v1054 : BitVec 32 := Scalar.muli v1053 c1_i32_803
  let v1055 : BitVec 32 := Scalar.addi c0_i32_804 v1054
  v1055.toNat
def k0_off31 (d0 : Dev nD) (c3_i32_807 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1062 : BitVec 32 := Scalar.addi v2 c3_i32_807
  let c4_i32_808 : BitVec 32 := 4#32
  let v1063 : BitVec 32 := Scalar.remsi v1062 c4_i32_808
  let c128_i32_809 : BitVec 32 := 128#32
  let v1064 : BitVec 32 := Scalar.muli v1063 c128_i32_809
  let c0_i32_814 : BitVec 32 := 0#32
  ![v1064.toNat, 0]
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x1024 : Shape := ⟨2, ![512, 1024]⟩
abbrev S1024x1024 : Shape := ⟨2, ![1024, 1024]⟩
abbrev S8192x256 : Shape := ⟨2, ![8192, 256]⟩
abbrev S512x8x128 : Shape := ⟨3, ![512, 8, 128]⟩
abbrev S8192x2x128 : Shape := ⟨3, ![8192, 2, 128]⟩
abbrev S8192x2x4x128 : Shape := ⟨4, ![8192, 2, 4, 128]⟩
abbrev S8192x8x128 : Shape := ⟨3, ![8192, 8, 128]⟩
abbrev S8x512x8192 : Shape := ⟨3, ![8, 512, 8192]⟩
abbrev S_ : Shape := ⟨0, ![]⟩
abbrev S8x512 : Shape := ⟨2, ![8, 512]⟩
abbrev S8x512x1 : Shape := ⟨3, ![8, 512, 1]⟩
abbrev S8x128x512 : Shape := ⟨3, ![8, 128, 512]⟩
abbrev S512x8x1 : Shape := ⟨3, ![512, 8, 1]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S1024x1024, .bf16⟩
  | .hbm, ⟨3, _⟩ => ⟨S8192x256, .bf16⟩
  | .hbm, ⟨4, _⟩ => ⟨S8192x256, .bf16⟩
  | .hbm, ⟨5, _⟩ => ⟨S512x1024, .f32⟩
  | .hbm, ⟨6, _⟩ => ⟨S1024x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x8x128, .f32⟩
  | .hbm, ⟨11, _⟩ => ⟨S8192x256, .f32⟩
  | .hbm, ⟨12, _⟩ => ⟨S8192x2x128, .f32⟩
  | .hbm, ⟨13, _⟩ => ⟨S8192x2x4x128, .f32⟩
  | .hbm, ⟨14, _⟩ => ⟨S8192x8x128, .f32⟩
  | .hbm, ⟨15, _⟩ => ⟨S8192x256, .f32⟩
  | .hbm, ⟨16, _⟩ => ⟨S8192x2x128, .f32⟩
  | .hbm, ⟨17, _⟩ => ⟨S8192x2x4x128, .f32⟩
  | .hbm, ⟨18, _⟩ => ⟨S8192x8x128, .f32⟩
  | .hbm, ⟨19, _⟩ => ⟨S8x512x8192, .f32⟩
  | .hbm, ⟨20, _⟩ => ⟨S8x512x8192, .bf16⟩
  | .hbm, ⟨21, _⟩ => ⟨S8x512x8192, .f32⟩
  | .hbm, ⟨22, _⟩ => ⟨S_, .f32⟩
  | .hbm, ⟨23, _⟩ => ⟨S8x512x8192, .f32⟩
  | .hbm, ⟨24, _⟩ => ⟨S8x512x8192, .f32⟩
  | .hbm, ⟨25, _⟩ => ⟨S_, .f32⟩
  | .hbm, ⟨26, _⟩ => ⟨S8x512, .f32⟩
  | .hbm, ⟨27, _⟩ => ⟨S8x512x1, .f32⟩
  | .hbm, ⟨28, _⟩ => ⟨S8x512x8192, .f32⟩
  | .hbm, ⟨29, _⟩ => ⟨S8x512x8192, .f32⟩
  | .hbm, ⟨30, _⟩ => ⟨S8x512x8192, .f32⟩
  | .hbm, ⟨31, _⟩ => ⟨S_, .f32⟩
  | .hbm, ⟨32, _⟩ => ⟨S8x512, .f32⟩
  | .hbm, ⟨33, _⟩ => ⟨S8x512x1, .f32⟩
  | .hbm, ⟨34, _⟩ => ⟨S8x128x512, .f32⟩
  | .hbm, ⟨35, _⟩ => ⟨S512x8x128, .f32⟩
  | .hbm, ⟨36, _⟩ => ⟨S512x8x1, .f32⟩
  | .hbm, ⟨37, _⟩ => ⟨S512x8x128, .f32⟩
  | .hbm, ⟨38, _⟩ => ⟨S512x8x128, .f32⟩
  | .hbm, ⟨39, _⟩ => ⟨S512x1024, .f32⟩
  | .hbm, ⟨40, _⟩ => ⟨S1024x1024, .f32⟩
  | .hbm, ⟨41, _⟩ => ⟨S512x1024, .f32⟩
  | .hbm, ⟨42, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Proof.KernelIdeal.Model.lean ====
/- What every device computes, as plain functions of the inputs: the scaled queries, one head's partial softmax over
   the device's own keys, what lies in the two local buffers and in the landing slots, the merge of the four partials
   row by row, and the result. -/
module

public import proofs.«01_k».proof.Proof.Gen.KernelIdeal
public import proofs.«01_k».proof.Proof.Gen.KernelIdeal.Skeleton
public import Idealize.ShloMosaic.Lib.ValueIdx
public import Idealize.ShloMosaic.Lib.ValueLayout

@[expose] public section

noncomputable section

namespace Cert.KernelIdeal.K

open Cert.KernelIdeal Cert.KernelIdeal.Gen
open Idealize.ShloMosaic Idealize.SL.Sem
open Idealize.ShloMosaic.ValueIdx

variable {F : FTy → Type} [FloatOps F]

/-- The five inputs as each device holds them. -/
structure Ins (F : FTy → Type) where
  x : Dev nD → Vec F S512x1024 .bf16
  wq : Dev nD → Vec F S1024x1024 .bf16
  wo : Dev nD → Vec F S1024x1024 .bf16
  k : Dev nD → Vec F S2048x256 .bf16
  v : Dev nD → Vec F S2048x256 .bf16

/-! Places in 128-wide groups: group `h`'s place `x`, and the group and place of an index. -/

def at4 (h : Fin 4) (x : Fin 128) : Fin 512 := ⟨128 * h.val + x.val, by omega⟩
def at2 (g : Fin 2) (x : Fin 128) : Fin 256 := ⟨128 * g.val + x.val, by omega⟩
def grp (x : Fin 512) : Fin 4 := ⟨x.val / 128, by omega⟩
def plc (x : Fin 512) : Fin 128 := ⟨x.val % 128, by omega⟩

/-- Column group `g` (128 columns) of a block of keys or values. -/
def cols (g : Fin 2) (X : Vec F S2048x256 .bf16) : Vec F S2048x128 .bf16 :=
  fun i => X (ix2 (i 0 : Fin 2048) (at2 g (i 1 : Fin 128)))

/-- Head `t`'s 128 columns of the queries. -/
def qHead (t : Fin 8) (q : FVec F S512x1024 .bf16) : FVec F S512x128 .bf16 :=
  match t with
  | 0 => extractStridedSlice S512x128 ![0, 0] q slices_S512x1024_o0_0_S512x128
  | 1 => extractStridedSlice S512x128 ![0, 128] q slices_S512x1024_o0_128_S512x128
  | 2 => extractStridedSlice S512x128 ![0, 256] q slices_S512x1024_o0_256_S512x128
  | 3 => extractStridedSlice S512x128 ![0, 384] q slices_S512x1024_o0_384_S512x128
  | 4 => extractStridedSlice S512x128 ![0, 512] q slices_S512x1024_o0_512_S512x128
  | 5 => extractStridedSlice S512x128 ![0, 640] q slices_S512x1024_o0_640_S512x128
  | 6 => extractStridedSlice S512x128 ![0, 768] q slices_S512x1024_o0_768_S512x128
  | 7 => extractStridedSlice S512x128 ![0, 896] q slices_S512x1024_o0_896_S512x128

/-- Query head `h` of key group `g`. -/
def hd (g : Fin 2) (h : Fin 4) : Fin 8 := ⟨4 * g.val + h.val, by omega⟩

/-! One head over one block of keys: scores, row maximum, weights, row sum, weighted values. -/

def sc (q : FVec F S512x128 .bf16) (kc : FVec F S2048x128 .bf16) : FVec F S512x2048 .f32 :=
  matmul dot_S512x128_S2048x128_S512x2048_1_1_0_0_n_n none q kc (constant S512x2048 .f32 0x00000000#32)
def rowMax (s : FVec F S512x2048 .f32) : FVec F S512x1 .f32 :=
  shapeCast S512x1 (multiReduction .maximumf [1] S512 s 0xFF800000#32 reduces_S512x2048_S512 (.inl rfl) rfl) shapeCasts_S512_S512x1
def wts (s : FVec F S512x2048 .f32) : FVec F S512x2048 .f32 :=
  exp (subf s (broadcastTo S512x2048 (rowMax s) broadcasts_S512x1_S512x2048))
def rowSum (s : FVec F S512x2048 .f32) : FVec F S512x1 .f32 :=
  shapeCast S512x1 (multiReduction .add [1] S512 (wts s) 0x00000000#32 reduces_S512x2048_S512 (.inl rfl) rfl) shapeCasts_S512_S512x1
def wvals (s : FVec F S512x2048 .f32) (vc : FVec F S2048x128 .bf16) : FVec F S512x128 .bf16 :=
  truncf .bf16 (matmul dot_S512x2048_S2048x128_S512x128_1_0_0_1_n_n none (truncf .bf16 (wts s) bitsLt_bf16_f32) vc
    (constant S512x128 .f32 0x00000000#32)) bitsLt_bf16_f32

variable (I : Ins F)

/-- A device's queries, scaled. -/
def qv (c : Dev nD) : FVec F S512x1024 .bf16 := k0_pay1 (I.x c) (I.wq c)
/-- A group's keys and values on a device, as the program holds them. -/
def kc (c : Dev nD) (g : Fin 2) : FVec F S2048x128 .bf16 := shapeCast S2048x128 (cols g (I.k c)) shapeCasts_S2048x128_S2048x128
def vc (c : Dev nD) (g : Fin 2) : FVec F S2048x128 .bf16 := shapeCast S2048x128 (cols g (I.v c)) shapeCasts_S2048x128_S2048x128

/-- The scores, maxima, sums and weighted values of device `c` for head `h` of group `g`, all 512 rows. -/
def hS (c : Dev nD) (g : Fin 2) (h : Fin 4) : FVec F S512x2048 .f32 := sc (qHead (hd g h) (qv I c)) (kc I c g)
def hM (c : Dev nD) (g : Fin 2) (h : Fin 4) : FVec F S512x1 .f32 := rowMax (hS I c g h)
def hL (c : Dev nD) (g : Fin 2) (h : Fin 4) : FVec F S512x1 .f32 := rowSum (hS I c g h)
def hO (c : Dev nD) (g : Fin 2) (h : Fin 4) : FVec F S512x128 .bf16 := wvals (hS I c g h) (vc I c g)

/-- The whole contents of the buffer of weighted values: group, row, then head and column. -/
def oC (c : Dev nD) : Vec F S2x512x512 .bf16 := fun i =>
  hO I c (i 0 : Fin 2) (grp (i 2 : Fin 512))
    (ix2 (i 1 : Fin 512) (plc (i 2 : Fin 512)))
/-- The whole contents of the buffer of maxima (columns 0..3) and sums (columns 4..7). -/
def mC (c : Dev nD) : Vec F S2x512x8 .f32 := fun i =>
  if (i 2 : Fin 8).val < 4 then
    hM I c (i 0 : Fin 2) (⟨(i 2 : Fin 8).val % 4, Nat.mod_lt _ (by decide)⟩ : Fin 4) (ix2 (i 1 : Fin 512) (0 : Fin 1))
  else
    hL I c (i 0 : Fin 2) (⟨(i 2 : Fin 8).val % 4, Nat.mod_lt _ (by decide)⟩ : Fin 4) (ix2 (i 1 : Fin 512) (0 : Fin 1))

/-- Row `r` of row block `b`. -/
abbrev rowOf (b : Dev nD) (r : Fin 128) : Fin 512 := at4 b r
/-- The device `j` places after `c`. -/
def aft (c : Dev nD) (j : Fin 4) : Dev nD := ⟨(c.val + j.val) % 4, Nat.mod_lt _ (by decide)⟩

/-- The landing slots on device `c`: slot `j` holds row block `c` of the buffers of the device `j` places after. -/
def oS (c : Dev nD) : Vec F S2x4x128x512 .bf16 := fun i =>
  oC I (aft c (i 1 : Fin 4)) (ix3 (i 0 : Fin 2) (rowOf c (i 2 : Fin 128)) (i 3 : Fin 512))
def mS (c : Dev nD) : Vec F S2x4x128x8 .f32 := fun i =>
  mC I (aft c (i 1 : Fin 4)) (ix3 (i 0 : Fin 2) (rowOf c (i 2 : Fin 128)) (i 3 : Fin 8))

/-! What the loads of the own block and of a slot give. -/

def ldO (c : Dev nD) (g : Fin 2) (h : Fin 4) : Vec F S1x128x128 .bf16 := fun i =>
  oC I c (ix3 g (rowOf c (i 1 : Fin 128)) (at4 h (i 2 : Fin 128)))
def ldM (c : Dev nD) (g : Fin 2) (k : Fin 8) : Vec F S1x128x1 .f32 := fun i =>
  mC I c (ix3 g (rowOf c (i 1 : Fin 128)) k)
def slO (c : Dev nD) (g : Fin 2) (j h : Fin 4) : Vec F S1x1x128x128 .bf16 := fun i =>
  oS I c (ix4 g j (i 2 : Fin 128) (at4 h (i 3 : Fin 128)))
def slM (c : Dev nD) (g : Fin 2) (j : Fin 4) (k : Fin 8) : Vec F S1x1x128x1 .f32 := fun i =>
  mS I c (ix4 g j (i 2 : Fin 128) k)

/-- The columns of head `h`'s maximum and sum. -/
def cm (h : Fin 4) : Fin 8 := ⟨h.val, by omega⟩
def cl (h : Fin 4) : Fin 8 := ⟨4 + h.val, by omega⟩

/-! The running maximum, values and sum: the own partial, then slots 1, 2, 3 merged in. -/

def slMx (c : Dev nD) (g : Fin 2) (j h : Fin 4) : FVec F S128x1 .f32 := shapeCast S128x1 (slM I c g j (cm h)) shapeCasts_S1x1x128x1_S128x1
def slSm (c : Dev nD) (g : Fin 2) (j h : Fin 4) : FVec F S128x1 .f32 := shapeCast S128x1 (slM I c g j (cl h)) shapeCasts_S1x1x128x1_S128x1
def slVl (c : Dev nD) (g : Fin 2) (j h : Fin 4) : FVec F S128x128 .f32 :=
  extf .f32 (shapeCast S128x128 (slO I c g j h) shapeCasts_S1x1x128x128_S128x128) bitsLt_bf16_f32

def Mx (c : Dev nD) (g : Fin 2) (h : Fin 4) : Fin 4 → FVec F S128x1 .f32
  | 0 => shapeCast S128x1 (ldM I c g (cm h)) shapeCasts_S1x128x1_S128x1
  | 1 => maximumf (shapeCast S128x1 (ldM I c g (cm h)) shapeCasts_S1x128x1_S128x1) (slMx I c g 1 h)
  | 2 => maximumf (maximumf (shapeCast S128x1 (ldM I c g (cm h)) shapeCasts_S1x128x1_S128x1) (slMx I c g 1 h)) (slMx I c g 2 h)
  | 3 => maximumf (maximumf (maximumf (shapeCast S128x1 (ldM I c g (cm h)) shapeCasts_S1x128x1_S128x1) (slMx I c g 1 h)) (slMx I c g 2 h))
      (slMx I c g 3 h)

/-- The values after a merge: the old ones and the slot's, each scaled to the new maximum. -/
def mergeO (M M' m : FVec F S128x1 .f32) (O o : FVec F S128x128 .f32) : FVec F S128x128 .f32 :=
  addf (mulf O (broadcastTo S128x128 (exp (subf M M')) broadcasts_S128x1_S128x128))
    (mulf o (broadcastTo S128x128 (exp (subf m M')) broadcasts_S128x1_S128x128))
def mergeL (M M' m L l : FVec F S128x1 .f32) : FVec F S128x1 .f32 :=
  addf (mulf L (exp (subf M M'))) (mulf l (exp (subf m M')))

def Vl (c : Dev nD) (g : Fin 2) (h : Fin 4) : Fin 4 → FVec F S128x128 .f32
  | 0 => extf .f32 (shapeCast S128x128 (ldO I c g h) shapeCasts_S1x128x128_S128x128) bitsLt_bf16_f32
  | 1 => mergeO (Mx I c g h 0) (Mx I c g h 1) (slMx I c g 1 h)
      (extf .f32 (shapeCast S128x128 (ldO I c g h) shapeCasts_S1x128x128_S128x128) bitsLt_bf16_f32) (slVl I c g 1 h)
  | 2 => mergeO (Mx I c g h 1) (Mx I c g h 2) (slMx I c g 2 h)
      (mergeO (Mx I c g h 0) (Mx I c g h 1) (slMx I c g 1 h)
        (extf .f32 (shapeCast S128x128 (ldO I c g h) shapeCasts_S1x128x128_S128x128) bitsLt_bf16_f32) (slVl I c g 1 h)) (slVl I c g 2 h)
  | 3 => mergeO (Mx I c g h 2) (Mx I c g h 3) (slMx I c g 3 h)
      (mergeO (Mx I c g h 1) (Mx I c g h 2) (slMx I c g 2 h)
        (mergeO (Mx I c g h 0) (Mx I c g h 1) (slMx I c g 1 h)
          (extf .f32 (shapeCast S128x128 (ldO I c g h) shapeCasts_S1x128x128_S128x128) bitsLt_bf16_f32) (slVl I c g 1 h)) (slVl I c g 2 h))
      (slVl I c g 3 h)

def Sm (c : Dev nD) (g : Fin 2) (h : Fin 4) : Fin 4 → FVec F S128x1 .f32
  | 0 => shapeCast S128x1 (ldM I c g (cl h)) shapeCasts_S1x128x1_S128x1
  | 1 => mergeL (Mx I c g h 0) (Mx I c g h 1) (slMx I c g 1 h)
      (shapeCast S128x1 (ldM I c g (cl h)) shapeCasts_S1x128x1_S128x1) (slSm I c g 1 h)
  | 2 => mergeL (Mx I c g h 1) (Mx I c g h 2) (slMx I c g 2 h)
      (mergeL (Mx I c g h 0) (Mx I c g h 1) (slMx I c g 1 h)
        (shapeCast S128x1 (ldM I c g (cl h)) shapeCasts_S1x128x1_S128x1) (slSm I c g 1 h)) (slSm I c g 2 h)
  | 3 => mergeL (Mx I c g h 2) (Mx I c g h 3) (slMx I c g 3 h)
      (mergeL (Mx I c g h 1) (Mx I c g h 2) (slMx I c g 2 h)
        (mergeL (Mx I c g h 0) (Mx I c g h 1) (slMx I c g 1 h)
          (shapeCast S128x1 (ldM I c g (cl h)) shapeCasts_S1x128x1_S128x1) (slSm I c g 1 h)) (slSm I c g 2 h)) (slSm I c g 3 h)

theorem Mx_zero (c : Dev nD) (g : Fin 2) (h : Fin 4) : Mx I c g h 0 = shapeCast S128x1 (ldM I c g (cm h)) shapeCasts_S1x128x1_S128x1 := rfl
theorem Mx_one (c : Dev nD) (g : Fin 2) (h : Fin 4) : Mx I c g h 1 = maximumf (Mx I c g h 0) (slMx I c g 1 h) := rfl
theorem Mx_two (c : Dev nD) (g : Fin 2) (h : Fin 4) : Mx I c g h 2 = maximumf (Mx I c g h 1) (slMx I c g 2 h) := rfl
theorem Mx_three (c : Dev nD) (g : Fin 2) (h : Fin 4) : Mx I c g h 3 = maximumf (Mx I c g h 2) (slMx I c g 3 h) := rfl
theorem Vl_zero (c : Dev nD) (g : Fin 2) (h : Fin 4) : Vl I c g h 0 = extf .f32 (shapeCast S128x128 (ldO I c g h) shapeCasts_S1x128x128_S128x128) bitsLt_bf16_f32 := rfl
theorem Vl_one (c : Dev nD) (g : Fin 2) (h : Fin 4) :
    Vl I c g h 1 = mergeO (Mx I c g h 0) (Mx I c g h 1) (slMx I c g 1 h) (Vl I c g h 0) (slVl I c g 1 h) := rfl
theorem Vl_two (c : Dev nD) (g : Fin 2) (h : Fin 4) :
    Vl I c g h 2 = mergeO (Mx I c g h 1) (Mx I c g h 2) (slMx I c g 2 h) (Vl I c g h 1) (slVl I c g 2 h) := rfl
theorem Vl_three (c : Dev nD) (g : Fin 2) (h : Fin 4) :
    Vl I c g h 3 = mergeO (Mx I c g h 2) (Mx I c g h 3) (slMx I c g 3 h) (Vl I c g h 2) (slVl I c g 3 h) := rfl
theorem Sm_zero (c : Dev nD) (g : Fin 2) (h : Fin 4) : Sm I c g h 0 = shapeCast S128x1 (ldM I c g (cl h)) shapeCasts_S1x128x1_S128x1 := rfl
theorem Sm_one (c : Dev nD) (g : Fin 2) (h : Fin 4) :
    Sm I c g h 1 = mergeL (Mx I c g h 0) (Mx I c g h 1) (slMx I c g 1 h) (Sm I c g h 0) (slSm I c g 1 h) := rfl
theorem Sm_two (c : Dev nD) (g : Fin 2) (h : Fin 4) :
    Sm I c g h 2 = mergeL (Mx I c g h 1) (Mx I c g h 2) (slMx I c g 2 h) (Sm I c g h 1) (slSm I c g 2 h) := rfl
theorem Sm_three (c : Dev nD) (g : Fin 2) (h : Fin 4) :
    Sm I c g h 3 = mergeL (Mx I c g h 2) (Mx I c g h 3) (slMx I c g 3 h) (Sm I c g h 2) (slSm I c g 3 h) := rfl

/-- One head's result on the device's row block, the division done. -/
def quot (c : Dev nD) (g : Fin 2) (h : Fin 4) : FVec F S128x128 .f32 :=
  divf (Vl I c g h 3) (broadcastTo S128x128 (Sm I c g h 3) broadcasts_S128x1_S128x128)

/-- The device's finished row block. -/
def fin (c : Dev nD) : FVec F S128x1024 .bf16 :=
  k0_pay242 (Vl I c 0 3 3) (Sm I c 0 3 3) (Vl I c 1 0 3) (Sm I c 1 0 3) (Vl I c 1 1 3) (Sm I c 1 1 3) (Vl I c 1 2 3) (Sm I c 1 2 3)
    (Vl I c 1 3 3) (Sm I c 1 3 3) (truncf .bf16 (quot I c 0 0) bitsLt_bf16_f32) (truncf .bf16 (quot I c 0 1) bitsLt_bf16_f32)
    (quot I c 0 2) (I.wo c)

/-- The whole result, the same on every device: row block `b` is device `b`'s. -/
def outC : Vec F S512x1024 .bf16 := fun i =>
  fin I (grp (i 0 : Fin 512) : Dev nD)
    (ix2 (plc (i 0 : Fin 512)) (i 1 : Fin 1024))

end Cert.KernelIdeal.K
-- ==== Proof.KernelIdeal.Views.lean ====
/- The pieces of the buffers the devices hold and hand over, and what a load, a store or a copy through the program's
   views does to them. -/
module

public import proofs.«01_k».proof.Proof.KernelIdeal.Model
public import proofs.«01_k».proof.Proof.Gen.KernelIdeal.Launch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! The buffers. -/

abbrev B0 : Memref sig .tc .vmem S512x1024 .bf16 := Memref.whole cc0_stg0_0
abbrev B1 : Memref sig .tc .vmem S1024x1024 .bf16 := Memref.whole cc0_stg1_0
abbrev B2 : Memref sig .tc .vmem S1024x1024 .bf16 := Memref.whole cc0_stg2_0
abbrev B3 : Memref sig .tc .vmem S2048x256 .bf16 := Memref.whole cc0_stg3_0
abbrev B4 : Memref sig .tc .vmem S2048x256 .bf16 := Memref.whole cc0_stg4_0
abbrev B5 : Memref sig .tc .vmem S512x1024 .bf16 := Memref.whole cc0_stg5_0
abbrev B6 : Memref sig .tc .vmem S2x512x512 .bf16 := Memref.whole cc0_scratch0
abbrev B7 : Memref sig .tc .vmem S2x512x8 .f32 := Memref.whole cc0_scratch1
abbrev B8 : Memref sig .tc .vmem S2x4x128x512 .bf16 := Memref.whole cc0_scratch2
abbrev B9 : Memref sig .tc .vmem S2x4x128x8 .f32 := Memref.whole cc0_scratch3

/-! Pieces: a set of places of one buffer on one device, at contents given for the whole buffer. -/

def p0 (c : Dev nD) (f : Vec F S512x1024 .bf16) : sProp 𝕄 := B0.view.loc (c : Thread nD τ) ↦{fullShare} f
def p1 (c : Dev nD) (f : Vec F S1024x1024 .bf16) : sProp 𝕄 := B1.view.loc (c : Thread nD τ) ↦{fullShare} f
def p2 (c : Dev nD) (f : Vec F S1024x1024 .bf16) : sProp 𝕄 := B2.view.loc (c : Thread nD τ) ↦{fullShare} f
def p3 (c : Dev nD) (f : Vec F S2048x256 .bf16) : sProp 𝕄 := B3.view.loc (c : Thread nD τ) ↦{fullShare} f
def p4 (c : Dev nD) (f : Vec F S2048x256 .bf16) : sProp 𝕄 := B4.view.loc (c : Thread nD τ) ↦{fullShare} f
def p5 (c : Dev nD) (S : Finset S512x1024.Idx) (q : PosShare TreeShare) (f : Vec F S512x1024 .bf16) : sProp 𝕄 :=
  B5.view.loc (c : Thread nD τ) ↦[S]{q} f
def p6 (c : Dev nD) (S : Finset S2x512x512.Idx) (f : Vec F S2x512x512 .bf16) : sProp 𝕄 :=
  B6.view.loc (c : Thread nD τ) ↦[S]{fullShare} f
def p7 (c : Dev nD) (S : Finset S2x512x8.Idx) (f : Vec F S2x512x8 .f32) : sProp 𝕄 :=
  B7.view.loc (c : Thread nD τ) ↦[S]{fullShare} f
def p8 (c : Dev nD) (S : Finset S2x4x128x512.Idx) (f : Vec F S2x4x128x512 .bf16) : sProp 𝕄 :=
  B8.view.loc (c : Thread nD τ) ↦[S]{fullShare} f
def p9 (c : Dev nD) (S : Finset S2x4x128x8.Idx) (f : Vec F S2x4x128x8 .f32) : sProp 𝕄 :=
  B9.view.loc (c : Thread nD τ) ↦[S]{fullShare} f

section Stor
omit [FloatOps F]
instance (c : Dev nD) (S q) (f : Vec F S512x1024 .bf16) : BI.Storable (upEmb : UEmb _ 𝕄) (p5 c S q f) := by unfold p5; infer_instance
instance (c : Dev nD) (S) (f : Vec F S2x512x512 .bf16) : BI.Storable (upEmb : UEmb _ 𝕄) (p6 c S f) := by unfold p6; infer_instance
instance (c : Dev nD) (S) (f : Vec F S2x512x8 .f32) : BI.Storable (upEmb : UEmb _ 𝕄) (p7 c S f) := by unfold p7; infer_instance
instance (c : Dev nD) (S) (f : Vec F S2x4x128x512 .bf16) : BI.Storable (upEmb : UEmb _ 𝕄) (p8 c S f) := by unfold p8; infer_instance
instance (c : Dev nD) (S) (f : Vec F S2x4x128x8 .f32) : BI.Storable (upEmb : UEmb _ 𝕄) (p9 c S f) := by unfold p9; infer_instance
end Stor

/-! The sets of places. -/

def oStrip (g : Fin 2) (h : Fin 4) : Finset S2x512x512.Idx :=
  Finset.univ.filter fun i => (i 0).val = g.val ∧ 128 * h.val ≤ (i 2).val ∧ (i 2).val < 128 * h.val + 128
def oRows (g : Fin 2) (b : Dev nD) : Finset S2x512x512.Idx :=
  Finset.univ.filter fun i => (i 0).val = g.val ∧ 128 * b.val ≤ (i 1).val ∧ (i 1).val < 128 * b.val + 128
def mStrip (g : Fin 2) (k : Fin 8) : Finset S2x512x8.Idx :=
  Finset.univ.filter fun i => (i 0).val = g.val ∧ (i 2).val = k.val
def mRows (g : Fin 2) (b : Dev nD) : Finset S2x512x8.Idx :=
  Finset.univ.filter fun i => (i 0).val = g.val ∧ 128 * b.val ≤ (i 1).val ∧ (i 1).val < 128 * b.val + 128
def oSlot (g : Fin 2) (j : Fin 4) : Finset S2x4x128x512.Idx :=
  Finset.univ.filter fun i => (i 0).val = g.val ∧ (i 1).val = j.val
def mSlot (g : Fin 2) (j : Fin 4) : Finset S2x4x128x8.Idx :=
  Finset.univ.filter fun i => (i 0).val = g.val ∧ (i 1).val = j.val
def uRows (b : Dev nD) : Finset S512x1024.Idx :=
  Finset.univ.filter fun i => 128 * b.val ≤ (i 0).val ∧ (i 0).val < 128 * b.val + 128

theorem mem_oStrip (g h i) : i ∈ oStrip g h ↔ (i 0).val = g.val ∧ 128 * h.val ≤ (i 2).val ∧ (i 2).val < 128 * h.val + 128 := by simp [oStrip]
theorem mem_oRows (g b i) : i ∈ oRows g b ↔ (i 0).val = g.val ∧ 128 * b.val ≤ (i 1).val ∧ (i 1).val < 128 * b.val + 128 := by simp [oRows]
theorem mem_mStrip (g k i) : i ∈ mStrip g k ↔ (i 0).val = g.val ∧ (i 2).val = k.val := by simp [mStrip]
theorem mem_mRows (g b i) : i ∈ mRows g b ↔ (i 0).val = g.val ∧ 128 * b.val ≤ (i 1).val ∧ (i 1).val < 128 * b.val + 128 := by simp [mRows]
theorem mem_oSlot (g j i) : i ∈ oSlot g j ↔ (i 0).val = g.val ∧ (i 1).val = j.val := by simp [oSlot]
theorem mem_mSlot (g j i) : i ∈ mSlot g j ↔ (i 0).val = g.val ∧ (i 1).val = j.val := by simp [mSlot]
theorem mem_uRows (b i) : i ∈ uRows b ↔ 128 * b.val ≤ (i 0).val ∧ (i 0).val < 128 * b.val + 128 := by simp [uRows]

/-! Views of whole buffers. -/

theorem whole_setOn (b : Ref sig .tc) (S : Finset b.ty.shape.Idx) : (Memref.whole b).view.setOn S = S := by
  ext i
  simp only [View.setOn, Finset.mem_map]
  exact ⟨fun ⟨a, ha, hi⟩ => hi ▸ ha, fun hi => ⟨i, hi, rfl⟩⟩

/-- A unit-stride box is the set of places within its bounds. -/
theorem unit_set {s : Shape} {off size : Fin s.rank → Nat} {inb} (S : Finset s.Idx)
    (h : ∀ i : s.Idx, i ∈ S ↔ ∀ a, off a ≤ (i a).val ∧ (i a).val < off a + size a) : (Rect.unit (s := s) off size inb).set = S := by
  ext i; rw [Rect.mem_set_unit, h]

end Cert.KernelIdeal.K
-- ==== Proof.KernelIdeal.Steps.lean ====
/- One rule per kind of load and store of the body, over the pieces. -/
module

public import proofs.«01_k».proof.Proof.KernelIdeal.Views

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- A device's program run at its own thread. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (I : Ins F)

section Loads
variable (c : Dev nD) {α : Type}

theorem forall2 {p : Fin 2 → Prop} (h0 : p 0) (h1 : p 1) : ∀ a, p a := fun a => by fin_cases a <;> assumption
theorem forall3 {p : Fin 3 → Prop} (h0 : p 0) (h1 : p 1) (h2 : p 2) : ∀ a, p a := fun a => by fin_cases a <;> assumption
theorem forall4 {p : Fin 4 → Prop} (h0 : p 0) (h1 : p 1) (h2 : p 2) (h3 : p 3) : ∀ a, p a := fun a => by fin_cases a <;> assumption

/-- A load of a whole input. -/
theorem ld_x {inb hl}
    {Q : α → sProp 𝕄} {k : Vec F S512x1024 .bf16 → Prog (TpuEff nD τ sig (Elt F) Λ₀ .tc) α} (f : Vec F S512x1024 .bf16) :
    p0 c f ⊢ iprop((p0 c f -∗ WP c (k (f)) Q)
      -∗ WP c (.op (.load B0 (Rect.unit (s := S512x1024) ![0, 0] S512x1024.size inb).toLoadRect hl) k) Q) := by
  have key : ∀ w, B0.view.readAt (Elt F) (Rect.unit (s := S512x1024) ![0, 0] S512x1024.size inb).toLoadRect (f) = w →
      (p0 c f ⊢ iprop((p0 c f -∗ WP c (k w) Q)
        -∗ WP c (.op (.load B0 (Rect.unit (s := S512x1024) ![0, 0] S512x1024.size inb).toLoadRect hl) k) Q)) := by
    rintro _ rfl
    unfold p0
    exact wp_load 𝒱₀ (c : Thread nD τ) none Set.univ (m := B0) (Finset.subset_univ _)
  exact key _ (Memref.readAt_unit_zero (Elt F) cc0_stg0_0 (by funext a; fin_cases a <;> rfl) _ f)

/-- A load of a whole input. -/
theorem ld_wq {inb hl}
    {Q : α → sProp 𝕄} {k : Vec F S1024x1024 .bf16 → Prog (TpuEff nD τ sig (Elt F) Λ₀ .tc) α} (f : Vec F S1024x1024 .bf16) :
    p1 c f ⊢ iprop((p1 c f -∗ WP c (k (f)) Q)
      -∗ WP c (.op (.load B1 (Rect.unit (s := S1024x1024) ![0, 0] S1024x1024.size inb).toLoadRect hl) k) Q) := by
  have key : ∀ w, B1.view.readAt (Elt F) (Rect.unit (s := S1024x1024) ![0, 0] S1024x1024.size inb).toLoadRect (f) = w →
      (p1 c f ⊢ iprop((p1 c f -∗ WP c (k w) Q)
        -∗ WP c (.op (.load B1 (Rect.unit (s := S1024x1024) ![0, 0] S1024x1024.size inb).toLoadRect hl) k) Q)) := by
    rintro _ rfl
    unfold p1
    exact wp_load 𝒱₀ (c : Thread nD τ) none Set.univ (m := B1) (Finset.subset_univ _)
  exact key _ (Memref.readAt_unit_zero (Elt F) cc0_stg1_0 (by funext a; fin_cases a <;> rfl) _ f)

/-- A load of a whole input. -/
theorem ld_wo {inb hl}
    {Q : α → sProp 𝕄} {k : Vec F S1024x1024 .bf16 → Prog (TpuEff nD τ sig (Elt F) Λ₀ .tc) α} (f : Vec F S1024x1024 .bf16) :
    p2 c f ⊢ iprop((p2 c f -∗ WP c (k (f)) Q)
      -∗ WP c (.op (.load B2 (Rect.unit (s := S1024x1024) ![0, 0] S1024x1024.size inb).toLoadRect hl) k) Q) := by
  have key : ∀ w, B2.view.readAt (Elt F) (Rect.unit (s := S1024x1024) ![0, 0] S1024x1024.size inb).toLoadRect (f) = w →
      (p2 c f ⊢ iprop((p2 c f -∗ WP c (k w) Q)
        -∗ WP c (.op (.load B2 (Rect.unit (s := S1024x1024) ![0, 0] S1024x1024.size inb).toLoadRect hl) k) Q)) := by
    rintro _ rfl
    unfold p2
    exact wp_load 𝒱₀ (c : Thread nD τ) none Set.univ (m := B2) (Finset.subset_univ _)
  exact key _ (Memref.readAt_unit_zero (Elt F) cc0_stg2_0 (by funext a; fin_cases a <;> rfl) _ f)

/-- A load of one group's columns. -/
theorem ld_k (g : Fin 2) {off inb hl} (ho : off = ![0, 128 * g.val])
    {Q : α → sProp 𝕄} {k : Vec F S2048x128 .bf16 → Prog (TpuEff nD τ sig (Elt F) Λ₀ .tc) α} (f : Vec F S2048x256 .bf16) :
    p3 c f ⊢ iprop((p3 c f -∗ WP c (k (cols g f)) Q)
      -∗ WP c (.op (.load B3 (Rect.unit (s := S2048x256) off S2048x128.size inb).toLoadRect hl) k) Q) := by
  subst ho
  have key : ∀ w, B3.view.readAt (Elt F) (Rect.unit (s := S2048x256) ![0, 128 * g.val] S2048x128.size inb).toLoadRect (f) = w →
      (p3 c f ⊢ iprop((p3 c f -∗ WP c (k w) Q)
        -∗ WP c (.op (.load B3 (Rect.unit (s := S2048x256) ![0, 128 * g.val] S2048x128.size inb).toLoadRect hl) k) Q)) := by
    rintro _ rfl
    unfold p3
    exact wp_load 𝒱₀ (c : Thread nD τ) none Set.univ (m := B3) (Finset.subset_univ _)
  exact key _ (funext fun i => congrArg f (funext fun a => Fin.ext (by show (Rect.emb _ i a).val = _; revert a; refine forall2 ?_ ?_ <;> simp [Rect.emb_apply, ix2, at2])))

/-- A load of one group's columns. -/
theorem ld_v (g : Fin 2) {off inb hl} (ho : off = ![0, 128 * g.val])
    {Q : α → sProp 𝕄} {k : Vec F S2048x128 .bf16 → Prog (TpuEff nD τ sig (Elt F) Λ₀ .tc) α} (f : Vec F S2048x256 .bf16) :
    p4 c f ⊢ iprop((p4 c f -∗ WP c (k (cols g f)) Q)
      -∗ WP c (.op (.load B4 (Rect.unit (s := S2048x256) off S2048x128.size inb).toLoadRect hl) k) Q) := by
  subst ho
  have key : ∀ w, B4.view.readAt (Elt F) (Rect.unit (s := S2048x256) ![0, 128 * g.val] S2048x128.size inb).toLoadRect (f) = w →
      (p4 c f ⊢ iprop((p4 c f -∗ WP c (k w) Q)
        -∗ WP c (.op (.load B4 (Rect.unit (s := S2048x256) ![0, 128 * g.val] S2048x128.size inb).toLoadRect hl) k) Q)) := by
    rintro _ rfl
    unfold p4
    exact wp_load 𝒱₀ (c : Thread nD τ) none Set.univ (m := B4) (Finset.subset_univ _)
  exact key _ (funext fun i => congrArg f (funext fun a => Fin.ext (by show (Rect.emb _ i a).val = _; revert a; refine forall2 ?_ ?_ <;> simp [Rect.emb_apply, ix2, at2])))

/-- A load of a head's columns of the own row block of the weighted values. -/
theorem ld_own (g : Fin 2) (h : Fin 4) {off inb hl} (ho : off = ![g.val, 128 * c.val, 128 * h.val])
    {Q : α → sProp 𝕄} {k : Vec F S1x128x128 .bf16 → Prog (TpuEff nD τ sig (Elt F) Λ₀ .tc) α} :
    p6 c (oRows g c) (oC I c) ⊢ iprop((p6 c (oRows g c) (oC I c) -∗ WP c (k (ldO I c g h)) Q)
      -∗ WP c (.op (.load B6 (Rect.unit (s := S2x512x512) off S1x128x128.size inb).toLoadRect hl) k) Q) := by
  subst ho
  have key : ∀ w, B6.view.readAt (Elt F) (Rect.unit (s := S2x512x512) ![g.val, 128 * c.val, 128 * h.val] S1x128x128.size inb).toLoadRect (oC I c) = w →
      (p6 c (oRows g c) (oC I c) ⊢ iprop((p6 c (oRows g c) (oC I c) -∗ WP c (k w) Q)
        -∗ WP c (.op (.load B6 (Rect.unit (s := S2x512x512) ![g.val, 128 * c.val, 128 * h.val] S1x128x128.size inb).toLoadRect hl) k) Q)) := by
    rintro _ rfl
    unfold p6
    exact wp_load 𝒱₀ (c : Thread nD τ) none Set.univ (m := B6) (fun i hi => by
      rw [whole_setOn] at hi
      have hh := Rect.mem_set_unit.mp hi
      have h0 := hh 0; have h1 := hh 1
      simp at h0 h1
      rw [mem_oRows]; omega)
  exact key _ (funext fun i => congrArg (oC I c) (funext fun a => Fin.ext (by
    have hz : (i 0).val = 0 := by have := (i 0).isLt; simp at this; omega
    show (Rect.emb _ i a).val = _
    revert a; refine forall3 ?_ ?_ ?_ <;> simp [Rect.emb_apply, ix3, at4, hz] <;> rfl)))

/-- A load of one column of the own row block of the maxima and sums. -/
theorem ld_ml (g : Fin 2) (h : Fin 8) {off inb hl} (ho : off = ![g.val, 128 * c.val, h.val])
    {Q : α → sProp 𝕄} {k : Vec F S1x128x1 .f32 → Prog (TpuEff nD τ sig (Elt F) Λ₀ .tc) α} :
    p7 c (mRows g c) (mC I c) ⊢ iprop((p7 c (mRows g c) (mC I c) -∗ WP c (k (ldM I c g h)) Q)
      -∗ WP c (.op (.load B7 (Rect.unit (s := S2x512x8) off S1x128x1.size inb).toLoadRect hl) k) Q) := by
  subst ho
  have key : ∀ w, B7.view.readAt (Elt F) (Rect.unit (s := S2x512x8) ![g.val, 128 * c.val, h.val] S1x128x1.size inb).toLoadRect (mC I c) = w →
      (p7 c (mRows g c) (mC I c) ⊢ iprop((p7 c (mRows g c) (mC I c) -∗ WP c (k w) Q)
        -∗ WP c (.op (.load B7 (Rect.unit (s := S2x512x8) ![g.val, 128 * c.val, h.val] S1x128x1.size inb).toLoadRect hl) k) Q)) := by
    rintro _ rfl
    unfold p7
    exact wp_load 𝒱₀ (c : Thread nD τ) none Set.univ (m := B7) (fun i hi => by
      rw [whole_setOn] at hi
      have hh := Rect.mem_set_unit.mp hi
      have h0 := hh 0; have h1 := hh 1
      simp at h0 h1
      rw [mem_mRows]; omega)
  exact key _ (funext fun i => congrArg (mC I c) (funext fun a => Fin.ext (by
    have hz : (i 0).val = 0 := by have := (i 0).isLt; simp at this; omega
    have hz2 : (i 2).val = 0 := by have := (i 2).isLt; simp at this; omega
    show (Rect.emb _ i a).val = _
    revert a; refine forall3 ?_ ?_ ?_ <;> simp [Rect.emb_apply, ix3, at4, hz, hz2] <;> rfl)))

/-- A load of a head's columns of a landing slot of weighted values. -/
theorem ld_so (g : Fin 2) (j h : Fin 4) {off inb hl} (ho : off = ![g.val, j.val, 0, 128 * h.val])
    {Q : α → sProp 𝕄} {k : Vec F S1x1x128x128 .bf16 → Prog (TpuEff nD τ sig (Elt F) Λ₀ .tc) α} :
    p8 c (oSlot g j) (oS I c) ⊢ iprop((p8 c (oSlot g j) (oS I c) -∗ WP c (k (slO I c g j h)) Q)
      -∗ WP c (.op (.load B8 (Rect.unit (s := S2x4x128x512) off S1x1x128x128.size inb).toLoadRect hl) k) Q) := by
  subst ho
  have key : ∀ w, B8.view.readAt (Elt F) (Rect.unit (s := S2x4x128x512) ![g.val, j.val, 0, 128 * h.val] S1x1x128x128.size inb).toLoadRect (oS I c) = w →
      (p8 c (oSlot g j) (oS I c) ⊢ iprop((p8 c (oSlot g j) (oS I c) -∗ WP c (k w) Q)
        -∗ WP c (.op (.load B8 (Rect.unit (s := S2x4x128x512) ![g.val, j.val, 0, 128 * h.val] S1x1x128x128.size inb).toLoadRect hl) k) Q)) := by
    rintro _ rfl
    unfold p8
    exact wp_load 𝒱₀ (c : Thread nD τ) none Set.univ (m := B8) (fun i hi => by
      rw [whole_setOn] at hi
      have hh := Rect.mem_set_unit.mp hi
      have h0 := hh 0; have h1 := hh 1
      simp at h0 h1
      rw [mem_oSlot]; omega)
  exact key _ (funext fun i => congrArg (oS I c) (funext fun a => Fin.ext (by
    have hz : (i 0).val = 0 := by have := (i 0).isLt; simp at this; omega
    have hz1 : (i 1).val = 0 := by have := (i 1).isLt; simp at this; omega
    show (Rect.emb _ i a).val = _
    revert a; refine forall4 ?_ ?_ ?_ ?_ <;> simp [Rect.emb_apply, ix4, at4, hz, hz1] <;> rfl)))

/-- A load of one column of a landing slot of maxima and sums. -/
theorem ld_sm (g : Fin 2) (j : Fin 4) (h : Fin 8) {off inb hl} (ho : off = ![g.val, j.val, 0, h.val])
    {Q : α → sProp 𝕄} {k : Vec F S1x1x128x1 .f32 → Prog (TpuEff nD τ sig (Elt F) Λ₀ .tc) α} :
    p9 c (mSlot g j) (mS I c) ⊢ iprop((p9 c (mSlot g j) (mS I c) -∗ WP c (k (slM I c g j h)) Q)
      -∗ WP c (.op (.load B9 (Rect.unit (s := S2x4x128x8) off S1x1x128x1.size inb).toLoadRect hl) k) Q) := by
  subst ho
  have key : ∀ w, B9.view.readAt (Elt F) (Rect.unit (s := S2x4x128x8) ![g.val, j.val, 0, h.val] S1x1x128x1.size inb).toLoadRect (mS I c) = w →
      (p9 c (mSlot g j) (mS I c) ⊢ iprop((p9 c (mSlot g j) (mS I c) -∗ WP c (k w) Q)
        -∗ WP c (.op (.load B9 (Rect.unit (s := S2x4x128x8) ![g.val, j.val, 0, h.val] S1x1x128x1.size inb).toLoadRect hl) k) Q)) := by
    rintro _ rfl
    unfold p9
    exact wp_load 𝒱₀ (c : Thread nD τ) none Set.univ (m := B9) (fun i hi => by
      rw [whole_setOn] at hi
      have hh := Rect.mem_set_unit.mp hi
      have h0 := hh 0; have h1 := hh 1
      simp at h0 h1
      rw [mem_mSlot]; omega)
  exact key _ (funext fun i => congrArg (mS I c) (funext fun a => Fin.ext (by
    have hz : (i 0).val = 0 := by have := (i 0).isLt; simp at this; omega
    have hz1 : (i 1).val = 0 := by have := (i 1).isLt; simp at this; omega
    have hz3 : (i 3).val = 0 := by have := (i 3).isLt; simp at this; omega
    show (Rect.emb _ i a).val = _
    revert a; refine forall4 ?_ ?_ ?_ ?_ <;> simp [Rect.emb_apply, ix4, at4, hz, hz1, hz3] <;> rfl)))

/-- The load before a store to a strip: whatever it reads is not used. -/
theorem ld_ostrip (g : Fin 2) (h : Fin 4) (f : Vec F S2x512x512 .bf16) {off inb hl} (ho : off = ![g.val, 0, 128 * h.val])
    {Q : α → sProp 𝕄} {k : Vec F S1x512x128 .bf16 → Prog (TpuEff nD τ sig (Elt F) Λ₀ .tc) α} :
    p6 c (oStrip g h) f ⊢ iprop((∀ w, p6 c (oStrip g h) f -∗ WP c (k w) Q)
      -∗ WP c (.op (.load B6 (Rect.unit (s := S2x512x512) off S1x512x128.size inb).toLoadRect hl) k) Q) := by
  subst ho
  have h : p6 c (oStrip g h) f ⊢ iprop((p6 c (oStrip g h) f -∗ WP c (k (B6.view.readAt (Elt F) (Rect.unit (s := S2x512x512) ![g.val, 0, 128 * h.val] S1x512x128.size inb).toLoadRect f)) Q)
      -∗ WP c (.op (.load B6 (Rect.unit (s := S2x512x512) ![g.val, 0, 128 * h.val] S1x512x128.size inb).toLoadRect hl) k) Q) := by
    unfold p6
    exact wp_load 𝒱₀ (c : Thread nD τ) none Set.univ (m := B6) (fun i hi => by
      rw [whole_setOn] at hi
      have hh := Rect.mem_set_unit.mp hi
      have h0 := hh 0; have h2 := hh 2
      simp at h0 h2
      rw [mem_oStrip]; omega)
  iintro H Hk
  iapply h $$ H
  iintro H
  iapply Hk; iexact H

/-- The load before a store to a column: whatever it reads is not used. -/
theorem ld_mstrip (g : Fin 2) (h : Fin 8) (f : Vec F S2x512x8 .f32) {off inb hl} (ho : off = ![g.val, 0, h.val])
    {Q : α → sProp 𝕄} {k : Vec F S1x512x1 .f32 → Prog (TpuEff nD τ sig (Elt F) Λ₀ .tc) α} :
    p7 c (mStrip g h) f ⊢ iprop((∀ w, p7 c (mStrip g h) f -∗ WP c (k w) Q)
      -∗ WP c (.op (.load B7 (Rect.unit (s := S2x512x8) off S1x512x1.size inb).toLoadRect hl) k) Q) := by
  subst ho
  have h : p7 c (mStrip g h) f ⊢ iprop((p7 c (mStrip g h) f -∗ WP c (k (B7.view.readAt (Elt F) (Rect.unit (s := S2x512x8) ![g.val, 0, h.val] S1x512x1.size inb).toLoadRect f)) Q)
      -∗ WP c (.op (.load B7 (Rect.unit (s := S2x512x8) ![g.val, 0, h.val] S1x512x1.size inb).toLoadRect hl) k) Q) := by
    unfold p7
    exact wp_load 𝒱₀ (c : Thread nD τ) none Set.univ (m := B7) (fun i hi => by
      rw [whole_setOn] at hi
      have hh := Rect.mem_set_unit.mp hi
      have h0 := hh 0; have h2 := hh 2
      simp at h0 h2
      rw [mem_mStrip]; omega)
  iintro H Hk
  iapply h $$ H
  iintro H
  iapply Hk; iexact H

/-- The load before the store to the own rows of the result: not used. -/
theorem ld_urows (f : Vec F S512x1024 .bf16) {off inb hl} (ho : off = ![128 * c.val, 0])
    {Q : α → sProp 𝕄} {k : Vec F S128x1024 .bf16 → Prog (TpuEff nD τ sig (Elt F) Λ₀ .tc) α} :
    p5 c (uRows c) fullShare f ⊢ iprop((∀ w, p5 c (uRows c) fullShare f -∗ WP c (k w) Q)
      -∗ WP c (.op (.load B5 (Rect.unit (s := S512x1024) off S128x1024.size inb).toLoadRect hl) k) Q) := by
  subst ho
  have h : p5 c (uRows c) fullShare f ⊢ iprop((p5 c (uRows c) fullShare f -∗ WP c (k (B5.view.readAt (Elt F) (Rect.unit (s := S512x1024) ![128 * c.val, 0] S128x1024.size inb).toLoadRect f)) Q)
      -∗ WP c (.op (.load B5 (Rect.unit (s := S512x1024) ![128 * c.val, 0] S128x1024.size inb).toLoadRect hl) k) Q) := by
    unfold p5
    exact wp_load 𝒱₀ (c : Thread nD τ) none Set.univ (m := B5) (fun i hi => by
      rw [whole_setOn] at hi
      have hh := Rect.mem_set_unit.mp hi
      have h0 := hh 0
      simp at h0
      rw [mem_uRows]; omega)
  iintro H Hk
  iapply h $$ H
  iintro H
  iapply Hk; iexact H

/-- Storing a head's weighted values makes its strip hold them. -/
theorem st_o (g : Fin 2) (h : Fin 4) (f : Vec F S2x512x512 .bf16) {off inb hx hm} (ho : off = ![g.val, 0, 128 * h.val])
    {w : Vec F S1x512x128 .bf16} (hw : w = shapeCast S1x512x128 (hO I c g h) shapeCasts_S512x128_S1x512x128)
    {Q : α → sProp 𝕄} {k : PUnit → Prog (TpuEff nD τ sig (Elt F) Λ₀ .tc) α} :
    p6 c (oStrip g h) (f) ⊢ iprop((p6 c (oStrip g h) (oC I c) -∗ WP c (k ⟨⟩) Q)
      -∗ WP c (.op (.store B6 (Rect.unit (s := S2x512x512) off S1x512x128.size inb) w Finset.univ hx hm) k) Q) := by
  subst ho; subst hw
  have e : p6 c (oStrip g h) (((B6.access (Rect.unit (s := S2x512x512) ![g.val, 0, 128 * h.val] S1x512x128.size inb)).write (Elt F) f (shapeCast S1x512x128 (hO I c g h) shapeCasts_S512x128_S1x512x128) Finset.univ)) = p6 c (oStrip g h) (oC I c) := by
    unfold p6
    refine pointsTo_congr fun i hi => ?_
    rw [mem_oStrip] at hi
    have hi' : i ∈ (B6.access (Rect.unit (s := S2x512x512) ![g.val, 0, 128 * h.val] S1x512x128.size inb)).set := by
      rw [View.set_slice_whole, Rect.mem_set_unit]
      intro a
      have h1 : (i 1).val < 512 := (i 1).isLt
      revert a; refine forall3 ?_ ?_ ?_ <;> simp <;> omega
    obtain ⟨x, -, rfl⟩ := Finset.mem_map.mp hi'
    refine (View.write_emb_of_mem _ _ (Finset.mem_univ x)).trans ?_
    obtain ⟨y, z, hx⟩ : ∃ (y : Fin 512) (z : Fin 128), x = ix3 (0 : Fin 1) y z := by
      refine ⟨x 1, x 2, ?_⟩; funext a; fin_cases a
      · exact Fin.ext (by have := (x 0).isLt; simp at this; simp [ix3] <;> omega)
      · rfl
      · rfl
    subst hx
    have hv : (B6.access (Rect.unit (s := S2x512x512) ![g.val, 0, 128 * h.val] S1x512x128.size inb)).emb (ix3 (0 : Fin 1) y z) = ix3 g y (at4 h z) := by
      funext a; refine Fin.ext ?_
      show (Rect.emb (Rect.unit (s := S2x512x512) ![g.val, 0, 128 * h.val] S1x512x128.size inb) (ix3 (0 : Fin 1) y z) a).val = _
      fin_cases a <;> simp [Rect.emb_apply, ix3, at4]
    refine Eq.trans ?_ (congrArg (oC I c) hv.symm)
    have hz : grp (at4 h z) = h := by apply Fin.ext; simp [grp, at4] <;> omega
    have hz' : plc (at4 h z) = z := by apply Fin.ext; simp [plc, at4] <;> omega
    show shapeCast S1x512x128 (hO I c g h) shapeCasts_S512x128_S1x512x128 (ix3 (0 : Fin 1) y z) = hO I c g (grp (at4 h z)) (ix2 y (plc (at4 h z)))
    rw [hz, hz']
    exact shapeCast_ab_1ab_apply _ _ _ _ _
  rw [← e]; unfold p6
  exact wp_store 𝒱₀ (c : Thread nD τ) none Set.univ (m := B6) (r := Rect.unit (s := S2x512x512) ![g.val, 0, 128 * h.val] S1x512x128.size inb) (Mk := Finset.univ)
    (by
      rw [View.setOn_univ, View.set_slice_whole]
      intro i hi
      have hh := Rect.mem_set_unit.mp hi
      have h0 := hh 0; have h2 := hh 2
      simp at h0 h2
      rw [mem_oStrip]; omega)

theorem mC_cm (g : Fin 2) (h : Fin 4) (y : Fin 512) : mC I c (ix3 g y (cm h)) = hM I c g h (ix2 y (0 : Fin 1)) := by
  have hc : (cm h).val < 4 := h.isLt
  have hz : (⟨(cm h).val % 4, Nat.mod_lt _ (by decide)⟩ : Fin 4) = h := Fin.ext (Nat.mod_eq_of_lt h.isLt)
  refine (if_pos hc).trans ?_
  exact congrArg (fun z => hM I c g z (ix2 y (0 : Fin 1))) hz
theorem mC_cl (g : Fin 2) (h : Fin 4) (y : Fin 512) : mC I c (ix3 g y (cl h)) = hL I c g h (ix2 y (0 : Fin 1)) := by
  have hc : ¬ (cl h).val < 4 := by simp [cl]
  have hz : (⟨(cl h).val % 4, Nat.mod_lt _ (by decide)⟩ : Fin 4) = h := Fin.ext (by simp [cl] <;> omega)
  refine (if_neg hc).trans ?_
  exact congrArg (fun z => hL I c g z (ix2 y (0 : Fin 1))) hz

/-- Storing a head's row maxima (sums) makes its column hold them. -/
theorem st_m (g : Fin 2) (h : Fin 4) (f : Vec F S2x512x8 .f32) {off inb hx hm} (ho : off = ![g.val, 0, (cm h).val])
    {w : Vec F S1x512x1 .f32} (hw : w = shapeCast S1x512x1 (hM I c g h) shapeCasts_S512x1_S1x512x1)
    {Q : α → sProp 𝕄} {k : PUnit → Prog (TpuEff nD τ sig (Elt F) Λ₀ .tc) α} :
    p7 c (mStrip g (cm h)) (f) ⊢ iprop((p7 c (mStrip g (cm h)) (mC I c) -∗ WP c (k ⟨⟩) Q)
      -∗ WP c (.op (.store B7 (Rect.unit (s := S2x512x8) off S1x512x1.size inb) w Finset.univ hx hm) k) Q) := by
  subst ho; subst hw
  have e : p7 c (mStrip g (cm h)) (((B7.access (Rect.unit (s := S2x512x8) ![g.val, 0, (cm h).val] S1x512x1.size inb)).write (Elt F) f (shapeCast S1x512x1 (hM I c g h) shapeCasts_S512x1_S1x512x1) Finset.univ)) = p7 c (mStrip g (cm h)) (mC I c) := by
    unfold p7
    refine pointsTo_congr fun i hi => ?_
    rw [mem_mStrip] at hi
    have hi' : i ∈ (B7.access (Rect.unit (s := S2x512x8) ![g.val, 0, (cm h).val] S1x512x1.size inb)).set := by
      rw [View.set_slice_whole, Rect.mem_set_unit]
      intro a
      have h1 : (i 1).val < 512 := (i 1).isLt
      revert a; refine forall3 ?_ ?_ ?_ <;> simp <;> omega
    obtain ⟨x, -, rfl⟩ := Finset.mem_map.mp hi'
    refine (View.write_emb_of_mem _ _ (Finset.mem_univ x)).trans ?_
    obtain ⟨y, hx⟩ : ∃ (y : Fin 512), x = ix3 (0 : Fin 1) y (0 : Fin 1) := by
      refine ⟨x 1, ?_⟩; funext a; fin_cases a
      · exact Fin.ext (by have := (x 0).isLt; simp at this; simp [ix3] <;> omega)
      · rfl
      · exact Fin.ext (by have := (x 2).isLt; simp at this; simp [ix3] <;> omega)
    subst hx
    have hv : (B7.access (Rect.unit (s := S2x512x8) ![g.val, 0, (cm h).val] S1x512x1.size inb)).emb (ix3 (0 : Fin 1) y (0 : Fin 1)) = ix3 g y (cm h) := by
      funext a; refine Fin.ext ?_
      show (Rect.emb (Rect.unit (s := S2x512x8) ![g.val, 0, (cm h).val] S1x512x1.size inb) (ix3 (0 : Fin 1) y (0 : Fin 1)) a).val = _
      fin_cases a <;> simp [Rect.emb_apply, ix3]
    refine Eq.trans ?_ (congrArg (mC I c) hv.symm)
    rw [mC_cm]
    generalize hM I c g h = X
    show shapeCast S1x512x1 X shapeCasts_S512x1_S1x512x1 (ix3 (0 : Fin 1) y (0 : Fin 1)) = _
    exact shapeCast_ab_1ab_apply _ _ _ _ _
  rw [← e]; unfold p7
  exact wp_store 𝒱₀ (c : Thread nD τ) none Set.univ (m := B7) (r := Rect.unit (s := S2x512x8) ![g.val, 0, (cm h).val] S1x512x1.size inb) (Mk := Finset.univ)
    (by
      rw [View.setOn_univ, View.set_slice_whole]
      intro i hi
      have hh := Rect.mem_set_unit.mp hi
      have h0 := hh 0; have h2 := hh 2
      simp at h0 h2
      rw [mem_mStrip]; omega)

/-- Storing a head's row maxima (sums) makes its column hold them. -/
theorem st_l (g : Fin 2) (h : Fin 4) (f : Vec F S2x512x8 .f32) {off inb hx hm} (ho : off = ![g.val, 0, (cl h).val])
    {w : Vec F S1x512x1 .f32} (hw : w = shapeCast S1x512x1 (hL I c g h) shapeCasts_S512x1_S1x512x1)
    {Q : α → sProp 𝕄} {k : PUnit → Prog (TpuEff nD τ sig (Elt F) Λ₀ .tc) α} :
    p7 c (mStrip g (cl h)) (f) ⊢ iprop((p7 c (mStrip g (cl h)) (mC I c) -∗ WP c (k ⟨⟩) Q)
      -∗ WP c (.op (.store B7 (Rect.unit (s := S2x512x8) off S1x512x1.size inb) w Finset.univ hx hm) k) Q) := by
  subst ho; subst hw
  have e : p7 c (mStrip g (cl h)) (((B7.access (Rect.unit (s := S2x512x8) ![g.val, 0, (cl h).val] S1x512x1.size inb)).write (Elt F) f (shapeCast S1x512x1 (hL I c g h) shapeCasts_S512x1_S1x512x1) Finset.univ)) = p7 c (mStrip g (cl h)) (mC I c) := by
    unfold p7
    refine pointsTo_congr fun i hi => ?_
    rw [mem_mStrip] at hi
    have hi' : i ∈ (B7.access (Rect.unit (s := S2x512x8) ![g.val, 0, (cl h).val] S1x512x1.size inb)).set := by
      rw [View.set_slice_whole, Rect.mem_set_unit]
      intro a
      have h1 : (i 1).val < 512 := (i 1).isLt
      revert a; refine forall3 ?_ ?_ ?_ <;> simp <;> omega
    obtain ⟨x, -, rfl⟩ := Finset.mem_map.mp hi'
    refine (View.write_emb_of_mem _ _ (Finset.mem_univ x)).trans ?_
    obtain ⟨y, hx⟩ : ∃ (y : Fin 512), x = ix3 (0 : Fin 1) y (0 : Fin 1) := by
      refine ⟨x 1, ?_⟩; funext a; fin_cases a
      · exact Fin.ext (by have := (x 0).isLt; simp at this; simp [ix3] <;> omega)
      · rfl
      · exact Fin.ext (by have := (x 2).isLt; simp at this; simp [ix3] <;> omega)
    subst hx
    have hv : (B7.access (Rect.unit (s := S2x512x8) ![g.val, 0, (cl h).val] S1x512x1.size inb)).emb (ix3 (0 : Fin 1) y (0 : Fin 1)) = ix3 g y (cl h) := by
      funext a; refine Fin.ext ?_
      show (Rect.emb (Rect.unit (s := S2x512x8) ![g.val, 0, (cl h).val] S1x512x1.size inb) (ix3 (0 : Fin 1) y (0 : Fin 1)) a).val = _
      fin_cases a <;> simp [Rect.emb_apply, ix3]
    refine Eq.trans ?_ (congrArg (mC I c) hv.symm)
    rw [mC_cl]
    generalize hL I c g h = X
    show shapeCast S1x512x1 X shapeCasts_S512x1_S1x512x1 (ix3 (0 : Fin 1) y (0 : Fin 1)) = _
    exact shapeCast_ab_1ab_apply _ _ _ _ _
  rw [← e]; unfold p7
  exact wp_store 𝒱₀ (c : Thread nD τ) none Set.univ (m := B7) (r := Rect.unit (s := S2x512x8) ![g.val, 0, (cl h).val] S1x512x1.size inb) (Mk := Finset.univ)
    (by
      rw [View.setOn_univ, View.set_slice_whole]
      intro i hi
      have hh := Rect.mem_set_unit.mp hi
      have h0 := hh 0; have h2 := hh 2
      simp at h0 h2
      rw [mem_mStrip]; omega)

/-- Storing the finished row block makes the own rows of the result hold it. -/
theorem st_u (f : Vec F S512x1024 .bf16) {off inb hx hm} (ho : off = ![128 * c.val, 0])
    {w : Vec F S128x1024 .bf16} (hw : w = fin I c)
    {Q : α → sProp 𝕄} {k : PUnit → Prog (TpuEff nD τ sig (Elt F) Λ₀ .tc) α} :
    p5 c (uRows c) fullShare (f) ⊢ iprop((p5 c (uRows c) fullShare (outC I) -∗ WP c (k ⟨⟩) Q)
      -∗ WP c (.op (.store B5 (Rect.unit (s := S512x1024) off S128x1024.size inb) w Finset.univ hx hm) k) Q) := by
  subst ho; subst hw
  have e : p5 c (uRows c) fullShare (((B5.access (Rect.unit (s := S512x1024) ![128 * c.val, 0] S128x1024.size inb)).write (Elt F) f (fin I c) Finset.univ)) = p5 c (uRows c) fullShare (outC I) := by
    unfold p5
    refine pointsTo_congr fun i hi => ?_
    rw [mem_uRows] at hi
    have hi' : i ∈ (B5.access (Rect.unit (s := S512x1024) ![128 * c.val, 0] S128x1024.size inb)).set := by
      rw [View.set_slice_whole, Rect.mem_set_unit]
      intro a
      have h1 : (i 1).val < 1024 := (i 1).isLt
      revert a; refine forall2 ?_ ?_ <;> simp <;> omega
    obtain ⟨x, -, rfl⟩ := Finset.mem_map.mp hi'
    refine (View.write_emb_of_mem _ _ (Finset.mem_univ x)).trans ?_
    obtain ⟨y, z, hx⟩ : ∃ (y : Fin 128) (z : Fin 1024), x = ix2 y z := by
      refine ⟨x 0, x 1, ?_⟩; funext a; fin_cases a <;> rfl
    subst hx
    have hv : (B5.access (Rect.unit (s := S512x1024) ![128 * c.val, 0] S128x1024.size inb)).emb (ix2 y z) = ix2 (at4 c y) z := by
      funext a; refine Fin.ext ?_
      show (Rect.emb (Rect.unit (s := S512x1024) ![128 * c.val, 0] S128x1024.size inb) (ix2 y z) a).val = _
      fin_cases a <;> simp [Rect.emb_apply, ix2, at4]
    refine Eq.trans ?_ (congrArg (outC I) hv.symm)
    have hz : grp (at4 c y) = c := by apply Fin.ext; simp [grp, at4] <;> omega
    have hz' : plc (at4 c y) = y := by apply Fin.ext; simp [plc, at4] <;> omega
    show fin I c (ix2 y z) = fin I (grp (at4 c y)) (ix2 (plc (at4 c y)) z)
    rw [hz, hz']
  rw [← e]; unfold p5
  exact wp_store 𝒱₀ (c : Thread nD τ) none Set.univ (m := B5) (r := Rect.unit (s := S512x1024) ![128 * c.val, 0] S128x1024.size inb) (Mk := Finset.univ)
    (by
      rw [View.setOn_univ, View.set_slice_whole]
      intro i hi
      have hh := Rect.mem_set_unit.mp hi
      have h0 := hh 0
      simp at h0
      rw [mem_uRows]; omega)

end Loads
end Cert.KernelIdeal.K
-- ==== Proof.KernelIdeal.Protocol.lean ====
/- The protocol of the four devices: which semaphore does what, who pays it and with which piece of memory, what every
   device owes at each moment, and the order that keeps the waits from blocking each other. -/
module

public import proofs.«01_k».proof.Proof.KernelIdeal.Steps

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F)

/-! ## The views a transfer names -/

abbrev vSlotO (off : Fin 4 → ℕ) (inb : ∀ a, off a + S1x1x128x512.size a ≤ S2x4x128x512.size a) : Memref sig .tc .vmem S128x512 .bf16 :=
  (B8.slice (Rect.unit (s := S2x4x128x512) off S1x1x128x512.size inb) (fun _ => rfl)).squeeze S128x512 squeezes_S1x1x128x512_S128x512
abbrev vRowsO (off : Fin 3 → ℕ) (inb : ∀ a, off a + S1x128x512.size a ≤ S2x512x512.size a) : Memref sig .tc .vmem S128x512 .bf16 :=
  (B6.slice (Rect.unit (s := S2x512x512) off S1x128x512.size inb) (fun _ => rfl)).squeeze S128x512 squeezes_S1x128x512_S128x512
abbrev vSlotM (off : Fin 4 → ℕ) (inb : ∀ a, off a + S1x1x128x8.size a ≤ S2x4x128x8.size a) : Memref sig .tc .vmem S128x8 .f32 :=
  (B9.slice (Rect.unit (s := S2x4x128x8) off S1x1x128x8.size inb) (fun _ => rfl)).squeeze S128x8 squeezes_S1x1x128x8_S128x8
abbrev vRowsM (off : Fin 3 → ℕ) (inb : ∀ a, off a + S1x128x8.size a ≤ S2x512x8.size a) : Memref sig .tc .vmem S128x8 .f32 :=
  (B7.slice (Rect.unit (s := S2x512x8) off S1x128x8.size inb) (fun _ => rfl)).squeeze S128x8 squeezes_S1x128x8_S128x8
abbrev vRowsU (off : Fin 2 → ℕ) (inb : ∀ a, off a + S128x1024.size a ≤ S512x1024.size a) : Memref sig .tc .vmem S128x1024 .bf16 :=
  B5.slice (Rect.unit (s := S512x1024) off S128x1024.size inb) (fun _ => rfl)

/-- What a transfer of a block of weighted values, of maxima and sums, of result rows adds to the cells it credits. -/
def NO : ℕ := (vSlotO ![0, 0, 0, 0] (by decide)).view.dmaCredit
def NM : ℕ := (vSlotM ![0, 0, 0, 0] (by decide)).view.dmaCredit
def NA : ℕ := (vRowsU ![0, 0] (by decide)).view.dmaCredit
theorem NO_pos : 0 < NO := View.dmaCredit_pos _ (by decide)
theorem NM_pos : 0 < NM := View.dmaCredit_pos _ (by decide)
theorem NA_pos : 0 < NA := View.dmaCredit_pos _ (by decide)

/-! ## The cells -/

/-- The barrier semaphore, and the `k`-th of the program's own transfer semaphores. -/
abbrev barS : Sem sig := (SemArray.scalar (sig.barrier 0 rfl) : Sems sig S_).sem
def semD (k : Fin 40) : DmaSem sig := ⟨6 + k.val, by have := k.isLt; show 6 + k.val < 46; omega⟩

/-- The role of a semaphore: the barrier; the sender's and the receiver's semaphore of a block of weighted values, of
    maxima and sums, of result rows; a semaphore of the pipeline. -/
inductive Role
  | bar
  | oSd (g : Fin 2) (j : Fin 4)
  | oRv (g : Fin 2) (j : Fin 4)
  | mSd (g : Fin 2) (j : Fin 4)
  | mRv (g : Fin 2) (j : Fin 4)
  | aSd (j : Fin 4)
  | aRv (j : Fin 4)
  | idle

def fg (n : ℕ) : Fin 2 := ⟨n / 4 % 2, Nat.mod_lt _ (by decide)⟩
def fj (n : ℕ) : Fin 4 := ⟨n % 4, Nat.mod_lt _ (by decide)⟩

def roleN (n : ℕ) : Role :=
  if n < 8 then .oSd (fg n) (fj n) else if n < 16 then .oRv (fg n) (fj n) else if n < 24 then .mSd (fg n) (fj n)
  else if n < 32 then .mRv (fg n) (fj n) else if n < 36 then .aSd (fj n) else .aRv (fj n)

def role : SemLoc sig → Role
  | .reg _ => .bar
  | .dma s => if s.val < 6 then .idle else roleN (s.val - 6)

theorem role_semD (k : Fin 40) : role (.dma (semD k)) = roleN k.val := by
  unfold role semD
  simp

/-- The indices of the transfer semaphores. -/
def kOS (g : Fin 2) (j : Fin 4) : Fin 40 := ⟨4 * g.val + j.val, by omega⟩
def kOR (g : Fin 2) (j : Fin 4) : Fin 40 := ⟨8 + (4 * g.val + j.val), by omega⟩
def kMS (g : Fin 2) (j : Fin 4) : Fin 40 := ⟨16 + (4 * g.val + j.val), by omega⟩
def kMR (g : Fin 2) (j : Fin 4) : Fin 40 := ⟨24 + (4 * g.val + j.val), by omega⟩
def kAS (j : Fin 4) : Fin 40 := ⟨32 + j.val, by omega⟩
def kAR (j : Fin 4) : Fin 40 := ⟨36 + j.val, by omega⟩
theorem role_kOS : ∀ (g : Fin 2) (j : Fin 4), roleN (kOS g j).val = .oSd g j := by intro g j; fin_cases g <;> fin_cases j <;> rfl
theorem role_kOR : ∀ (g : Fin 2) (j : Fin 4), roleN (kOR g j).val = .oRv g j := by intro g j; fin_cases g <;> fin_cases j <;> rfl
theorem role_kMS : ∀ (g : Fin 2) (j : Fin 4), roleN (kMS g j).val = .mSd g j := by intro g j; fin_cases g <;> fin_cases j <;> rfl
theorem role_kMR : ∀ (g : Fin 2) (j : Fin 4), roleN (kMR g j).val = .mRv g j := by intro g j; fin_cases g <;> fin_cases j <;> rfl
theorem role_kAS : ∀ j : Fin 4, roleN (kAS j).val = .aSd j := by intro j; fin_cases j <;> rfl
theorem role_kAR : ∀ j : Fin 4, roleN (kAR j).val = .aRv j := by intro j; fin_cases j <;> rfl

abbrev barCell (c : Dev nD) : GSem nD τ sig := ((c : Thread nD τ), .reg barS)
abbrev dCell (c : Dev nD) (k : Fin 40) : GSem nD τ sig := ((c : Thread nD τ), .dma (semD k))
/-- A device's 41 cells, the barrier's last. -/
def csem (k : Fin 41) : SemLoc sig := if h : k.val < 40 then .dma (semD ⟨k.val, h⟩) else .reg barS
abbrev kcell (ck : Dev nD × Fin 41) : GSem nD τ sig := ((ck.1 : Thread nD τ), csem ck.2)
def kD (k : Fin 40) : Fin 41 := ⟨k.val, by omega⟩
def kB : Fin 41 := ⟨40, by decide⟩
theorem csem_kD (k : Fin 40) : csem (kD k) = .dma (semD k) := by unfold csem kD; exact dif_pos k.isLt
theorem csem_kB : csem kB = .reg barS := rfl

/-! ## The schedule -/

/-- Places after and before: the device `off` after hears this one in its slot `neg off`; and the distance between two. -/
def neg (j : Fin 4) : Fin 4 := ⟨(4 - j.val) % 4, Nat.mod_lt _ (by decide)⟩
def gap (d c : Dev nD) : Fin 4 := ⟨(c.val + 4 - d.val) % 4, Nat.mod_lt _ (by decide)⟩
theorem aft_neg (c : Dev nD) (j : Fin 4) : aft (aft c j) (neg j) = c := by revert c j; decide
theorem gap_aft (c : Dev nD) (j : Fin 4) : gap c (aft c j) = j := by revert c j; decide
theorem gap_aft' (c : Dev nD) (j : Fin 4) : gap (aft c j) c = neg j := by revert c j; decide
theorem aft_gap (c d : Dev nD) : aft c (gap c d) = d := by revert c d; decide

/-- The three shares of the own result rows that the three copies of them hold. -/
def sh : Fin 4 → PosShare TreeShare
  | 1 => fullShare.left
  | 2 => fullShare.right.left
  | 3 => fullShare.right.right
  | _ => fullShare

/-- What device `d` lends device `c` at the start: the places `c` will fill on `d`. -/
def land (d c : Dev nD) : sProp 𝕄 :=
  iprop((∃ f, p8 d (oSlot 0 (gap d c)) f) ∗ (∃ f, p9 d (mSlot 0 (gap d c)) f) ∗ (∃ f, p8 d (oSlot 1 (gap d c)) f)
    ∗ (∃ f, p9 d (mSlot 1 (gap d c)) f) ∗ (∃ f, p5 d (uRows c) fullShare f))

def dut (c : Dev nD) : Role → Finset (Dev nD)
  | .bar => Finset.univ.erase c
  | .oSd _ j => if j = 0 then ∅ else {0}
  | .oRv _ j => if j = 0 then ∅ else {0}
  | .mSd _ j => if j = 0 then ∅ else {0}
  | .mRv _ j => if j = 0 then ∅ else {0}
  | .aSd j => if j = 0 then ∅ else {0}
  | .aRv j => if j = 0 then ∅ else {0}
  | .idle => ∅
def amt : Role → ℕ
  | .bar => 1
  | .oSd _ _ => NO
  | .oRv _ _ => NO
  | .mSd _ _ => NM
  | .mRv _ _ => NM
  | .aSd _ => NA
  | .aRv _ => NA
  | .idle => 1
def pay (c : Dev nD) : Role → Dev nD → sProp 𝕄
  | .bar, d => land d c
  | .oSd g j, _ => p6 c (oRows g (aft c j)) (oC I c)
  | .oRv g j, _ => p8 c (oSlot g j) (oS I c)
  | .mSd g j, _ => p7 c (mRows g (aft c j)) (mC I c)
  | .mRv g j, _ => p9 c (mSlot g j) (mS I c)
  | .aSd j, _ => p5 c (uRows c) (sh j) (outC I)
  | .aRv j, _ => p5 c (uRows (aft c j)) fullShare (outC I)
  | .idle, _ => iprop(emp)

theorem amt_pos (r : Role) : 0 < amt r := by
  cases r <;> first | exact Nat.one_pos | exact NO_pos | exact NM_pos | exact NA_pos

/-- One round per cell. -/
def Rd : Rounds.Schedule (GSem nD τ sig) (Dev nD) 𝕄 where
  duties g r := if r = 0 ∧ g.1.2 = .tc then dut g.1.1 (role g.2) else ∅
  unitless _ := False
  amount g _ _ := amt (role g.2)
  payload g _ d := pay I g.1.1 (role g.2) d
  amount_pos g _ _ _ := amt_pos _

instance Rd_storable (g : GSem nD τ sig) (r : ℕ) (d : Dev nD) : BI.Storable (upEmb : UEmb _ 𝕄) ((Rd I).payload g r d) := by
  show BI.Storable upEmb (pay I g.1.1 (role g.2) d)
  cases role g.2 <;> unfold pay <;> (try unfold land) <;> infer_instance

theorem duties_D (c : Dev nD) (k : Fin 40) : (Rd I).duties (dCell c k) 0 = dut c (roleN k.val) := by
  have h : (0 : ℕ) = 0 ∧ (dCell c k).1.2 = .tc := ⟨rfl, rfl⟩
  dsimp only [Rd]
  rw [if_pos h, role_semD]
theorem duties_B (c : Dev nD) : (Rd I).duties (barCell c) 0 = Finset.univ.erase c := by
  have h : (0 : ℕ) = 0 ∧ (barCell c).1.2 = .tc := ⟨rfl, rfl⟩
  dsimp only [Rd]
  rw [if_pos h]; rfl
theorem duties_later (g : GSem nD τ sig) : ∀ r, 1 ≤ r → (Rd I).duties g r = ∅ :=
  fun r hr => by show (if _ then _ else _) = _; rw [if_neg fun h => by omega]
theorem amount_D (c : Dev nD) (k : Fin 40) (d : Dev nD) : (Rd I).amount (dCell c k) 0 d = amt (roleN k.val) := by
  show amt (role (.dma (semD k))) = _
  rw [role_semD]
theorem amount_B (c d : Dev nD) : (Rd I).amount (barCell c) 0 d = 1 := rfl
theorem payload_D (c : Dev nD) (k : Fin 40) (d : Dev nD) : (Rd I).payload (dCell c k) 0 d = pay I c (roleN k.val) d := by
  show pay I c (role (.dma (semD k))) d = _
  rw [role_semD]
theorem payload_B (c d : Dev nD) : (Rd I).payload (barCell c) 0 d = land d c := rfl

theorem expect_D (c : Dev nD) (k : Fin 40) (h : dut c (roleN k.val) = {0}) : (Rd I).expect (dCell c k) 0 = amt (roleN k.val) := by
  unfold Schedule.expect Schedule.amountOf; rw [duties_D, h, Finset.sum_singleton, amount_D]
theorem rest_D (c : Dev nD) (k : Fin 40) (h : dut c (roleN k.val) = {0}) :
    bigSep ((Rd I).duties (dCell c k) 0 \ ∅) (fun d => (Rd I).payload (dCell c k) 0 d) = pay I c (roleN k.val) 0 := by
  rw [Finset.sdiff_empty, duties_D, h, bigSep_singleton, payload_D]
theorem peers (c : Dev nD) : (Finset.univ.erase c : Finset (Dev nD)) = {aft c 1, aft c 2, aft c 3} := by revert c; decide
theorem expect_B (c : Dev nD) : (Rd I).expect (barCell c) 0 = 3 := by
  unfold Schedule.expect Schedule.amountOf
  rw [duties_B, Finset.sum_congr rfl fun d _ => amount_B I c d, Finset.sum_const, Finset.card_erase_of_mem (Finset.mem_univ _), Finset.card_univ,
    smul_eq_mul]
  rfl
theorem rest_B (c : Dev nD) :
    bigSep ((Rd I).duties (barCell c) 0 \ ∅) (fun d => (Rd I).payload (barCell c) 0 d)
      = (iprop(land (aft c 1) c ∗ land (aft c 2) c ∗ land (aft c 3) c) : sProp 𝕄) := by
  rw [Finset.sdiff_empty, duties_B, bigSep_eq_bigSepL_of_eq [aft c 1, aft c 2, aft c 3] (by revert c; decide) (by revert c; decide)]
  rfl

/-! ## What is owed, and the levels -/

/-- The transfers in the order the program issues them: how far the target is, and the receiving semaphore. -/
def tgt : ℕ → Fin 4 × Fin 40
  | 0 => (1, kOR 0 3)
  | 1 => (1, kMR 0 3)
  | 2 => (2, kOR 0 2)
  | 3 => (2, kMR 0 2)
  | 4 => (3, kOR 0 1)
  | 5 => (3, kMR 0 1)
  | 6 => (1, kOR 1 3)
  | 7 => (1, kMR 1 3)
  | 8 => (2, kOR 1 2)
  | 9 => (2, kMR 1 2)
  | 10 => (3, kOR 1 1)
  | 11 => (3, kMR 1 1)
  | 12 => (1, kAR 3)
  | 13 => (2, kAR 2)
  | _ => (3, kAR 1)
/-- The semaphore on the sender's side. -/
def own : ℕ → Fin 40
  | 0 => kOS 0 1
  | 1 => kMS 0 1
  | 2 => kOS 0 2
  | 3 => kMS 0 2
  | 4 => kOS 0 3
  | 5 => kMS 0 3
  | 6 => kOS 1 1
  | 7 => kMS 1 1
  | 8 => kOS 1 2
  | 9 => kMS 1 2
  | 10 => kOS 1 3
  | 11 => kMS 1 3
  | 12 => kAS 1
  | 13 => kAS 2
  | _ => kAS 3

abbrev tCell (c : Dev nD) (t : ℕ) : GSem nD τ sig := dCell (aft c (tgt t).1) (tgt t).2
def tal (c : Dev nD) (t : ℕ) : CellTallies nD τ sig Unit := tallyAt (tCell c t) () (amt (roleN (tgt t).2.val))
/-- What device `c` still owes when `n` transfers are to come. -/
def owd (c : Dev nD) : ℕ → CellTallies nD τ sig Unit
  | 0 => 0
  | n + 1 => owd c n + tal c (14 - n)
/-- At launch it owes the three barrier units too. -/
def O₁ (c : Dev nD) : CellTallies nD τ sig Unit := owd c 15 + tallyAt (barCell (aft c 3)) () 1
def O₂ (c : Dev nD) : CellTallies nD τ sig Unit := O₁ c + tallyAt (barCell (aft c 2)) () 1
def O₀ (c : Dev nD) : CellTallies nD τ sig Unit := O₂ c + tallyAt (barCell (aft c 1)) () 1

def L (g : GSem nD τ sig) : Finset Unit := if g.1.2 = .tc then {()} else ∅
def lvR : Role → ℕ
  | .bar => 1
  | .oRv _ _ => 2
  | .mRv _ _ => 2
  | .aRv _ => 3
  | _ => 0
def lv (g : GSem nD τ sig) (_ : Unit) : ℕ := lvR (role g.2)
theorem L_of_ne (g : GSem nD τ sig) (h : g.1.2 ≠ .tc) : L g = ∅ := if_neg h
theorem L_tc (c : Dev nD) (sm : SemLoc sig) : L ((c : Thread nD τ), sm) = {()} := if_pos rfl

theorem add_pos_cases {O : CellTallies nD τ sig Unit} {g g' : GSem nD τ sig} {u : Unit} {n : ℕ} (h : 0 < (O + tallyAt g' () n) g u) :
    0 < O g u ∨ g = g' := by
  by_cases hg : g = g'
  · exact Or.inr hg
  · refine Or.inl ?_
    rw [Pi.add_apply, Finsupp.add_apply, tallyAt_apply, if_neg fun h => hg h.1, Nat.add_zero] at h
    exact h

theorem owd_pos {c : Dev nD} {g : GSem nD τ sig} {u : Unit} : ∀ {n : ℕ}, n ≤ 15 → 0 < owd c n g u → ∃ t, 15 ≤ t + n ∧ t < 15 ∧ g = tCell c t
  | 0, _, h => absurd h (Nat.lt_irrefl 0)
  | n + 1, hn, h => by
    rcases add_pos_cases (O := owd c n) h with h | h
    · obtain ⟨t, h1, h2, h3⟩ := owd_pos (by omega) h
      exact ⟨t, by omega, h2, h3⟩
    · exact ⟨14 - n, by omega, by omega, h⟩
theorem O₀_pos {c : Dev nD} {g : GSem nD τ sig} {u : Unit} (h : 0 < O₀ c g u) :
    (∃ t, t < 15 ∧ g = tCell c t) ∨ ∃ j, g = barCell (aft c j) := by
  unfold O₀ at h
  rcases add_pos_cases h with h | h
  · unfold O₂ at h
    rcases add_pos_cases h with h | h
    · unfold O₁ at h
      rcases add_pos_cases h with h | h
      · obtain ⟨t, -, h2, h3⟩ := owd_pos (n := 15) (le_refl _) h
        exact Or.inl ⟨t, h2, h3⟩
      · exact Or.inr ⟨_, h⟩
    · exact Or.inr ⟨_, h⟩
  · exact Or.inr ⟨_, h⟩

theorem lv_t : ∀ t, t < 15 → lvR (roleN (tgt t).2.val) = if t < 12 then 2 else 3 := by
  intro t ht; interval_cases t <;> rfl

omit [FloatOps F] in
/-- A device may wait on a cell of its own below everything it still owes. -/
theorem mayWait_owd (c : Dev nD) (sm : SemLoc sig) (n : ℕ) (hn : n ≤ 15) (h : ∀ t, 15 ≤ t + n → t < 15 → lvR (role sm) < lvR (roleN (tgt t).2.val)) :
    (levAts L lv : sProp 𝕄) ⊢ MayWait (c : Thread nD τ) sm () (owd c n) :=
  MayOwe.of_cut (L := L) (lev := lv) (lvR (role sm)) (fun p hp => by rw [Finset.mem_singleton.mp hp, L_tc]; exact Finset.mem_singleton_self _)
    (fun g u hg => by obtain ⟨t, h1, h2, rfl⟩ := owd_pos hn hg; exact Finset.mem_singleton_self _)
    (fun p hp => by rw [Finset.mem_singleton.mp hp]; exact le_refl _)
    (fun g u hg => by
      obtain ⟨t, h1, h2, rfl⟩ := owd_pos hn hg
      have := h t h1 h2
      unfold lv; rw [role_semD]; exact this)

omit [FloatOps F] in
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  have hr : role (.dma q) = .idle := if_pos hq
  rcases hO with rfl | rfl
  · refine MayOwe.of_cut (L := L) (lev := lv) 0 (fun p hp => by rw [Finset.mem_singleton.mp hp, L_tc]; exact Finset.mem_singleton_self _)
      (fun g u hg => by rcases O₀_pos hg with ⟨t, -, rfl⟩ | ⟨j, rfl⟩ <;> exact Finset.mem_singleton_self _)
      (fun p hp => by rw [Finset.mem_singleton.mp hp]; unfold lv; rw [hr]; exact le_refl _)
      (fun g u hg => by
        rcases O₀_pos hg with ⟨t, h2, rfl⟩ | ⟨j, rfl⟩
        · unfold lv; rw [role_semD, lv_t t h2]; split <;> decide
        · exact Nat.one_pos)
  · rw [MayWait_zero]; iintro -; iempintro

/-! ## What every device may use at any time -/

/-- The invariants of all cells, that all are at their first round, and the levels. -/
def env (K : Dev nD × Fin 41 → ℕ) : sProp 𝕄 :=
  iprop((bigSep Finset.univ fun ck : Dev nD × Fin 41 => cellInv ER (Rd I) (K ck) (kcell ck))
    ∗ (bigSep Finset.univ fun ck : Dev nD × Fin 41 => reached ER (kcell ck) 0) ∗ levAts L lv)
instance env_persistent (K : Dev nD × Fin 41 → ℕ) : BI.Persistent (env I K) := by unfold env; infer_instance

theorem inv_at (K : Dev nD × Fin 41 → ℕ) (ck : Dev nD × Fin 41) :
    (bigSep Finset.univ fun ck : Dev nD × Fin 41 => (cellInv ER (Rd I) (K ck) (kcell ck) : sProp 𝕄)) ⊢ cellInv ER (Rd I) (K ck) (kcell ck) :=
  bigSep_elim (Finset.mem_univ ck)
omit [FloatOps F] in
theorem reached_at (ck : Dev nD × Fin 41) :
    (bigSep Finset.univ fun ck : Dev nD × Fin 41 => (reached ER (kcell ck) 0 : sProp 𝕄)) ⊢ reached ER (kcell ck) 0 :=
  bigSep_elim (Finset.mem_univ ck)
theorem env_k (K : Dev nD × Fin 41 → ℕ) (ck : Dev nD × Fin 41) :
    env I K ⊢ iprop(cellInv ER (Rd I) (K ck) (kcell ck) ∗ reached ER (kcell ck) 0) := by
  unfold env
  iintro ⟨#H1, #H2, #H3⟩
  isplitl
  · iapply (inv_at I K ck); iexact H1
  · iapply (reached_at (F := F) ck); iexact H2
theorem kcell_D (c : Dev nD) (k : Fin 40) : kcell (c, kD k) = dCell c k := by show ((c : Thread nD τ), csem (kD k)) = _; rw [csem_kD]
theorem kcell_B (c : Dev nD) : kcell (c, kB) = barCell c := rfl
theorem env_D (K : Dev nD × Fin 41 → ℕ) (c : Dev nD) (k : Fin 40) :
    env I K ⊢ iprop(cellInv ER (Rd I) (K (c, kD k)) (dCell c k) ∗ reached ER (dCell c k) 0) := by
  rw [← kcell_D]; exact env_k I K _
theorem env_B (K : Dev nD × Fin 41 → ℕ) (c : Dev nD) :
    env I K ⊢ iprop(cellInv ER (Rd I) (K (c, kB)) (barCell c) ∗ reached ER (barCell c) 0) := by
  rw [← kcell_B]; exact env_k I K _
theorem env_L (K : Dev nD × Fin 41 → ℕ) : env I K ⊢ (levAts L lv : sProp 𝕄) := by
  unfold env
  iintro ⟨#H1, #H2, #H3⟩
  iexact H3

/-- What a device owes when `n` transfers are to come, whatever it has waited on. -/
def owesE (c : Dev nD) (n : ℕ) : sProp 𝕄 := iprop(∃ W, owes (c : Thread nD τ) (owd c n) W)

end Cert.KernelIdeal.K
-- ==== Proof.KernelIdeal.Comm.lean ====
/- The signals, the transfers and the waits of the body, each as one rule over the pieces. -/
module

public import proofs.«01_k».proof.Proof.KernelIdeal.Protocol

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F)

section Comm
variable (K : Dev nD × Fin 41 → ℕ) (c : Dev nD) {α : Type}

theorem neg_ne : ∀ off : Fin 4, off ≠ 0 → neg off ≠ 0 := by decide
theorem aft_ne : ∀ (c : Dev nD) (off : Fin 4), off ≠ 0 → c ≠ aft c off := by decide
/-- A signal to a peer's barrier, with the places that peer will fill. -/
theorem sig_bar (off : Fin 4) (h0 : off ≠ 0) {n : Dev nD} (hn : n = aft c off) {x : ℤ} (hx : x = 1) {O' : CellTallies nD τ sig Unit}
    (O : CellTallies nD τ sig Unit) (hO : O' = O + tallyAt (barCell (aft c off)) () 1)
    {Q : α → sProp 𝕄} {k : PUnit → Prog (TpuEff nD τ sig (Elt F) Λ₀ .tc) α} :
    iprop(env I K ∗ (∃ W, owes (c : Thread nD τ) O' W) ∗ dutyTok ER (barCell (aft c off)) 0 c ∗ land c (aft c off))
      ⊢ iprop(((∃ W, owes (c : Thread nD τ) O W) -∗ WP c (k ⟨⟩) Q)
        -∗ WP c (.op (.semSignal (Dev.tc n : Thread nD τ) barS x) k) Q) := by
  subst hn; subst hx
  iintro ⟨#HE, ⟨%W, HO⟩, HT, HL⟩ Hk
  ihave HB := (env_B I K (aft c off)) $$ HE
  icases HB with ⟨HI, HR⟩
  iapply (Rounds.wp_signal 𝒱₀ ER (Rd I) (c : Thread nD τ) none (dst := (aft c off : Thread nD τ)) (κ := K (aft c off, kB))
      (d := c) (k' := 1) (by rw [duties_B]; exact Finset.mem_erase.mpr ⟨aft_ne c off h0, Finset.mem_univ _⟩) (amount_B I (aft c off) c) () O hO (W := W))
    $$ [HI HO HT HL HR]
  · isplitl [HI]; · iexact HI
    isplitl [HO]; · iexact HO
    isplitl [HT]; · iexact HT
    isplitl [HL]; · rw [payload_B]; iexact HL
    iexact HR
  iintro HO
  iapply Hk
  iexists W; iexact HO

/-- The wait for the three peers' signals. -/
theorem wait_bar {x : ℤ} (hx : x = 3)
    {Q : α → sProp 𝕄} {k : PUnit → Prog (TpuEff nD τ sig (Elt F) Λ₀ .tc) α} :
    iprop(env I K ∗ cred (tallyAt (barCell c) () 3) ∗ owesE c 15 ∗ atPos ER (barCell c) 0 ∅ 0)
      ⊢ iprop(((owesE c 15 ∗ atPos ER (barCell c) 1 ∅ 0 ∗ land (aft c 1) c ∗ land (aft c 2) c ∗ land (aft c 3) c) -∗ WP c (k ⟨⟩) Q)
        -∗ WP c (.op (.semWait barS x) k) Q) := by
  subst hx
  iintro ⟨#HE, HC, HO, HA⟩ Hk
  unfold owesE
  icases HO with ⟨%W, HO⟩
  ihave HB := (env_B I K c) $$ HE
  icases HB with ⟨HI, HR⟩
  ihave HL := (env_L I K) $$ HE
  iapply (Rounds.wp_wait_rest_token 𝒱₀ ER (Rd I) (c : Thread nD τ) none (κ := K (c, kB))
      (wpE_semWait_eq 𝒱₀ (c : Thread nD τ) none Set.univ (k := 3)) (Set.mem_univ _) () (O := owd c 15) (W := W) (R := 0) (m := 0) (T := ∅)
      (by rw [expect_B])) $$ [HI HC HO HA HL]
  · isplitl [HI]; · iexact HI
    isplitl [HC]; · iexact HC
    isplitl [HO]; · iexact HO
    isplitl [HL]
    · iapply (mayWait_owd (F := F) c (.reg barS) 15 (le_refl _) (fun t _ h => by rw [lv_t t h]; show 1 < _; split <;> decide)); iexact HL
    iexact HA
  iintro ⟨HO, HA, -, HP⟩
  ihave HP' := (Entails.of_eq (rest_B I c)) $$ HP
  iapply Hk
  isplitl [HO]; · iexists _; iexact HO
  isplitl [HA]; · iexact HA
  iexact HP'

/-- A wait for a transfer, on the `q`-th transfer semaphore. -/
theorem wait_D (q : Fin 40) (n : ℕ) (hd : dut c (roleN q.val) = {0}) (hn : n ≤ 15)
    (hl : ∀ t, 15 ≤ t + n → t < 15 → lvR (roleN q.val) < lvR (roleN (tgt t).2.val)) {P : sProp 𝕄} (hP : pay I c (roleN q.val) 0 = P)
    {sem : DmaSem sig} (hs : sem = semD q) {sp sp' : Space} {s s' : Shape} {e e' : EltTy} {src : Memref sig .tc sp' s' e'} {dst : Memref sig .tc sp s e}
    (ha : dst.view.dmaCredit = amt (roleN q.val)) {h1 h2}
    {Q : α → sProp 𝕄} {k : PUnit → Prog (TpuEff nD τ sig (Elt F) Λ₀ .tc) α} :
    iprop(env I K ∗ cred (tallyAt (dCell c q) () (amt (roleN q.val))) ∗ owesE c n ∗ atPos ER (dCell c q) 0 ∅ 0)
      ⊢ iprop(((owesE c n ∗ atPos ER (dCell c q) 1 ∅ 0 ∗ P) -∗ WP c (k ⟨⟩) Q)
        -∗ WP c (.op (.waitDma2 sem src dst h1 h2) k) Q) := by
  subst hs
  subst hP
  iintro ⟨#HE, HC, HO, HA⟩ Hk
  unfold owesE
  icases HO with ⟨%W, HO⟩
  ihave HB := (env_D I K c q) $$ HE
  icases HB with ⟨HI, HR⟩
  ihave HL := (env_L I K) $$ HE
  rw [← ha]
  iapply (Rounds.wp_wait_rest_token 𝒱₀ ER (Rd I) (c : Thread nD τ) none (κ := K (c, kD q))
      (wpE_waitDma2_eq 𝒱₀ (c : Thread nD τ) none Set.univ) (Set.mem_univ _) () (O := owd c n) (W := W) (R := 0) (m := 0) (T := ∅)
      (by rw [Nat.zero_add, expect_D I c q hd, ha])) $$ [HI HC HO HA HL]
  · isplitl [HI]; · iexact HI
    isplitl [HC]; · iexact HC
    isplitl [HO]; · iexact HO
    isplitl [HL]
    · iapply (mayWait_owd (F := F) c (.dma (semD q)) n hn (by rw [role_semD]; exact hl)); iexact HL
    iexact HA
  iintro ⟨HO, HA, -, HP⟩
  ihave HP' := (Entails.of_eq (rest_D I c q hd)) $$ HP
  iapply Hk
  isplitl [HO]; · iexists _; iexact HO
  isplitl [HA]; · iexact HA
  iexact HP'

/-- A cell closes: its counter is at zero for good. -/
theorem close_k (k : Fin 41) (R : ℕ) (hR : 1 ≤ R) :
    iprop(env I K ∗ atPos ER (kcell (c, k)) R ∅ 0) ⊢ (|={Set.univ}=> semVal (kcell (c, k)) 0 : sProp 𝕄) := by
  iintro ⟨#HE, HA⟩
  ihave HB := (env_k I K (c, k)) $$ HE
  icases HB with ⟨HI, HR⟩
  iapply (Rounds.cell_close ER (Rd I) (Set.mem_univ (K (c, k))) (fun h => h) (R := R) (fun r hr => duties_later I (kcell (c, k)) r (le_trans hR hr)))
  isplitl [HI] <;> iassumption

theorem close_0 (k : Fin 41) (h : dut c (role (csem k)) = ∅) :
    iprop(env I K ∗ atPos ER (kcell (c, k)) 0 ∅ 0) ⊢ (|={Set.univ}=> semVal (kcell (c, k)) 0 : sProp 𝕄) := by
  iintro ⟨#HE, HA⟩
  ihave HB := (env_k I K (c, k)) $$ HE
  icases HB with ⟨HI, HR⟩
  iapply (Rounds.cell_close ER (Rd I) (Set.mem_univ (K (c, k))) (fun h => h) (R := 0) (fun r hr => by
    rcases Nat.eq_zero_or_pos r with rfl | h'
    · have h2 : (0 : ℕ) = 0 ∧ (kcell (c, k)).1.2 = .tc := ⟨rfl, rfl⟩
      dsimp only [Rd]
      rw [if_pos h2]; exact h
    · exact duties_later I (kcell (c, k)) r h'))
  isplitl [HI] <;> iassumption

/-! ## What the views of a transfer cover, and what lands -/

theorem set_vSlotO (g : Fin 2) (j : Fin 4) (inb) : (vSlotO ![g.val, j.val, 0, 0] inb).view.set = oSlot g j := by
  refine (View.set_reshape _ _).trans ((View.set_slice_whole _ _).trans (unit_set _ fun i => ?_))
  rw [mem_oSlot]
  have h2 : (i 2).val < 128 := (i 2).isLt
  have h3 : (i 3).val < 512 := (i 3).isLt
  constructor
  · intro h a; revert a; refine forall4 ?_ ?_ ?_ ?_ <;> simp <;> omega
  · intro h; have h0 := h 0; have h1 := h 1; simp at h0 h1; omega
theorem set_vRowsO (g : Fin 2) (b : Dev nD) (inb) : (vRowsO ![g.val, 128 * b.val, 0] inb).view.set = oRows g b := by
  refine (View.set_reshape _ _).trans ((View.set_slice_whole _ _).trans (unit_set _ fun i => ?_))
  rw [mem_oRows]
  have h2 : (i 2).val < 512 := (i 2).isLt
  constructor
  · intro h a; revert a; refine forall3 ?_ ?_ ?_ <;> simp <;> omega
  · intro h; have h0 := h 0; have h1 := h 1; simp at h0 h1; omega
theorem emb_vSlotO (g : Fin 2) (j : Fin 4) (inb) (x : Fin 128) (y : Fin 512) :
    (vSlotO ![g.val, j.val, 0, 0] inb).view.emb (ix2 x y) = ix4 g j x y := by
  show ((B8.slice (Rect.unit (s := S2x4x128x512) ![g.val, j.val, 0, 0] S1x1x128x512.size inb) (fun _ => rfl)).view.emb
    (Shape.reshapeEquiv _ (ix2 x y))) = _
  rw [reshapeEquiv_ix2_11ab]
  funext a; refine Fin.ext ?_
  show (Rect.emb (Rect.unit (s := S2x4x128x512) ![g.val, j.val, 0, 0] S1x1x128x512.size inb) (ix4 (0 : Fin 1) (0 : Fin 1) x y) a).val = _
  fin_cases a <;> simp [Rect.emb_apply, ix4]
theorem emb_vRowsO (g : Fin 2) (b : Dev nD) (inb) (x : Fin 128) (y : Fin 512) :
    (vRowsO ![g.val, 128 * b.val, 0] inb).view.emb (ix2 x y) = ix3 g (rowOf b x) y := by
  show ((B6.slice (Rect.unit (s := S2x512x512) ![g.val, 128 * b.val, 0] S1x128x512.size inb) (fun _ => rfl)).view.emb
    (Shape.reshapeEquiv _ (ix2 x y))) = _
  rw [reshapeEquiv_ix2_1ab]
  funext a; refine Fin.ext ?_
  show (Rect.emb (Rect.unit (s := S2x512x512) ![g.val, 128 * b.val, 0] S1x128x512.size inb) (ix3 (0 : Fin 1) x y) a).val = _
  fin_cases a <;> simp [Rect.emb_apply, ix3, rowOf, at4]
/-- What lands in the slot is what the slot is to hold. -/
theorem landed_o (g : Fin 2) (off : Fin 4) (i1 i2) (fd : Vec F S2x4x128x512 .bf16) :
    (p8 (aft c off) (oSlot g (neg off)) ((vSlotO ![g.val, (neg off).val, 0, 0] i1).view.write (Elt F) fd
      ((vRowsO ![g.val, 128 * (aft c off).val, 0] i2).view.read (Elt F) (oC I c)) Finset.univ) : sProp 𝕄)
      = p8 (aft c off) (oSlot g (neg off)) (oS I (aft c off)) := by
  unfold p8
  refine pointsTo_congr fun i hi => ?_
  rw [← set_vSlotO g (neg off) i1] at hi
  obtain ⟨x, -, rfl⟩ := Finset.mem_map.mp hi
  obtain ⟨y, z, rfl⟩ : ∃ (y : Fin 128) (z : Fin 512), x = ix2 y z := ⟨x 0, x 1, by funext a; fin_cases a <;> rfl⟩
  refine (View.write_emb_of_mem _ _ (Finset.mem_univ _)).trans ?_
  show oC I c ((vRowsO ![g.val, 128 * (aft c off).val, 0] i2).view.emb (ix2 y z)) = _
  rw [emb_vRowsO, emb_vSlotO]
  show _ = oC I (aft (aft c off) (neg off)) (ix3 g (rowOf (aft c off) y) z)
  rw [aft_neg]

/-- A transfer of a row block into the peer's slot. -/
theorem send_o (m : ℕ) (g : Fin 2) (off : Fin 4) (h0 : off ≠ 0) (ht : tgt (14 - m) = (off, kOR g (neg off)))
    {n : Dev nD} (hn : n = aft c off) {o8 i8} (h8 : o8 = ![g.val, (neg off).val, 0, 0]) {o6 i6} (h6 : o6 = ![g.val, 128 * (aft c off).val, 0])
    {sS sR : DmaSem sig} (hS : sS = semD (kOS g off)) (hR : sR = semD (kOR g (neg off)))
    {hsc : (vSlotO o8 i8 : Memref sig (Dev.tc n : Thread nD τ).2.kind .vmem S128x512 .bf16).view.ref.isScScratch = false}
    {hsrc : (vRowsO o6 i6).view.WordExact} {hdst : (vSlotO o8 i8 : Memref sig (Dev.tc n : Thread nD τ).2.kind .vmem S128x512 .bf16).view.WordExact}
    {hsem : DmaTarget.Typed .vmem (.dma sR) (.remote (Dev.tc n : Thread nD τ) (vSlotO o8 i8 : Memref sig .tc .vmem S128x512 .bf16) (.dma sS) hsc)}
    {Q : α → sProp 𝕄} {k : PUnit → Prog (TpuEff nD τ sig (Elt F) Λ₀ .tc) α} :
    iprop(env I K ∗ p6 c (oRows g (aft c off)) (oC I c) ∗ (∃ f, p8 (aft c off) (oSlot g (neg off)) f) ∗ owesE c (m + 1)
        ∗ dutyTok ER (dCell c (kOS g off)) 0 0 ∗ dutyTok ER (dCell (aft c off) (kOR g (neg off))) 0 0)
      ⊢ iprop(((cred (tallyAt (dCell c (kOS g off)) () NO) ∗ owesE c m) -∗ WP c (k ⟨⟩) Q)
        -∗ WP c (.op (.enqueueDma (vRowsO o6 i6) (.remote (Dev.tc n : Thread nD τ) (vSlotO o8 i8) (.dma sS) hsc) (.dma sR) hsrc hdst hsem) k) Q) := by
  subst hn; subst h8; subst h6; subst hS; subst hR
  iintro ⟨#HE, HX, ⟨%fd, HY⟩, HO, HT1, HT2⟩ Hk
  unfold owesE
  icases HO with ⟨%W, HO⟩
  ihave HB := (env_D I K c (kOS g off)) $$ HE
  icases HB with ⟨HI1, HR1⟩
  ihave HB := (env_D I K (aft c off) (kOR g (neg off))) $$ HE
  icases HB with ⟨HI2, HR2⟩
  have hneg : neg off ≠ 0 := neg_ne off h0
  iapply (Rounds.wp_send_pointsTo 𝒱₀ ER (Rd I) (c : Thread nD τ) none (κ₁ := K (c, kD (kOS g off))) (κ₂ := K (aft c off, kD (kOR g (neg off))))
    (r₁ := 0) (r₂ := 0) (d₁ := (0 : Dev nD)) (d₂ := (0 : Dev nD)) (fs := oC I c) (fd := fd) (q := fullShare)
    (by rw [duties_D, role_kOS]; show _ ∈ (if off = 0 then ∅ else {0}); rw [if_neg h0]; exact Finset.mem_singleton_self _)
    (by rw [duties_D, role_kOR]; show _ ∈ (if neg off = 0 then ∅ else {0}); rw [if_neg hneg]; exact Finset.mem_singleton_self _)
    () () NO rfl (by rw [amount_D, role_kOS]; rfl) (by rw [amount_D, role_kOR]; rfl) (owd c m)
    (by show owd c m + tal c (14 - m) = _; unfold tal tCell; rw [ht]; dsimp only; rw [role_kOR]; rfl) (W := W)
    (by rw [payload_D, role_kOS, set_vRowsO]; exact BI.Entails.refl _)
    (by rw [payload_D, role_kOR, set_vSlotO]; exact Entails.of_eq (landed_o I c g off i8 i6 fd))) $$ [HI1 HR1 HI2 HR2 HX HY HO HT1 HT2]
  · isplitl [HI1]; · iexact HI1
    isplitl [HI2]; · iexact HI2
    isplitl [HX]; · rw [set_vRowsO]; unfold p6; iexact HX
    isplitl [HY]; · rw [set_vSlotO]; unfold p8; iexact HY
    isplitl [HO]; · iexact HO
    isplitl [HT1]; · iexact HT1
    isplitl [HR1]; · iexact HR1
    isplitl [HT2]; · iexact HT2
    iexact HR2
  iintro ⟨HC, HO⟩
  iapply Hk
  isplitl [HC]; · iexact HC
  iexists W; iexact HO

theorem set_vSlotM (g : Fin 2) (j : Fin 4) (inb) : (vSlotM ![g.val, j.val, 0, 0] inb).view.set = mSlot g j := by
  refine (View.set_reshape _ _).trans ((View.set_slice_whole _ _).trans (unit_set _ fun i => ?_))
  rw [mem_mSlot]
  have h2 : (i 2).val < 128 := (i 2).isLt
  have h3 : (i 3).val < 8 := (i 3).isLt
  constructor
  · intro h a; revert a; refine forall4 ?_ ?_ ?_ ?_ <;> simp <;> omega
  · intro h; have h0 := h 0; have h1 := h 1; simp at h0 h1; omega
theorem set_vRowsM (g : Fin 2) (b : Dev nD) (inb) : (vRowsM ![g.val, 128 * b.val, 0] inb).view.set = mRows g b := by
  refine (View.set_reshape _ _).trans ((View.set_slice_whole _ _).trans (unit_set _ fun i => ?_))
  rw [mem_mRows]
  have h2 : (i 2).val < 8 := (i 2).isLt
  constructor
  · intro h a; revert a; refine forall3 ?_ ?_ ?_ <;> simp <;> omega
  · intro h; have h0 := h 0; have h1 := h 1; simp at h0 h1; omega
theorem emb_vSlotM (g : Fin 2) (j : Fin 4) (inb) (x : Fin 128) (y : Fin 8) :
    (vSlotM ![g.val, j.val, 0, 0] inb).view.emb (ix2 x y) = ix4 g j x y := by
  show ((B9.slice (Rect.unit (s := S2x4x128x8) ![g.val, j.val, 0, 0] S1x1x128x8.size inb) (fun _ => rfl)).view.emb
    (Shape.reshapeEquiv _ (ix2 x y))) = _
  rw [reshapeEquiv_ix2_11ab]
  funext a; refine Fin.ext ?_
  show (Rect.emb (Rect.unit (s := S2x4x128x8) ![g.val, j.val, 0, 0] S1x1x128x8.size inb) (ix4 (0 : Fin 1) (0 : Fin 1) x y) a).val = _
  fin_cases a <;> simp [Rect.emb_apply, ix4]
theorem emb_vRowsM (g : Fin 2) (b : Dev nD) (inb) (x : Fin 128) (y : Fin 8) :
    (vRowsM ![g.val, 128 * b.val, 0] inb).view.emb (ix2 x y) = ix3 g (rowOf b x) y := by
  show ((B7.slice (Rect.unit (s := S2x512x8) ![g.val, 128 * b.val, 0] S1x128x8.size inb) (fun _ => rfl)).view.emb
    (Shape.reshapeEquiv _ (ix2 x y))) = _
  rw [reshapeEquiv_ix2_1ab]
  funext a; refine Fin.ext ?_
  show (Rect.emb (Rect.unit (s := S2x512x8) ![g.val, 128 * b.val, 0] S1x128x8.size inb) (ix3 (0 : Fin 1) x y) a).val = _
  fin_cases a <;> simp [Rect.emb_apply, ix3, rowOf, at4]
/-- What lands in the slot is what the slot is to hold. -/
theorem landed_m (g : Fin 2) (off : Fin 4) (i1 i2) (fd : Vec F S2x4x128x8 .f32) :
    (p9 (aft c off) (mSlot g (neg off)) ((vSlotM ![g.val, (neg off).val, 0, 0] i1).view.write (Elt F) fd
      ((vRowsM ![g.val, 128 * (aft c off).val, 0] i2).view.read (Elt F) (mC I c)) Finset.univ) : sProp 𝕄)
      = p9 (aft c off) (mSlot g (neg off)) (mS I (aft c off)) := by
  unfold p9
  refine pointsTo_congr fun i hi => ?_
  rw [← set_vSlotM g (neg off) i1] at hi
  obtain ⟨x, -, rfl⟩ := Finset.mem_map.mp hi
  obtain ⟨y, z, rfl⟩ : ∃ (y : Fin 128) (z : Fin 8), x = ix2 y z := ⟨x 0, x 1, by funext a; fin_cases a <;> rfl⟩
  refine (View.write_emb_of_mem _ _ (Finset.mem_univ _)).trans ?_
  show mC I c ((vRowsM ![g.val, 128 * (aft c off).val, 0] i2).view.emb (ix2 y z)) = _
  rw [emb_vRowsM, emb_vSlotM]
  show _ = mC I (aft (aft c off) (neg off)) (ix3 g (rowOf (aft c off) y) z)
  rw [aft_neg]

/-- A transfer of a row block into the peer's slot. -/
theorem send_m (m : ℕ) (g : Fin 2) (off : Fin 4) (h0 : off ≠ 0) (ht : tgt (14 - m) = (off, kMR g (neg off)))
    {n : Dev nD} (hn : n = aft c off) {o8 i8} (h8 : o8 = ![g.val, (neg off).val, 0, 0]) {o6 i6} (h6 : o6 = ![g.val, 128 * (aft c off).val, 0])
    {sS sR : DmaSem sig} (hS : sS = semD (kMS g off)) (hR : sR = semD (kMR g (neg off)))
    {hsc : (vSlotM o8 i8 : Memref sig (Dev.tc n : Thread nD τ).2.kind .vmem S128x8 .f32).view.ref.isScScratch = false}
    {hsrc : (vRowsM o6 i6).view.WordExact} {hdst : (vSlotM o8 i8 : Memref sig (Dev.tc n : Thread nD τ).2.kind .vmem S128x8 .f32).view.WordExact}
    {hsem : DmaTarget.Typed .vmem (.dma sR) (.remote (Dev.tc n : Thread nD τ) (vSlotM o8 i8 : Memref sig .tc .vmem S128x8 .f32) (.dma sS) hsc)}
    {Q : α → sProp 𝕄} {k : PUnit → Prog (TpuEff nD τ sig (Elt F) Λ₀ .tc) α} :
    iprop(env I K ∗ p7 c (mRows g (aft c off)) (mC I c) ∗ (∃ f, p9 (aft c off) (mSlot g (neg off)) f) ∗ owesE c (m + 1)
        ∗ dutyTok ER (dCell c (kMS g off)) 0 0 ∗ dutyTok ER (dCell (aft c off) (kMR g (neg off))) 0 0)
      ⊢ iprop(((cred (tallyAt (dCell c (kMS g off)) () NM) ∗ owesE c m) -∗ WP c (k ⟨⟩) Q)
        -∗ WP c (.op (.enqueueDma (vRowsM o6 i6) (.remote (Dev.tc n : Thread nD τ) (vSlotM o8 i8) (.dma sS) hsc) (.dma sR) hsrc hdst hsem) k) Q) := by
  subst hn; subst h8; subst h6; subst hS; subst hR
  iintro ⟨#HE, HX, ⟨%fd, HY⟩, HO, HT1, HT2⟩ Hk
  unfold owesE
  icases HO with ⟨%W, HO⟩
  ihave HB := (env_D I K c (kMS g off)) $$ HE
  icases HB with ⟨HI1, HR1⟩
  ihave HB := (env_D I K (aft c off) (kMR g (neg off))) $$ HE
  icases HB with ⟨HI2, HR2⟩
  have hneg : neg off ≠ 0 := neg_ne off h0
  iapply (Rounds.wp_send_pointsTo 𝒱₀ ER (Rd I) (c : Thread nD τ) none (κ₁ := K (c, kD (kMS g off))) (κ₂ := K (aft c off, kD (kMR g (neg off))))
    (r₁ := 0) (r₂ := 0) (d₁ := (0 : Dev nD)) (d₂ := (0 : Dev nD)) (fs := mC I c) (fd := fd) (q := fullShare)
    (by rw [duties_D, role_kMS]; show _ ∈ (if off = 0 then ∅ else {0}); rw [if_neg h0]; exact Finset.mem_singleton_self _)
    (by rw [duties_D, role_kMR]; show _ ∈ (if neg off = 0 then ∅ else {0}); rw [if_neg hneg]; exact Finset.mem_singleton_self _)
    () () NM rfl (by rw [amount_D, role_kMS]; rfl) (by rw [amount_D, role_kMR]; rfl) (owd c m)
    (by show owd c m + tal c (14 - m) = _; unfold tal tCell; rw [ht]; dsimp only; rw [role_kMR]; rfl) (W := W)
    (by rw [payload_D, role_kMS, set_vRowsM]; exact BI.Entails.refl _)
    (by rw [payload_D, role_kMR, set_vSlotM]; exact Entails.of_eq (landed_m I c g off i8 i6 fd))) $$ [HI1 HR1 HI2 HR2 HX HY HO HT1 HT2]
  · isplitl [HI1]; · iexact HI1
    isplitl [HI2]; · iexact HI2
    isplitl [HX]; · rw [set_vRowsM]; unfold p7; iexact HX
    isplitl [HY]; · rw [set_vSlotM]; unfold p9; iexact HY
    isplitl [HO]; · iexact HO
    isplitl [HT1]; · iexact HT1
    isplitl [HR1]; · iexact HR1
    isplitl [HT2]; · iexact HT2
    iexact HR2
  iintro ⟨HC, HO⟩
  iapply Hk
  isplitl [HC]; · iexact HC
  iexists W; iexact HO

theorem set_vRowsU (b : Dev nD) (inb) : (vRowsU ![128 * b.val, 0] inb).view.set = uRows b := by
  refine (View.set_slice_whole _ _).trans (unit_set _ fun i => ?_)
  rw [mem_uRows]
  have h2 : (i 1).val < 1024 := (i 1).isLt
  constructor
  · intro h a; revert a; refine forall2 ?_ ?_ <;> simp <;> omega
  · intro h; have h0 := h 0; simp at h0; omega
/-- What lands in a peer's rows of the result is what they are to hold. -/
theorem landed_u (b d : Dev nD) (i1 i2) (fd : Vec F S512x1024 .bf16) :
    (p5 d (uRows b) fullShare ((vRowsU ![128 * b.val, 0] i1).view.write (Elt F) fd
      ((vRowsU ![128 * b.val, 0] i2).view.read (Elt F) (outC I)) Finset.univ) : sProp 𝕄)
      = p5 d (uRows b) fullShare (outC I) := by
  unfold p5
  refine pointsTo_congr fun i hi => ?_
  rw [← set_vRowsU b i1] at hi
  obtain ⟨x, -, rfl⟩ := Finset.mem_map.mp hi
  exact View.write_emb_of_mem _ _ (Finset.mem_univ _)

/-- A transfer of the finished row block into a peer's result. -/
theorem send_u (m : ℕ) (off : Fin 4) (h0 : off ≠ 0) (ht : tgt (14 - m) = (off, kAR (neg off)))
    {n : Dev nD} (hn : n = aft c off) {o8 i8} (h8 : o8 = ![128 * c.val, 0]) {o6 i6} (h6 : o6 = ![128 * c.val, 0])
    {sS sR : DmaSem sig} (hS : sS = semD (kAS off)) (hR : sR = semD (kAR (neg off)))
    {hsc : (vRowsU o8 i8 : Memref sig (Dev.tc n : Thread nD τ).2.kind .vmem S128x1024 .bf16).view.ref.isScScratch = false}
    {hsrc : (vRowsU o6 i6).view.WordExact} {hdst : (vRowsU o8 i8 : Memref sig (Dev.tc n : Thread nD τ).2.kind .vmem S128x1024 .bf16).view.WordExact}
    {hsem : DmaTarget.Typed .vmem (.dma sR) (.remote (Dev.tc n : Thread nD τ) (vRowsU o8 i8 : Memref sig .tc .vmem S128x1024 .bf16) (.dma sS) hsc)}
    {Q : α → sProp 𝕄} {k : PUnit → Prog (TpuEff nD τ sig (Elt F) Λ₀ .tc) α} :
    iprop(env I K ∗ p5 c (uRows c) (sh off) (outC I) ∗ (∃ f, p5 (aft c off) (uRows c) fullShare f) ∗ owesE c (m + 1)
        ∗ dutyTok ER (dCell c (kAS off)) 0 0 ∗ dutyTok ER (dCell (aft c off) (kAR (neg off))) 0 0)
      ⊢ iprop(((cred (tallyAt (dCell c (kAS off)) () NA) ∗ owesE c m) -∗ WP c (k ⟨⟩) Q)
        -∗ WP c (.op (.enqueueDma (vRowsU o6 i6) (.remote (Dev.tc n : Thread nD τ) (vRowsU o8 i8) (.dma sS) hsc) (.dma sR) hsrc hdst hsem) k) Q) := by
  subst hn; subst h8; subst h6; subst hS; subst hR
  iintro ⟨#HE, HX, ⟨%fd, HY⟩, HO, HT1, HT2⟩ Hk
  unfold owesE
  icases HO with ⟨%W, HO⟩
  ihave HB := (env_D I K c (kAS off)) $$ HE
  icases HB with ⟨HI1, HR1⟩
  ihave HB := (env_D I K (aft c off) (kAR (neg off))) $$ HE
  icases HB with ⟨HI2, HR2⟩
  have hneg : neg off ≠ 0 := neg_ne off h0
  iapply (Rounds.wp_send_pointsTo 𝒱₀ ER (Rd I) (c : Thread nD τ) none (κ₁ := K (c, kD (kAS off))) (κ₂ := K (aft c off, kD (kAR (neg off))))
    (r₁ := 0) (r₂ := 0) (d₁ := (0 : Dev nD)) (d₂ := (0 : Dev nD)) (fs := outC I) (fd := fd) (q := sh off)
    (by rw [duties_D, role_kAS]; show _ ∈ (if off = 0 then ∅ else {0}); rw [if_neg h0]; exact Finset.mem_singleton_self _)
    (by rw [duties_D, role_kAR]; show _ ∈ (if neg off = 0 then ∅ else {0}); rw [if_neg hneg]; exact Finset.mem_singleton_self _)
    () () NA rfl (by rw [amount_D, role_kAS]; rfl) (by rw [amount_D, role_kAR]; rfl) (owd c m)
    (by show owd c m + tal c (14 - m) = _; unfold tal tCell; rw [ht]; dsimp only; rw [role_kAR]; rfl) (W := W)
    (by rw [payload_D, role_kAS, set_vRowsU]; exact BI.Entails.refl _)
    (by
      rw [payload_D, role_kAR, set_vRowsU]
      refine (Entails.of_eq (landed_u I c (aft c off) i8 i6 fd)).trans (Entails.of_eq ?_)
      show _ = p5 (aft c off) (uRows (aft (aft c off) (neg off))) fullShare (outC I)
      rw [aft_neg])) $$ [HI1 HR1 HI2 HR2 HX HY HO HT1 HT2]
  · isplitl [HI1]; · iexact HI1
    isplitl [HI2]; · iexact HI2
    isplitl [HX]; · rw [set_vRowsU]; unfold p5; iexact HX
    isplitl [HY]; · rw [set_vRowsU]; unfold p5; iexact HY
    isplitl [HO]; · iexact HO
    isplitl [HT1]; · iexact HT1
    isplitl [HR1]; · iexact HR1
    isplitl [HT2]; · iexact HT2
    iexact HR2
  iintro ⟨HC, HO⟩
  iapply Hk
  isplitl [HC]; · iexact HC
  iexists W; iexact HO

end Comm
end Cert.KernelIdeal.K
-- ==== Proof.KernelIdeal.Split.lean ====
/- Cutting the buffers into the pieces the body works on, and putting them together again. -/
module

public import proofs.«01_k».proof.Proof.KernelIdeal.Comm

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

section Split
omit [FloatOps F]
variable (c : Dev nD)

theorem aft_inj : ∀ (c : Dev nD) (j j' : Fin 4), aft c j = aft c j' → j = j' := by decide
theorem aft_zero : ∀ c : Dev nD, aft c 0 = c := by decide

/-- The device whose row block a row lies in. -/
def blk (n : ℕ) (h : n < 512) : Dev nD := ⟨n / 128, by show n / 128 < 4; omega⟩

def oSlab (g : Fin 2) : Finset S2x512x512.Idx := Finset.univ.filter fun i => (i 0).val = g.val
def mSlab (g : Fin 2) : Finset S2x512x8.Idx := Finset.univ.filter fun i => (i 0).val = g.val
theorem mem_oSlab (g i) : i ∈ oSlab g ↔ (i 0).val = g.val := by simp [oSlab]
theorem mem_mSlab (g i) : i ∈ mSlab g ↔ (i 0).val = g.val := by simp [mSlab]

theorem slab6_strips (g : Fin 2) (f : Vec F S2x512x512 .bf16) :
    (p6 c (oSlab g) f : sProp 𝕄) = iprop(p6 c (oStrip g 0) f ∗ p6 c (oStrip g 1) f ∗ p6 c (oStrip g 2) f ∗ p6 c (oStrip g 3) f) := by
  have hu : (oSlab g) = (Finset.univ : Finset (Fin 4)).biUnion (fun t => oStrip g t) := by
    ext i
    simp only [Finset.mem_biUnion, Finset.mem_univ, true_and, mem_oSlab, mem_oStrip]
    have h2 : (i 2).val < 512 := (i 2).isLt
    constructor
    · intro h; exact ⟨⟨(i 2).val / 128, by omega⟩, by simp; omega⟩
    · rintro ⟨t, h, -⟩; exact h
  have hd : ∀ t ∈ (Finset.univ : Finset (Fin 4)), ∀ t' ∈ (Finset.univ : Finset (Fin 4)), t ≠ t' → Disjoint ((fun t => oStrip g t) t) ((fun t => oStrip g t) t') := by
    intro t _ t' _ hne
    rw [Finset.disjoint_left]
    intro i hi hi'
    simp only [mem_oSlab, mem_oStrip] at hi hi'
    exact hne (Fin.ext (by omega))
  rw [hu]
  unfold p6
  rw [pointsTo_biUnion _ _ hd, bigSep_univ_eq_bigSepL [0, 1, 2, 3] (by decide) (by decide)]
  rfl

theorem slab7_strips (g : Fin 2) (f : Vec F S2x512x8 .f32) :
    (p7 c (mSlab g) f : sProp 𝕄) = iprop(p7 c (mStrip g 0) f ∗ p7 c (mStrip g 1) f ∗ p7 c (mStrip g 2) f ∗ p7 c (mStrip g 3) f ∗ p7 c (mStrip g 4) f ∗ p7 c (mStrip g 5) f ∗ p7 c (mStrip g 6) f ∗ p7 c (mStrip g 7) f) := by
  have hu : (mSlab g) = (Finset.univ : Finset (Fin 8)).biUnion (fun t => mStrip g t) := by
    ext i
    simp only [Finset.mem_biUnion, Finset.mem_univ, true_and, mem_mSlab, mem_mStrip]
    have h2 : (i 2).val < 8 := (i 2).isLt
    constructor
    · intro h; exact ⟨⟨(i 2).val, by omega⟩, h, rfl⟩
    · rintro ⟨t, h, -⟩; exact h
  have hd : ∀ t ∈ (Finset.univ : Finset (Fin 8)), ∀ t' ∈ (Finset.univ : Finset (Fin 8)), t ≠ t' → Disjoint ((fun t => mStrip g t) t) ((fun t => mStrip g t) t') := by
    intro t _ t' _ hne
    rw [Finset.disjoint_left]
    intro i hi hi'
    simp only [mem_mSlab, mem_mStrip] at hi hi'
    exact hne (Fin.ext (by omega))
  rw [hu]
  unfold p7
  rw [pointsTo_biUnion _ _ hd, bigSep_univ_eq_bigSepL [0, 1, 2, 3, 4, 5, 6, 7] (by decide) (by decide)]
  rfl

theorem slab6_rows (g : Fin 2) (f : Vec F S2x512x512 .bf16) :
    (p6 c (oSlab g) f : sProp 𝕄) = iprop(p6 c (oRows g c) f ∗ p6 c (oRows g (aft c 1)) f ∗ p6 c (oRows g (aft c 2)) f ∗ p6 c (oRows g (aft c 3)) f) := by
  have hu : (oSlab g) = (Finset.univ : Finset (Fin 4)).biUnion (fun t => oRows g (aft c t)) := by
    ext i
    simp only [Finset.mem_biUnion, Finset.mem_univ, true_and, mem_oSlab, mem_oRows]
    have h1 : (i 1).val < 512 := (i 1).isLt
    constructor
    · intro h
      refine ⟨gap c (blk (i 1).val h1), ?_⟩
      rw [aft_gap]
      refine ⟨h, ?_⟩
      simp only [blk]; omega
    · rintro ⟨t, h, -⟩; exact h
  have hd : ∀ t ∈ (Finset.univ : Finset (Fin 4)), ∀ t' ∈ (Finset.univ : Finset (Fin 4)), t ≠ t' → Disjoint ((fun t => oRows g (aft c t)) t) ((fun t => oRows g (aft c t)) t') := by
    intro t _ t' _ hne
    rw [Finset.disjoint_left]
    intro i hi hi'
    simp only [mem_oSlab, mem_oRows] at hi hi'
    exact hne (aft_inj c t t' (Fin.ext (by omega)))
  rw [hu]
  unfold p6
  rw [pointsTo_biUnion _ _ hd, bigSep_univ_eq_bigSepL [0, 1, 2, 3] (by decide) (by decide)]
  rw [bigSepL_cons_cons, bigSepL_cons_cons, bigSepL_cons_cons, bigSepL_singleton, aft_zero]; rfl

theorem whole6 (f : Vec F S2x512x512 .bf16) :
    (p6 c (Finset.univ) f : sProp 𝕄) = iprop(p6 c (oSlab 0) f ∗ p6 c (oSlab 1) f) := by
  have hu : (Finset.univ) = (Finset.univ : Finset (Fin 2)).biUnion (fun t => oSlab t) := by
    ext i
    simp only [Finset.mem_biUnion, Finset.mem_univ, true_and, mem_oSlab]
    have h0 : (i 0).val < 2 := (i 0).isLt
    exact ⟨fun _ => ⟨⟨(i 0).val, h0⟩, rfl⟩, fun _ => trivial⟩
  have hd : ∀ t ∈ (Finset.univ : Finset (Fin 2)), ∀ t' ∈ (Finset.univ : Finset (Fin 2)), t ≠ t' → Disjoint ((fun t => oSlab t) t) ((fun t => oSlab t) t') := by
    intro t _ t' _ hne
    rw [Finset.disjoint_left]
    intro i hi hi'
    simp only [mem_oSlab] at hi hi'
    exact hne (Fin.ext (by omega))
  rw [hu]
  unfold p6
  rw [pointsTo_biUnion _ _ hd, bigSep_univ_eq_bigSepL [0, 1] (by decide) (by decide)]
  rfl

theorem slab7_rows (g : Fin 2) (f : Vec F S2x512x8 .f32) :
    (p7 c (mSlab g) f : sProp 𝕄) = iprop(p7 c (mRows g c) f ∗ p7 c (mRows g (aft c 1)) f ∗ p7 c (mRows g (aft c 2)) f ∗ p7 c (mRows g (aft c 3)) f) := by
  have hu : (mSlab g) = (Finset.univ : Finset (Fin 4)).biUnion (fun t => mRows g (aft c t)) := by
    ext i
    simp only [Finset.mem_biUnion, Finset.mem_univ, true_and, mem_mSlab, mem_mRows]
    have h1 : (i 1).val < 512 := (i 1).isLt
    constructor
    · intro h
      refine ⟨gap c (blk (i 1).val h1), ?_⟩
      rw [aft_gap]
      refine ⟨h, ?_⟩
      simp only [blk]; omega
    · rintro ⟨t, h, -⟩; exact h
  have hd : ∀ t ∈ (Finset.univ : Finset (Fin 4)), ∀ t' ∈ (Finset.univ : Finset (Fin 4)), t ≠ t' → Disjoint ((fun t => mRows g (aft c t)) t) ((fun t => mRows g (aft c t)) t') := by
    intro t _ t' _ hne
    rw [Finset.disjoint_left]
    intro i hi hi'
    simp only [mem_mSlab, mem_mRows] at hi hi'
    exact hne (aft_inj c t t' (Fin.ext (by omega)))
  rw [hu]
  unfold p7
  rw [pointsTo_biUnion _ _ hd, bigSep_univ_eq_bigSepL [0, 1, 2, 3] (by decide) (by decide)]
  rw [bigSepL_cons_cons, bigSepL_cons_cons, bigSepL_cons_cons, bigSepL_singleton, aft_zero]; rfl

theorem whole7 (f : Vec F S2x512x8 .f32) :
    (p7 c (Finset.univ) f : sProp 𝕄) = iprop(p7 c (mSlab 0) f ∗ p7 c (mSlab 1) f) := by
  have hu : (Finset.univ) = (Finset.univ : Finset (Fin 2)).biUnion (fun t => mSlab t) := by
    ext i
    simp only [Finset.mem_biUnion, Finset.mem_univ, true_and, mem_mSlab]
    have h0 : (i 0).val < 2 := (i 0).isLt
    exact ⟨fun _ => ⟨⟨(i 0).val, h0⟩, rfl⟩, fun _ => trivial⟩
  have hd : ∀ t ∈ (Finset.univ : Finset (Fin 2)), ∀ t' ∈ (Finset.univ : Finset (Fin 2)), t ≠ t' → Disjoint ((fun t => mSlab t) t) ((fun t => mSlab t) t') := by
    intro t _ t' _ hne
    rw [Finset.disjoint_left]
    intro i hi hi'
    simp only [mem_mSlab] at hi hi'
    exact hne (Fin.ext (by omega))
  rw [hu]
  unfold p7
  rw [pointsTo_biUnion _ _ hd, bigSep_univ_eq_bigSepL [0, 1] (by decide) (by decide)]
  rfl

theorem slots8 (f : Vec F S2x4x128x512 .bf16) :
    (p8 c (Finset.univ) f : sProp 𝕄) = iprop(p8 c (oSlot 0 0) f ∗ p8 c (oSlot 0 1) f ∗ p8 c (oSlot 0 2) f ∗ p8 c (oSlot 0 3) f ∗ p8 c (oSlot 1 0) f ∗ p8 c (oSlot 1 1) f ∗ p8 c (oSlot 1 2) f ∗ p8 c (oSlot 1 3) f) := by
  have hu : (Finset.univ) = (Finset.univ : Finset (Fin 2 × Fin 4)).biUnion (fun t => oSlot t.1 t.2) := by
    ext i
    simp only [Finset.mem_biUnion, Finset.mem_univ, true_and, mem_oSlot]
    have h0 : (i 0).val < 2 := (i 0).isLt
    have h1 : (i 1).val < 4 := (i 1).isLt
    exact ⟨fun _ => ⟨(⟨(i 0).val, h0⟩, ⟨(i 1).val, h1⟩), rfl, rfl⟩, fun _ => trivial⟩
  have hd : ∀ t ∈ (Finset.univ : Finset (Fin 2 × Fin 4)), ∀ t' ∈ (Finset.univ : Finset (Fin 2 × Fin 4)), t ≠ t' → Disjoint ((fun t => oSlot t.1 t.2) t) ((fun t => oSlot t.1 t.2) t') := by
    intro t _ t' _ hne
    rw [Finset.disjoint_left]
    intro i hi hi'
    simp only [mem_oSlot] at hi hi'
    exact hne (Prod.ext (Fin.ext (by omega)) (Fin.ext (by omega)))
  rw [hu]
  unfold p8
  rw [pointsTo_biUnion _ _ hd, bigSep_univ_eq_bigSepL [(0, 0), (0, 1), (0, 2), (0, 3), (1, 0), (1, 1), (1, 2), (1, 3)] (by decide) (by decide)]
  rfl

theorem slots8_join :
    (iprop((∃ f, p8 c (oSlot 0 0) f) ∗ (∃ f, p8 c (oSlot 0 1) f) ∗ (∃ f, p8 c (oSlot 0 2) f) ∗ (∃ f, p8 c (oSlot 0 3) f) ∗ (∃ f, p8 c (oSlot 1 0) f) ∗ (∃ f, p8 c (oSlot 1 1) f) ∗ (∃ f, p8 c (oSlot 1 2) f) ∗ (∃ f, p8 c (oSlot 1 3) f)) : sProp 𝕄) ⊢ iprop(∃ f, p8 c Finset.univ f) := by
  have hu : (Finset.univ : Finset S2x4x128x512.Idx) = (Finset.univ : Finset (Fin 2 × Fin 4)).biUnion (fun t => oSlot t.1 t.2) := by
    ext i
    simp only [Finset.mem_biUnion, Finset.mem_univ, true_and, mem_oSlot]
    symm
    have h0 : (i 0).val < 2 := (i 0).isLt
    have h1 : (i 1).val < 4 := (i 1).isLt
    exact ⟨fun _ => trivial, fun _ => ⟨(⟨(i 0).val, h0⟩, ⟨(i 1).val, h1⟩), rfl, rfl⟩⟩
  have hd : ∀ t ∈ (Finset.univ : Finset (Fin 2 × Fin 4)), ∀ t' ∈ (Finset.univ : Finset (Fin 2 × Fin 4)), t ≠ t' →
      Disjoint ((fun t => oSlot t.1 t.2) t) ((fun t => oSlot t.1 t.2) t') := by
    intro t _ t' _ hne
    rw [Finset.disjoint_left]
    intro i hi hi'
    simp only [mem_oSlot] at hi hi'
    exact hne (Prod.ext (Fin.ext (by omega)) (Fin.ext (by omega)))
  iintro ⟨⟨%f00, H00⟩, ⟨%f01, H01⟩, ⟨%f02, H02⟩, ⟨%f03, H03⟩, ⟨%f10, H10⟩, ⟨%f11, H11⟩, ⟨%f12, H12⟩, ⟨%f13, H13⟩⟩
  let fs : Fin 2 × Fin 4 → Vec F S2x4x128x512 .bf16 := fun t => match t with
    | (0, 0) => f00 | (0, 1) => f01 | (0, 2) => f02 | (0, 3) => f03 | (1, 0) => f10 | (1, 1) => f11 | (1, 2) => f12 | (1, 3) => f13
  have key := pointsTo_biUnion_join (Ix := Unit) (Name := ℕ) (U := UU) (Lvl := ℕ) (q := fullShare) (ℓ := B8.view.loc (c : Thread nD τ)) (Finset.univ : Finset (Fin 2 × Fin 4))
    (fun t => oSlot t.1 t.2) fs f00 hd
  rw [← hu, bigSep_univ_eq_bigSepL [(0, 0), (0, 1), (0, 2), (0, 3), (1, 0), (1, 1), (1, 2), (1, 3)] (by decide) (by decide)] at key
  rw [show (bigSepL [(0, 0), (0, 1), (0, 2), (0, 3), (1, 0), (1, 1), (1, 2), (1, 3)] fun t : Fin 2 × Fin 4 => (B8.view.loc (c : Thread nD τ) ↦[oSlot t.1 t.2]{fullShare} fs t : sProp 𝕄))
      = iprop(p8 c (oSlot 0 0) f00 ∗ p8 c (oSlot 0 1) f01 ∗ p8 c (oSlot 0 2) f02 ∗ p8 c (oSlot 0 3) f03 ∗ p8 c (oSlot 1 0) f10 ∗ p8 c (oSlot 1 1) f11 ∗ p8 c (oSlot 1 2) f12 ∗ p8 c (oSlot 1 3) f13) from rfl] at key
  ihave HX := key $$ [H00 H01 H02 H03 H10 H11 H12 H13]
  · skip
    isplitl [H00]; · iexact H00
    isplitl [H01]; · iexact H01
    isplitl [H02]; · iexact H02
    isplitl [H03]; · iexact H03
    isplitl [H10]; · iexact H10
    isplitl [H11]; · iexact H11
    isplitl [H12]; · iexact H12
    iexact H13
  icases HX with ⟨%f, -, HX⟩
  iexists f; unfold p8; iexact HX

theorem slots9 (f : Vec F S2x4x128x8 .f32) :
    (p9 c (Finset.univ) f : sProp 𝕄) = iprop(p9 c (mSlot 0 0) f ∗ p9 c (mSlot 0 1) f ∗ p9 c (mSlot 0 2) f ∗ p9 c (mSlot 0 3) f ∗ p9 c (mSlot 1 0) f ∗ p9 c (mSlot 1 1) f ∗ p9 c (mSlot 1 2) f ∗ p9 c (mSlot 1 3) f) := by
  have hu : (Finset.univ) = (Finset.univ : Finset (Fin 2 × Fin 4)).biUnion (fun t => mSlot t.1 t.2) := by
    ext i
    simp only [Finset.mem_biUnion, Finset.mem_univ, true_and, mem_mSlot]
    have h0 : (i 0).val < 2 := (i 0).isLt
    have h1 : (i 1).val < 4 := (i 1).isLt
    exact ⟨fun _ => ⟨(⟨(i 0).val, h0⟩, ⟨(i 1).val, h1⟩), rfl, rfl⟩, fun _ => trivial⟩
  have hd : ∀ t ∈ (Finset.univ : Finset (Fin 2 × Fin 4)), ∀ t' ∈ (Finset.univ : Finset (Fin 2 × Fin 4)), t ≠ t' → Disjoint ((fun t => mSlot t.1 t.2) t) ((fun t => mSlot t.1 t.2) t') := by
    intro t _ t' _ hne
    rw [Finset.disjoint_left]
    intro i hi hi'
    simp only [mem_mSlot] at hi hi'
    exact hne (Prod.ext (Fin.ext (by omega)) (Fin.ext (by omega)))
  rw [hu]
  unfold p9
  rw [pointsTo_biUnion _ _ hd, bigSep_univ_eq_bigSepL [(0, 0), (0, 1), (0, 2), (0, 3), (1, 0), (1, 1), (1, 2), (1, 3)] (by decide) (by decide)]
  rfl

theorem slots9_join :
    (iprop((∃ f, p9 c (mSlot 0 0) f) ∗ (∃ f, p9 c (mSlot 0 1) f) ∗ (∃ f, p9 c (mSlot 0 2) f) ∗ (∃ f, p9 c (mSlot 0 3) f) ∗ (∃ f, p9 c (mSlot 1 0) f) ∗ (∃ f, p9 c (mSlot 1 1) f) ∗ (∃ f, p9 c (mSlot 1 2) f) ∗ (∃ f, p9 c (mSlot 1 3) f)) : sProp 𝕄) ⊢ iprop(∃ f, p9 c Finset.univ f) := by
  have hu : (Finset.univ : Finset S2x4x128x8.Idx) = (Finset.univ : Finset (Fin 2 × Fin 4)).biUnion (fun t => mSlot t.1 t.2) := by
    ext i
    simp only [Finset.mem_biUnion, Finset.mem_univ, true_and, mem_mSlot]
    symm
    have h0 : (i 0).val < 2 := (i 0).isLt
    have h1 : (i 1).val < 4 := (i 1).isLt
    exact ⟨fun _ => trivial, fun _ => ⟨(⟨(i 0).val, h0⟩, ⟨(i 1).val, h1⟩), rfl, rfl⟩⟩
  have hd : ∀ t ∈ (Finset.univ : Finset (Fin 2 × Fin 4)), ∀ t' ∈ (Finset.univ : Finset (Fin 2 × Fin 4)), t ≠ t' →
      Disjoint ((fun t => mSlot t.1 t.2) t) ((fun t => mSlot t.1 t.2) t') := by
    intro t _ t' _ hne
    rw [Finset.disjoint_left]
    intro i hi hi'
    simp only [mem_mSlot] at hi hi'
    exact hne (Prod.ext (Fin.ext (by omega)) (Fin.ext (by omega)))
  iintro ⟨⟨%f00, H00⟩, ⟨%f01, H01⟩, ⟨%f02, H02⟩, ⟨%f03, H03⟩, ⟨%f10, H10⟩, ⟨%f11, H11⟩, ⟨%f12, H12⟩, ⟨%f13, H13⟩⟩
  let fs : Fin 2 × Fin 4 → Vec F S2x4x128x8 .f32 := fun t => match t with
    | (0, 0) => f00 | (0, 1) => f01 | (0, 2) => f02 | (0, 3) => f03 | (1, 0) => f10 | (1, 1) => f11 | (1, 2) => f12 | (1, 3) => f13
  have key := pointsTo_biUnion_join (Ix := Unit) (Name := ℕ) (U := UU) (Lvl := ℕ) (q := fullShare) (ℓ := B9.view.loc (c : Thread nD τ)) (Finset.univ : Finset (Fin 2 × Fin 4))
    (fun t => mSlot t.1 t.2) fs f00 hd
  rw [← hu, bigSep_univ_eq_bigSepL [(0, 0), (0, 1), (0, 2), (0, 3), (1, 0), (1, 1), (1, 2), (1, 3)] (by decide) (by decide)] at key
  rw [show (bigSepL [(0, 0), (0, 1), (0, 2), (0, 3), (1, 0), (1, 1), (1, 2), (1, 3)] fun t : Fin 2 × Fin 4 => (B9.view.loc (c : Thread nD τ) ↦[mSlot t.1 t.2]{fullShare} fs t : sProp 𝕄))
      = iprop(p9 c (mSlot 0 0) f00 ∗ p9 c (mSlot 0 1) f01 ∗ p9 c (mSlot 0 2) f02 ∗ p9 c (mSlot 0 3) f03 ∗ p9 c (mSlot 1 0) f10 ∗ p9 c (mSlot 1 1) f11 ∗ p9 c (mSlot 1 2) f12 ∗ p9 c (mSlot 1 3) f13) from rfl] at key
  ihave HX := key $$ [H00 H01 H02 H03 H10 H11 H12 H13]
  · skip
    isplitl [H00]; · iexact H00
    isplitl [H01]; · iexact H01
    isplitl [H02]; · iexact H02
    isplitl [H03]; · iexact H03
    isplitl [H10]; · iexact H10
    isplitl [H11]; · iexact H11
    isplitl [H12]; · iexact H12
    iexact H13
  icases HX with ⟨%f, -, HX⟩
  iexists f; unfold p9; iexact HX

theorem rows5 (q : PosShare TreeShare) (f : Vec F S512x1024 .bf16) :
    (p5 c (Finset.univ) q f : sProp 𝕄) = iprop(p5 c (uRows c) q f ∗ p5 c (uRows (aft c 1)) q f ∗ p5 c (uRows (aft c 2)) q f ∗ p5 c (uRows (aft c 3)) q f) := by
  have hu : (Finset.univ) = (Finset.univ : Finset (Fin 4)).biUnion (fun t => uRows (aft c t)) := by
    ext i
    simp only [Finset.mem_biUnion, Finset.mem_univ, true_and, mem_uRows]
    have h0 : (i 0).val < 512 := (i 0).isLt
    constructor
    · intro h
      refine ⟨gap c (blk (i 0).val h0), ?_⟩
      rw [aft_gap]
      simp only [blk]; omega
    · exact fun _ => trivial
  have hd : ∀ t ∈ (Finset.univ : Finset (Fin 4)), ∀ t' ∈ (Finset.univ : Finset (Fin 4)), t ≠ t' → Disjoint ((fun t => uRows (aft c t)) t) ((fun t => uRows (aft c t)) t') := by
    intro t _ t' _ hne
    rw [Finset.disjoint_left]
    intro i hi hi'
    simp only [mem_uRows] at hi hi'
    exact hne (aft_inj c t t' (Fin.ext (by omega)))
  rw [hu]
  unfold p5
  rw [pointsTo_biUnion _ _ hd, bigSep_univ_eq_bigSepL [0, 1, 2, 3] (by decide) (by decide)]
  rw [bigSepL_cons_cons, bigSepL_cons_cons, bigSepL_cons_cons, bigSepL_singleton, aft_zero]; rfl

theorem shares5 (S : Finset S512x1024.Idx) (f : Vec F S512x1024 .bf16) :
    (p5 c S fullShare f : sProp 𝕄) ⊣⊢ iprop(p5 c S (sh 1) f ∗ p5 c S (sh 2) f ∗ p5 c S (sh 3) f) := by
  unfold p5
  refine (pointsTo_share (PosShare.mem_left_op_right fullShare)).trans ?_
  exact ⟨sep_mono_right (pointsTo_share (PosShare.mem_left_op_right fullShare.right)).1,
    sep_mono_right (pointsTo_share (PosShare.mem_left_op_right fullShare.right)).2⟩

end Split
end Cert.KernelIdeal.K
-- ==== Proof.KernelIdeal.Ready.lean ====
/- The rules of the program's own places: its offsets and targets in closed form, each kind of wait with what it brings,
   and the regroupings of memory between the phases. -/
module

public import proofs.«01_k».proof.Proof.KernelIdeal.Split

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F)

/-! ## Targets and offsets -/

theorem dev1_at : ∀ c : Dev nD, (⟨k0_dev1 c, k0_dev1_lt c⟩ : Dev nD) = aft c 1 := by decide +kernel
theorem dev2_at : ∀ c : Dev nD, (⟨k0_dev2 c, k0_dev2_lt c⟩ : Dev nD) = aft c 2 := by decide +kernel
theorem dev3_at : ∀ c : Dev nD, (⟨k0_dev3 c, k0_dev3_lt c⟩ : Dev nD) = aft c 3 := by decide +kernel
theorem dev4_at : ∀ c : Dev nD, (⟨k0_dev4 c, k0_dev4_lt c⟩ : Dev nD) = aft c 1 := by decide +kernel
theorem dev5_at : ∀ c : Dev nD, (⟨k0_dev5 c, k0_dev5_lt c⟩ : Dev nD) = aft c 1 := by decide +kernel
theorem dev6_at : ∀ c : Dev nD, (⟨k0_dev6 c, k0_dev6_lt c⟩ : Dev nD) = aft c 2 := by decide +kernel
theorem dev7_at : ∀ c : Dev nD, (⟨k0_dev7 c, k0_dev7_lt c⟩ : Dev nD) = aft c 2 := by decide +kernel
theorem dev8_at : ∀ c : Dev nD, (⟨k0_dev8 c, k0_dev8_lt c⟩ : Dev nD) = aft c 3 := by decide +kernel
theorem dev9_at : ∀ c : Dev nD, (⟨k0_dev9 c, k0_dev9_lt c⟩ : Dev nD) = aft c 3 := by decide +kernel
theorem dev10_at : ∀ c : Dev nD, (⟨k0_dev10 c, k0_dev10_lt c⟩ : Dev nD) = aft c 1 := by decide +kernel
theorem dev11_at : ∀ c : Dev nD, (⟨k0_dev11 c, k0_dev11_lt c⟩ : Dev nD) = aft c 1 := by decide +kernel
theorem dev12_at : ∀ c : Dev nD, (⟨k0_dev12 c, k0_dev12_lt c⟩ : Dev nD) = aft c 2 := by decide +kernel
theorem dev13_at : ∀ c : Dev nD, (⟨k0_dev13 c, k0_dev13_lt c⟩ : Dev nD) = aft c 2 := by decide +kernel
theorem dev14_at : ∀ c : Dev nD, (⟨k0_dev14 c, k0_dev14_lt c⟩ : Dev nD) = aft c 3 := by decide +kernel
theorem dev15_at : ∀ c : Dev nD, (⟨k0_dev15 c, k0_dev15_lt c⟩ : Dev nD) = aft c 3 := by decide +kernel
theorem dev16_at : ∀ c : Dev nD, (⟨k0_dev16 c, k0_dev16_lt c⟩ : Dev nD) = aft c 1 := by decide +kernel
theorem dev17_at : ∀ c : Dev nD, (⟨k0_dev17 c, k0_dev17_lt c⟩ : Dev nD) = aft c 2 := by decide +kernel
theorem dev18_at : ∀ c : Dev nD, (⟨k0_dev18 c, k0_dev18_lt c⟩ : Dev nD) = aft c 3 := by decide +kernel
theorem off1_1_at : ∀ c : Dev nD, k0_off1 c 1#32 = ![(0 : Fin 2).val, 128 * (aft c 1).val, 0] := by decide +kernel
theorem off1_2_at : ∀ c : Dev nD, k0_off1 c 2#32 = ![(0 : Fin 2).val, 128 * (aft c 2).val, 0] := by decide +kernel
theorem off1_3_at : ∀ c : Dev nD, k0_off1 c 3#32 = ![(0 : Fin 2).val, 128 * (aft c 3).val, 0] := by decide +kernel
theorem off2_1_at : ∀ c : Dev nD, k0_off2 c 1#32 = ![(0 : Fin 2).val, 128 * (aft c 1).val, 0] := by decide +kernel
theorem off2_2_at : ∀ c : Dev nD, k0_off2 c 2#32 = ![(0 : Fin 2).val, 128 * (aft c 2).val, 0] := by decide +kernel
theorem off2_3_at : ∀ c : Dev nD, k0_off2 c 3#32 = ![(0 : Fin 2).val, 128 * (aft c 3).val, 0] := by decide +kernel
theorem off3_1_at : ∀ c : Dev nD, k0_off3 c 1#32 = ![(1 : Fin 2).val, 128 * (aft c 1).val, 0] := by decide +kernel
theorem off3_2_at : ∀ c : Dev nD, k0_off3 c 2#32 = ![(1 : Fin 2).val, 128 * (aft c 2).val, 0] := by decide +kernel
theorem off3_3_at : ∀ c : Dev nD, k0_off3 c 3#32 = ![(1 : Fin 2).val, 128 * (aft c 3).val, 0] := by decide +kernel
theorem off4_1_at : ∀ c : Dev nD, k0_off4 c 1#32 = ![(1 : Fin 2).val, 128 * (aft c 1).val, 0] := by decide +kernel
theorem off4_2_at : ∀ c : Dev nD, k0_off4 c 2#32 = ![(1 : Fin 2).val, 128 * (aft c 2).val, 0] := by decide +kernel
theorem off4_3_at : ∀ c : Dev nD, k0_off4 c 3#32 = ![(1 : Fin 2).val, 128 * (aft c 3).val, 0] := by decide +kernel
theorem off5_at : ∀ c : Dev nD, k0_off5 c = ![(0 : Fin 2).val, 128 * c.val, 128 * (0 : Fin 4).val] := by decide +kernel
theorem off6_at : ∀ c : Dev nD, k0_off6 c = ![(0 : Fin 2).val, 128 * c.val, (cm 0).val] := by decide +kernel
theorem off7_at : ∀ c : Dev nD, k0_off7 c = ![(0 : Fin 2).val, 128 * c.val, (cl 0).val] := by decide +kernel
theorem off8_at : ∀ c : Dev nD, k0_off8 c = ![(0 : Fin 2).val, 128 * c.val, 128 * (1 : Fin 4).val] := by decide +kernel
theorem off9_at : ∀ c : Dev nD, k0_off9 c = ![(0 : Fin 2).val, 128 * c.val, (cm 1).val] := by decide +kernel
theorem off10_at : ∀ c : Dev nD, k0_off10 c = ![(0 : Fin 2).val, 128 * c.val, (cl 1).val] := by decide +kernel
theorem off11_at : ∀ c : Dev nD, k0_off11 c = ![(0 : Fin 2).val, 128 * c.val, 128 * (2 : Fin 4).val] := by decide +kernel
theorem off12_at : ∀ c : Dev nD, k0_off12 c = ![(0 : Fin 2).val, 128 * c.val, (cm 2).val] := by decide +kernel
theorem off13_at : ∀ c : Dev nD, k0_off13 c = ![(0 : Fin 2).val, 128 * c.val, (cl 2).val] := by decide +kernel
theorem off14_at : ∀ c : Dev nD, k0_off14 c = ![(0 : Fin 2).val, 128 * c.val, 128 * (3 : Fin 4).val] := by decide +kernel
theorem off15_at : ∀ c : Dev nD, k0_off15 c = ![(0 : Fin 2).val, 128 * c.val, (cm 3).val] := by decide +kernel
theorem off16_at : ∀ c : Dev nD, k0_off16 c = ![(0 : Fin 2).val, 128 * c.val, (cl 3).val] := by decide +kernel
theorem off17_at : ∀ c : Dev nD, k0_off17 c = ![(1 : Fin 2).val, 128 * c.val, 128 * (0 : Fin 4).val] := by decide +kernel
theorem off18_at : ∀ c : Dev nD, k0_off18 c = ![(1 : Fin 2).val, 128 * c.val, (cm 0).val] := by decide +kernel
theorem off19_at : ∀ c : Dev nD, k0_off19 c = ![(1 : Fin 2).val, 128 * c.val, (cl 0).val] := by decide +kernel
theorem off20_at : ∀ c : Dev nD, k0_off20 c = ![(1 : Fin 2).val, 128 * c.val, 128 * (1 : Fin 4).val] := by decide +kernel
theorem off21_at : ∀ c : Dev nD, k0_off21 c = ![(1 : Fin 2).val, 128 * c.val, (cm 1).val] := by decide +kernel
theorem off22_at : ∀ c : Dev nD, k0_off22 c = ![(1 : Fin 2).val, 128 * c.val, (cl 1).val] := by decide +kernel
theorem off23_at : ∀ c : Dev nD, k0_off23 c = ![(1 : Fin 2).val, 128 * c.val, 128 * (2 : Fin 4).val] := by decide +kernel
theorem off24_at : ∀ c : Dev nD, k0_off24 c = ![(1 : Fin 2).val, 128 * c.val, (cm 2).val] := by decide +kernel
theorem off25_at : ∀ c : Dev nD, k0_off25 c = ![(1 : Fin 2).val, 128 * c.val, (cl 2).val] := by decide +kernel
theorem off26_at : ∀ c : Dev nD, k0_off26 c = ![(1 : Fin 2).val, 128 * c.val, 128 * (3 : Fin 4).val] := by decide +kernel
theorem off27_at : ∀ c : Dev nD, k0_off27 c = ![(1 : Fin 2).val, 128 * c.val, (cm 3).val] := by decide +kernel
theorem off28_at : ∀ c : Dev nD, k0_off28 c = ![(1 : Fin 2).val, 128 * c.val, (cl 3).val] := by decide +kernel
theorem off29_at : ∀ c : Dev nD, k0_off29 c = ![128 * c.val, 0] := by decide +kernel
theorem off30_at : ∀ c : Dev nD, k0_off30 c = ![128 * c.val, 0] := by decide +kernel

/-! ## The waits -/

theorem low_recv : ∀ t, 15 ≤ t + 3 → t < 15 → 2 < lvR (roleN (tgt t).2.val) := by
  intro t h1 h2
  have : t = 12 ∨ t = 13 ∨ t = 14 := by omega
  rcases this with rfl | rfl | rfl <;> decide
theorem none_left (P : ℕ → Prop) : ∀ t, 15 ≤ t + 0 → t < 15 → P t := fun t h1 h2 => absurd h2 (by omega)

theorem WP_ret (c : Dev nD) {α : Type} {Q : α → sProp 𝕄} {a : α} : Q a ⊢ WP c (Prog.ret a) Q := by
  show Q a ⊢ wp frame (wpE (defs₀ (F := F)) 𝒱₀ (c : Thread nD τ) none) Set.univ (Prog.ret a) Q
  rw [wp_ret]; iintro H; imodintro; iexact H

theorem owesE_intro (c : Dev nD) (n : ℕ) : (iprop(∃ W, owes (c : Thread nD τ) (owd c n) W) : sProp 𝕄) ⊢ owesE c n := by
  unfold owesE; iintro H; iexact H

section Waits
variable (K : Dev nD × Fin 41 → ℕ) (c : Dev nD) {α : Type}

/-- The arrival of a block of weighted values. -/
theorem wait_oR (g : Fin 2) (j : Fin 4) (h0 : j ≠ 0)
    {sem : DmaSem sig} (hs : sem = semD (kOR g j)) {sp sp' : Space} {s s' : Shape} {e e' : EltTy} {src : Memref sig .tc sp' s' e'} {dst : Memref sig .tc sp s e}
    (ha : dst.view.dmaCredit = NO) {h1 h2}
    {Q : α → sProp 𝕄} {k : PUnit → Prog (TpuEff nD τ sig (Elt F) Λ₀ .tc) α} :
    iprop(env I K ∗ cred (tallyAt (dCell c (kOR g j)) () NO) ∗ owesE c 3 ∗ atPos ER (dCell c (kOR g j)) 0 ∅ 0)
      ⊢ iprop(((owesE c 3 ∗ atPos ER (dCell c (kOR g j)) 1 ∅ 0 ∗ p8 c (oSlot g j) (oS I c)) -∗ WP c (k ⟨⟩) Q)
        -∗ WP c (.op (.waitDma2 sem src dst h1 h2) k) Q) := by
  have hr : roleN (kOR g j).val = .oRv g j := role_kOR g j
  have hm : amt (roleN (kOR g j).val) = NO := by rw [hr]; rfl
  have hd : dut c (roleN (kOR g j).val) = {0} := by rw [hr]; exact if_neg h0
  have hP : pay I c (roleN (kOR g j).val) 0 = p8 c (oSlot g j) (oS I c) := by rw [hr]; rfl
  have key := wait_D I K c (kOR g j) 3 hd (by omega) (by rw [hr]; exact low_recv) hP hs (src := src) (dst := dst) (ha.trans hm.symm) (h1 := h1) (h2 := h2) (Q := Q) (k := k)
  rw [hm] at key
  exact key

/-- The arrival of a block of maxima and sums. -/
theorem wait_mR (g : Fin 2) (j : Fin 4) (h0 : j ≠ 0)
    {sem : DmaSem sig} (hs : sem = semD (kMR g j)) {sp sp' : Space} {s s' : Shape} {e e' : EltTy} {src : Memref sig .tc sp' s' e'} {dst : Memref sig .tc sp s e}
    (ha : dst.view.dmaCredit = NM) {h1 h2}
    {Q : α → sProp 𝕄} {k : PUnit → Prog (TpuEff nD τ sig (Elt F) Λ₀ .tc) α} :
    iprop(env I K ∗ cred (tallyAt (dCell c (kMR g j)) () NM) ∗ owesE c 3 ∗ atPos ER (dCell c (kMR g j)) 0 ∅ 0)
      ⊢ iprop(((owesE c 3 ∗ atPos ER (dCell c (kMR g j)) 1 ∅ 0 ∗ p9 c (mSlot g j) (mS I c)) -∗ WP c (k ⟨⟩) Q)
        -∗ WP c (.op (.waitDma2 sem src dst h1 h2) k) Q) := by
  have hr : roleN (kMR g j).val = .mRv g j := role_kMR g j
  have hm : amt (roleN (kMR g j).val) = NM := by rw [hr]; rfl
  have hd : dut c (roleN (kMR g j).val) = {0} := by rw [hr]; exact if_neg h0
  have hP : pay I c (roleN (kMR g j).val) 0 = p9 c (mSlot g j) (mS I c) := by rw [hr]; rfl
  have key := wait_D I K c (kMR g j) 3 hd (by omega) (by rw [hr]; exact low_recv) hP hs (src := src) (dst := dst) (ha.trans hm.symm) (h1 := h1) (h2 := h2) (Q := Q) (k := k)
  rw [hm] at key
  exact key

/-- The arrival of a block of result rows. -/
theorem wait_aR (j : Fin 4) (h0 : j ≠ 0)
    {sem : DmaSem sig} (hs : sem = semD (kAR j)) {sp sp' : Space} {s s' : Shape} {e e' : EltTy} {src : Memref sig .tc sp' s' e'} {dst : Memref sig .tc sp s e}
    (ha : dst.view.dmaCredit = NA) {h1 h2}
    {Q : α → sProp 𝕄} {k : PUnit → Prog (TpuEff nD τ sig (Elt F) Λ₀ .tc) α} :
    iprop(env I K ∗ cred (tallyAt (dCell c (kAR j)) () NA) ∗ owesE c 0 ∗ atPos ER (dCell c (kAR j)) 0 ∅ 0)
      ⊢ iprop(((owesE c 0 ∗ atPos ER (dCell c (kAR j)) 1 ∅ 0 ∗ p5 c (uRows (aft c j)) fullShare (outC I)) -∗ WP c (k ⟨⟩) Q)
        -∗ WP c (.op (.waitDma2 sem src dst h1 h2) k) Q) := by
  have hr : roleN (kAR j).val = .aRv j := role_kAR j
  have hm : amt (roleN (kAR j).val) = NA := by rw [hr]; rfl
  have hd : dut c (roleN (kAR j).val) = {0} := by rw [hr]; exact if_neg h0
  have hP : pay I c (roleN (kAR j).val) 0 = p5 c (uRows (aft c j)) fullShare (outC I) := by rw [hr]; rfl
  have key := wait_D I K c (kAR j) 0 hd (by omega) (none_left _) hP hs (src := src) (dst := dst) (ha.trans hm.symm) (h1 := h1) (h2 := h2) (Q := Q) (k := k)
  rw [hm] at key
  exact key

/-- The own copy of a block of weighted values has been read. -/
theorem wait_oS (g : Fin 2) (j : Fin 4) (h0 : j ≠ 0)
    {sem : DmaSem sig} (hs : sem = semD (kOS g j)) {sp sp' : Space} {s s' : Shape} {e e' : EltTy} {src : Memref sig .tc sp' s' e'} {dst : Memref sig .tc sp s e}
    (ha : dst.view.dmaCredit = NO) {h1 h2}
    {Q : α → sProp 𝕄} {k : PUnit → Prog (TpuEff nD τ sig (Elt F) Λ₀ .tc) α} :
    iprop(env I K ∗ cred (tallyAt (dCell c (kOS g j)) () NO) ∗ owesE c 0 ∗ atPos ER (dCell c (kOS g j)) 0 ∅ 0)
      ⊢ iprop(((owesE c 0 ∗ atPos ER (dCell c (kOS g j)) 1 ∅ 0 ∗ p6 c (oRows g (aft c j)) (oC I c)) -∗ WP c (k ⟨⟩) Q)
        -∗ WP c (.op (.waitDma2 sem src dst h1 h2) k) Q) := by
  have hr : roleN (kOS g j).val = .oSd g j := role_kOS g j
  have hm : amt (roleN (kOS g j).val) = NO := by rw [hr]; rfl
  have hd : dut c (roleN (kOS g j).val) = {0} := by rw [hr]; exact if_neg h0
  have hP : pay I c (roleN (kOS g j).val) 0 = p6 c (oRows g (aft c j)) (oC I c) := by rw [hr]; rfl
  have key := wait_D I K c (kOS g j) 0 hd (by omega) (none_left _) hP hs (src := src) (dst := dst) (ha.trans hm.symm) (h1 := h1) (h2 := h2) (Q := Q) (k := k)
  rw [hm] at key
  exact key

/-- The own copy of a block of maxima and sums has been read. -/
theorem wait_mS (g : Fin 2) (j : Fin 4) (h0 : j ≠ 0)
    {sem : DmaSem sig} (hs : sem = semD (kMS g j)) {sp sp' : Space} {s s' : Shape} {e e' : EltTy} {src : Memref sig .tc sp' s' e'} {dst : Memref sig .tc sp s e}
    (ha : dst.view.dmaCredit = NM) {h1 h2}
    {Q : α → sProp 𝕄} {k : PUnit → Prog (TpuEff nD τ sig (Elt F) Λ₀ .tc) α} :
    iprop(env I K ∗ cred (tallyAt (dCell c (kMS g j)) () NM) ∗ owesE c 0 ∗ atPos ER (dCell c (kMS g j)) 0 ∅ 0)
      ⊢ iprop(((owesE c 0 ∗ atPos ER (dCell c (kMS g j)) 1 ∅ 0 ∗ p7 c (mRows g (aft c j)) (mC I c)) -∗ WP c (k ⟨⟩) Q)
        -∗ WP c (.op (.waitDma2 sem src dst h1 h2) k) Q) := by
  have hr : roleN (kMS g j).val = .mSd g j := role_kMS g j
  have hm : amt (roleN (kMS g j).val) = NM := by rw [hr]; rfl
  have hd : dut c (roleN (kMS g j).val) = {0} := by rw [hr]; exact if_neg h0
  have hP : pay I c (roleN (kMS g j).val) 0 = p7 c (mRows g (aft c j)) (mC I c) := by rw [hr]; rfl
  have key := wait_D I K c (kMS g j) 0 hd (by omega) (none_left _) hP hs (src := src) (dst := dst) (ha.trans hm.symm) (h1 := h1) (h2 := h2) (Q := Q) (k := k)
  rw [hm] at key
  exact key

/-- The own copy of the result rows has been read. -/
theorem wait_aS (j : Fin 4) (h0 : j ≠ 0)
    {sem : DmaSem sig} (hs : sem = semD (kAS j)) {sp sp' : Space} {s s' : Shape} {e e' : EltTy} {src : Memref sig .tc sp' s' e'} {dst : Memref sig .tc sp s e}
    (ha : dst.view.dmaCredit = NA) {h1 h2}
    {Q : α → sProp 𝕄} {k : PUnit → Prog (TpuEff nD τ sig (Elt F) Λ₀ .tc) α} :
    iprop(env I K ∗ cred (tallyAt (dCell c (kAS j)) () NA) ∗ owesE c 0 ∗ atPos ER (dCell c (kAS j)) 0 ∅ 0)
      ⊢ iprop(((owesE c 0 ∗ atPos ER (dCell c (kAS j)) 1 ∅ 0 ∗ p5 c (uRows c) (sh j) (outC I)) -∗ WP c (k ⟨⟩) Q)
        -∗ WP c (.op (.waitDma2 sem src dst h1 h2) k) Q) := by
  have hr : roleN (kAS j).val = .aSd j := role_kAS j
  have hm : amt (roleN (kAS j).val) = NA := by rw [hr]; rfl
  have hd : dut c (roleN (kAS j).val) = {0} := by rw [hr]; exact if_neg h0
  have hP : pay I c (roleN (kAS j).val) 0 = p5 c (uRows c) (sh j) (outC I) := by rw [hr]; rfl
  have key := wait_D I K c (kAS j) 0 hd (by omega) (none_left _) hP hs (src := src) (dst := dst) (ha.trans hm.symm) (h1 := h1) (h2 := h2) (Q := Q) (k := k)
  rw [hm] at key
  exact key

end Waits

/-! ## Regroupings -/

section Group
omit [FloatOps F]
variable (c : Dev nD)

/-- What the device `j` places after has lent. -/
theorem land_open (j : Fin 4) : (land (aft c j) c : sProp 𝕄) ⊢ iprop((∃ f, p8 (aft c j) (oSlot 0 (neg j)) f) ∗ (∃ f, p9 (aft c j) (mSlot 0 (neg j)) f)
    ∗ (∃ f, p8 (aft c j) (oSlot 1 (neg j)) f) ∗ (∃ f, p9 (aft c j) (mSlot 1 (neg j)) f) ∗ (∃ f, p5 (aft c j) (uRows c) fullShare f)) := by
  unfold land; rw [gap_aft']
/-- What is lent to the device `j` places after. -/
theorem land_make (j : Fin 4) (f5 : Vec F S512x1024 .bf16) (f8 : Vec F S2x4x128x512 .bf16) (f9 : Vec F S2x4x128x8 .f32) :
    iprop(p8 c (oSlot 0 j) f8 ∗ p9 c (mSlot 0 j) f9 ∗ p8 c (oSlot 1 j) f8 ∗ p9 c (mSlot 1 j) f9 ∗ p5 c (uRows (aft c j)) fullShare f5)
      ⊢ (land c (aft c j) : sProp 𝕄) := by
  unfold land; rw [gap_aft]
  iintro ⟨H1, H2, H3, H4, H5⟩
  isplitl [H1]; · iexists f8; iexact H1
  isplitl [H2]; · iexists f9; iexact H2
  isplitl [H3]; · iexists f8; iexact H3
  isplitl [H4]; · iexists f9; iexact H4
  iexists f5; iexact H5

theorem rows_of_strips6 (g : Fin 2) (f : Vec F S2x512x512 .bf16) :
    (iprop(p6 c (oStrip g 0) f ∗ p6 c (oStrip g 1) f ∗ p6 c (oStrip g 2) f ∗ p6 c (oStrip g 3) f) : sProp 𝕄)
      ⊢ iprop(p6 c (oRows g c) f ∗ p6 c (oRows g (aft c 1)) f ∗ p6 c (oRows g (aft c 2)) f ∗ p6 c (oRows g (aft c 3)) f) :=
  Entails.of_eq ((slab6_strips c g f).symm.trans (slab6_rows c g f))
theorem rows_of_strips7 (g : Fin 2) (f : Vec F S2x512x8 .f32) :
    (iprop(p7 c (mStrip g (cm 0)) f ∗ p7 c (mStrip g (cm 1)) f ∗ p7 c (mStrip g (cm 2)) f ∗ p7 c (mStrip g (cm 3)) f ∗ p7 c (mStrip g (cl 0)) f ∗ p7 c (mStrip g (cl 1)) f ∗ p7 c (mStrip g (cl 2)) f ∗ p7 c (mStrip g (cl 3)) f) : sProp 𝕄)
      ⊢ iprop(p7 c (mRows g c) f ∗ p7 c (mRows g (aft c 1)) f ∗ p7 c (mRows g (aft c 2)) f ∗ p7 c (mRows g (aft c 3)) f) :=
  Entails.of_eq ((slab7_strips c g f).symm.trans (slab7_rows c g f))
end Group

end Cert.KernelIdeal.K
-- ==== Proof.KernelIdeal.Values.lean ====
/- The values that pass from one stretch of the program to the next, each named after where the program makes it. -/
module

public import proofs.«01_k».proof.Proof.KernelIdeal.Ready

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (c : Dev nD)

def w23 : FVec F S512x1024 .bf16 := k0_pay1 (I.x c) (I.wq c)
def w25 : FVec F S2048x128 .bf16 := k0_pay2 (cols 0 (I.k c))
def w27 : FVec F S2048x128 .bf16 := k0_pay3 (cols 0 (I.v c))
def w52 : FVec F S512x1 .f32 := k0_pay11 (w23 I c) (w25 I c)
def w57 : FVec F S512x1 .f32 := k0_pay13 (w23 I c) (w25 I c)
def w60 : FVec F S512x128 .bf16 := k0_pay14 (w23 I c) (w25 I c) (cols 0 (I.v c))
def w92 : FVec F S512x2048 .f32 := k0_pay24 (w23 I c) (w25 I c)
def w94 : FVec F S512x1 .f32 := k0_pay25 (w23 I c) (w25 I c)
def w95 : FVec F S512x2048 .f32 := k0_pay26 (w23 I c) (w25 I c)
def w185 : FVec F S2048x128 .bf16 := k0_pay31 (cols 1 (I.k c))
def w187 : FVec F S2048x128 .bf16 := k0_pay32 (cols 1 (I.v c))
def w210 : FVec F S512x2048 .f32 := k0_pay39 (w23 I c) (cols 1 (I.k c))
def w233 : FVec F S512x1 .f32 := k0_pay46 (w23 I c) (w185 I c)
def w238 : FVec F S512x1 .f32 := k0_pay48 (w23 I c) (w185 I c)
def w348 : FVec F S128x128 .f32 := k0_pay58 (ldO I c 0 0)
def w351 : FVec F S128x1 .f32 := k0_pay59 (ldM I c 0 (cm 0))
def w354 : FVec F S128x1 .f32 := k0_pay60 (ldM I c 0 (cl 0))
def w358 : FVec F S128x128 .f32 := k0_pay61 (ldO I c 0 1)
def w361 : FVec F S128x1 .f32 := k0_pay62 (ldM I c 0 (cm 1))
def w364 : FVec F S128x1 .f32 := k0_pay63 (ldM I c 0 (cl 1))
def w368 : FVec F S128x128 .f32 := k0_pay64 (ldO I c 0 2)
def w371 : FVec F S128x1 .f32 := k0_pay65 (ldM I c 0 (cm 2))
def w374 : FVec F S128x1 .f32 := k0_pay66 (ldM I c 0 (cl 2))
def w378 : FVec F S128x128 .f32 := k0_pay67 (ldO I c 0 3)
def w381 : FVec F S128x1 .f32 := k0_pay68 (ldM I c 0 (cm 3))
def w384 : FVec F S128x1 .f32 := k0_pay69 (ldM I c 0 (cl 3))
def w408 : FVec F S128x1 .f32 := k0_pay71 (w351 I c) (slM I c 0 1 (cm 0))
def w417 : FVec F S128x128 .f32 := k0_pay74 (w348 I c) (w351 I c) (slM I c 0 1 (cm 0)) (slO I c 0 1 0)
def w420 : FVec F S128x1 .f32 := k0_pay75 (w351 I c) (w354 I c) (slM I c 0 1 (cm 0)) (slM I c 0 1 (cl 0))
def w422 : FVec F S128x1 .f32 := k0_pay76 (slM I c 0 1 (cm 1))
def w428 : FVec F S128x1 .f32 := k0_pay77 (w361 I c) (w422 I c)
def w437 : FVec F S128x128 .f32 := k0_pay80 (w358 I c) (w361 I c) (w422 I c) (slO I c 0 1 1)
def w440 : FVec F S128x1 .f32 := k0_pay81 (w361 I c) (w364 I c) (w422 I c) (slM I c 0 1 (cl 1))
def w448 : FVec F S128x1 .f32 := k0_pay83 (w371 I c) (slM I c 0 1 (cm 2))
def w457 : FVec F S128x128 .f32 := k0_pay86 (w368 I c) (w371 I c) (slM I c 0 1 (cm 2)) (slO I c 0 1 2)
def w460 : FVec F S128x1 .f32 := k0_pay87 (w371 I c) (w374 I c) (slM I c 0 1 (cm 2)) (slM I c 0 1 (cl 2))
def w468 : FVec F S128x1 .f32 := k0_pay89 (w381 I c) (slM I c 0 1 (cm 3))
def w477 : FVec F S128x128 .f32 := k0_pay92 (w378 I c) (w381 I c) (slM I c 0 1 (cm 3)) (slO I c 0 1 3)
def w480 : FVec F S128x1 .f32 := k0_pay93 (w381 I c) (w384 I c) (slM I c 0 1 (cm 3)) (slM I c 0 1 (cl 3))
def w504 : FVec F S128x1 .f32 := k0_pay95 (w408 I c) (slM I c 0 2 (cm 0))
def w513 : FVec F S128x128 .f32 := k0_pay98 (w408 I c) (w417 I c) (slM I c 0 2 (cm 0)) (slO I c 0 2 0)
def w516 : FVec F S128x1 .f32 := k0_pay99 (w408 I c) (w420 I c) (slM I c 0 2 (cm 0)) (slM I c 0 2 (cl 0))
def w518 : FVec F S128x1 .f32 := k0_pay100 (slM I c 0 2 (cm 1))
def w520 : FVec F S128x1 .f32 := k0_pay101 (slM I c 0 2 (cl 1))
def w524 : FVec F S128x1 .f32 := k0_pay102 (w428 I c) (w518 I c)
def w533 : FVec F S128x128 .f32 := k0_pay105 (w428 I c) (w437 I c) (w518 I c) (slO I c 0 2 1)
def w536 : FVec F S128x1 .f32 := k0_pay106 (w428 I c) (w440 I c) (w518 I c) (w520 I c)
def w544 : FVec F S128x1 .f32 := k0_pay108 (w448 I c) (slM I c 0 2 (cm 2))
def w553 : FVec F S128x128 .f32 := k0_pay111 (w448 I c) (w457 I c) (slM I c 0 2 (cm 2)) (slO I c 0 2 2)
def w556 : FVec F S128x1 .f32 := k0_pay112 (w448 I c) (w460 I c) (slM I c 0 2 (cm 2)) (slM I c 0 2 (cl 2))
def w558 : FVec F S128x1 .f32 := k0_pay113 (slM I c 0 2 (cm 3))
def w560 : FVec F S128x1 .f32 := k0_pay114 (slM I c 0 2 (cl 3))
def w564 : FVec F S128x1 .f32 := k0_pay115 (w468 I c) (w558 I c)
def w573 : FVec F S128x128 .f32 := k0_pay118 (w468 I c) (w477 I c) (w558 I c) (slO I c 0 2 3)
def w576 : FVec F S128x1 .f32 := k0_pay119 (w468 I c) (w480 I c) (w558 I c) (w560 I c)
def w609 : FVec F S128x128 .f32 := k0_pay124 (w504 I c) (w513 I c) (slM I c 0 3 (cm 0)) (slO I c 0 3 0)
def w612 : FVec F S128x1 .f32 := k0_pay125 (w504 I c) (w516 I c) (slM I c 0 3 (cm 0)) (slM I c 0 3 (cl 0))
def w616 : FVec F S128x1 .f32 := k0_pay127 (slM I c 0 3 (cl 1))
def w619 : FVec F S128x128 .f32 := k0_pay128 (slO I c 0 3 1)
def w622 : FVec F S128x1 .f32 := k0_pay130 (w524 I c) (slM I c 0 3 (cm 1))
def w624 : FVec F S128x1 .f32 := k0_pay131 (w524 I c) (slM I c 0 3 (cm 1))
def w629 : FVec F S128x128 .f32 := k0_pay132 (w533 I c) (w619 I c) (w622 I c) (w624 I c)
def w632 : FVec F S128x1 .f32 := k0_pay133 (w536 I c) (w616 I c) (w622 I c) (w624 I c)
def w649 : FVec F S128x128 .f32 := k0_pay138 (w544 I c) (w553 I c) (slM I c 0 3 (cm 2)) (slO I c 0 3 2)
def w652 : FVec F S128x1 .f32 := k0_pay139 (w544 I c) (w556 I c) (slM I c 0 3 (cm 2)) (slM I c 0 3 (cl 2))
def w654 : FVec F S128x1 .f32 := k0_pay140 (slM I c 0 3 (cm 3))
def w656 : FVec F S128x1 .f32 := k0_pay141 (slM I c 0 3 (cl 3))
def w659 : FVec F S128x128 .f32 := k0_pay142 (slO I c 0 3 3)
def w660 : FVec F S128x1 .f32 := k0_pay143 (w564 I c) (slM I c 0 3 (cm 3))
def w669 : FVec F S128x128 .f32 := k0_pay146 (w564 I c) (w573 I c) (w654 I c) (w659 I c) (w660 I c)
def w672 : FVec F S128x1 .f32 := k0_pay147 (w564 I c) (w576 I c) (w654 I c) (w656 I c) (w660 I c)
def w676 : FVec F S128x128 .f32 := k0_pay148 (ldO I c 1 0)
def w679 : FVec F S128x1 .f32 := k0_pay149 (ldM I c 1 (cm 0))
def w682 : FVec F S128x1 .f32 := k0_pay150 (ldM I c 1 (cl 0))
def w686 : FVec F S128x128 .f32 := k0_pay151 (ldO I c 1 1)
def w689 : FVec F S128x1 .f32 := k0_pay152 (ldM I c 1 (cm 1))
def w692 : FVec F S128x1 .f32 := k0_pay153 (ldM I c 1 (cl 1))
def w696 : FVec F S128x128 .f32 := k0_pay154 (ldO I c 1 2)
def w699 : FVec F S128x1 .f32 := k0_pay155 (ldM I c 1 (cm 2))
def w702 : FVec F S128x1 .f32 := k0_pay156 (ldM I c 1 (cl 2))
def w706 : FVec F S128x128 .f32 := k0_pay157 (ldO I c 1 3)
def w709 : FVec F S128x1 .f32 := k0_pay158 (ldM I c 1 (cm 3))
def w712 : FVec F S128x1 .f32 := k0_pay159 (ldM I c 1 (cl 3))
def w736 : FVec F S128x1 .f32 := k0_pay161 (w679 I c) (slM I c 1 1 (cm 0))
def w745 : FVec F S128x128 .f32 := k0_pay164 (w676 I c) (w679 I c) (slM I c 1 1 (cm 0)) (slO I c 1 1 0)
def w748 : FVec F S128x1 .f32 := k0_pay165 (w679 I c) (w682 I c) (slM I c 1 1 (cm 0)) (slM I c 1 1 (cl 0))
def w752 : FVec F S128x1 .f32 := k0_pay167 (slM I c 1 1 (cl 1))
def w756 : FVec F S128x1 .f32 := k0_pay168 (w689 I c) (slM I c 1 1 (cm 1))
def w758 : FVec F S128x1 .f32 := k0_pay169 (w689 I c) (slM I c 1 1 (cm 1))
def w760 : FVec F S128x1 .f32 := k0_pay170 (w689 I c) (slM I c 1 1 (cm 1))
def w762 : FVec F S128x128 .f32 := k0_pay171 (w686 I c) (w689 I c) (slM I c 1 1 (cm 1))
def w764 : FVec F S128x128 .f32 := k0_pay172 (w689 I c) (slM I c 1 1 (cm 1)) (slO I c 1 1 1)
def w765 : FVec F S128x128 .f32 := k0_pay173 (w762 I c) (w764 I c)
def w768 : FVec F S128x1 .f32 := k0_pay174 (w692 I c) (w752 I c) (w758 I c) (w760 I c)
def w776 : FVec F S128x1 .f32 := k0_pay176 (w699 I c) (slM I c 1 1 (cm 2))
def w785 : FVec F S128x128 .f32 := k0_pay179 (w696 I c) (w699 I c) (slM I c 1 1 (cm 2)) (slO I c 1 1 2)
def w788 : FVec F S128x1 .f32 := k0_pay180 (w699 I c) (w702 I c) (slM I c 1 1 (cm 2)) (slM I c 1 1 (cl 2))
def w792 : FVec F S128x1 .f32 := k0_pay182 (slM I c 1 1 (cl 3))
def w795 : FVec F S128x128 .f32 := k0_pay183 (slO I c 1 1 3)
def w796 : FVec F S128x1 .f32 := k0_pay184 (w709 I c) (slM I c 1 1 (cm 3))
def w798 : FVec F S128x1 .f32 := k0_pay185 (w709 I c) (slM I c 1 1 (cm 3))
def w800 : FVec F S128x1 .f32 := k0_pay186 (w709 I c) (slM I c 1 1 (cm 3))
def w805 : FVec F S128x128 .f32 := k0_pay187 (w706 I c) (w795 I c) (w798 I c) (w800 I c)
def w808 : FVec F S128x1 .f32 := k0_pay188 (w712 I c) (w792 I c) (w798 I c) (w800 I c)
def w826 : FVec F S128x1 .f32 := k0_pay189 (slM I c 1 2 (cm 0))
def w832 : FVec F S128x1 .f32 := k0_pay190 (w736 I c) (w826 I c)
def w841 : FVec F S128x128 .f32 := k0_pay193 (w736 I c) (w745 I c) (w826 I c) (slO I c 1 2 0)
def w844 : FVec F S128x1 .f32 := k0_pay194 (w736 I c) (w748 I c) (w826 I c) (slM I c 1 2 (cl 0))
def w852 : FVec F S128x1 .f32 := k0_pay196 (w756 I c) (slM I c 1 2 (cm 1))
def w861 : FVec F S128x128 .f32 := k0_pay199 (w756 I c) (w765 I c) (slM I c 1 2 (cm 1)) (slO I c 1 2 1)
def w864 : FVec F S128x1 .f32 := k0_pay200 (w756 I c) (w768 I c) (slM I c 1 2 (cm 1)) (slM I c 1 2 (cl 1))
def w872 : FVec F S128x1 .f32 := k0_pay202 (w776 I c) (slM I c 1 2 (cm 2))
def w881 : FVec F S128x128 .f32 := k0_pay205 (w776 I c) (w785 I c) (slM I c 1 2 (cm 2)) (slO I c 1 2 2)
def w884 : FVec F S128x1 .f32 := k0_pay206 (w776 I c) (w788 I c) (slM I c 1 2 (cm 2)) (slM I c 1 2 (cl 2))
def w892 : FVec F S128x1 .f32 := k0_pay208 (w796 I c) (slM I c 1 2 (cm 3))
def w901 : FVec F S128x128 .f32 := k0_pay211 (w796 I c) (w805 I c) (slM I c 1 2 (cm 3)) (slO I c 1 2 3)
def w904 : FVec F S128x1 .f32 := k0_pay212 (w796 I c) (w808 I c) (slM I c 1 2 (cm 3)) (slM I c 1 2 (cl 3))
def w922 : FVec F S128x1 .f32 := k0_pay213 (slM I c 1 3 (cm 0))
def w924 : FVec F S128x1 .f32 := k0_pay214 (slM I c 1 3 (cl 0))
def w937 : FVec F S128x128 .f32 := k0_pay218 (w832 I c) (w841 I c) (w922 I c) (slO I c 1 3 0)
def w940 : FVec F S128x1 .f32 := k0_pay219 (w832 I c) (w844 I c) (w922 I c) (w924 I c)
def w957 : FVec F S128x128 .f32 := k0_pay224 (w852 I c) (w861 I c) (slM I c 1 3 (cm 1)) (slO I c 1 3 1)
def w960 : FVec F S128x1 .f32 := k0_pay225 (w852 I c) (w864 I c) (slM I c 1 3 (cm 1)) (slM I c 1 3 (cl 1))
def w962 : FVec F S128x1 .f32 := k0_pay226 (slM I c 1 3 (cm 2))
def w964 : FVec F S128x1 .f32 := k0_pay227 (slM I c 1 3 (cl 2))
def w977 : FVec F S128x128 .f32 := k0_pay231 (w872 I c) (w881 I c) (w962 I c) (slO I c 1 3 2)
def w980 : FVec F S128x1 .f32 := k0_pay232 (w872 I c) (w884 I c) (w962 I c) (w964 I c)
def w997 : FVec F S128x128 .f32 := k0_pay237 (w892 I c) (w901 I c) (slM I c 1 3 (cm 3)) (slO I c 1 3 3)
def w1000 : FVec F S128x1 .f32 := k0_pay238 (w892 I c) (w904 I c) (slM I c 1 3 (cm 3)) (slM I c 1 3 (cl 3))
def w1003 : FVec F S128x128 .bf16 := k0_pay239 (w609 I c) (w612 I c)
def w1006 : FVec F S128x128 .bf16 := k0_pay240 (w629 I c) (w632 I c)
def w1008 : FVec F S128x128 .f32 := k0_pay241 (w649 I c) (w652 I c)

theorem fin_eq : k0_pay242 (w669 I c) (w672 I c) (w937 I c) (w940 I c) (w957 I c) (w960 I c) (w977 I c) (w980 I c) (w997 I c) (w1000 I c) (w1003 I c) (w1006 I c) (w1008 I c) (I.wo c) = fin I c := rfl

/-! ## What each stretch takes over from an earlier one and leaves for a later one -/

def Fl0_1 (I : Ins F) (c : Dev nD) (f5 : Vec F S512x1024 .bf16) (f6 : Vec F S2x512x512 .bf16) (f7 : Vec F S2x512x8 .f32) : sProp 𝕄 := iprop((∃ W, owes (c : Thread nD τ) (O₀ c) W) ∗ dutyTok ER (barCell (aft c 1)) 0 c ∗ land c (aft c 1) ∗ dutyTok ER (barCell (aft c 2)) 0 c ∗ land c (aft c 2) ∗ dutyTok ER (barCell (aft c 3)) 0 c ∗ land c (aft c 3) ∗ cred (tallyAt (barCell c) () 3) ∗ atPos ER (barCell c) 0 ∅ 0 ∗ p0 c (I.x c) ∗ p1 c (I.wq c) ∗ p3 c (I.k c))
def Fl0_2 (I : Ins F) (c : Dev nD) (f5 : Vec F S512x1024 .bf16) (f6 : Vec F S2x512x512 .bf16) (f7 : Vec F S2x512x8 .f32) : sProp 𝕄 := iprop(p4 c (I.v c) ∗ p6 c (oStrip 0 0) f6 ∗ p7 c (mStrip 0 (cm 0)) f7 ∗ p7 c (mStrip 0 (cl 0)) f7 ∗ p6 c (oStrip 0 1) f6)
def Fl0_3 (I : Ins F) (c : Dev nD) (f5 : Vec F S512x1024 .bf16) (f6 : Vec F S2x512x512 .bf16) (f7 : Vec F S2x512x8 .f32) : sProp 𝕄 := iprop(p7 c (mStrip 0 (cm 1)) f7 ∗ p7 c (mStrip 0 (cl 1)) f7 ∗ p6 c (oStrip 0 2) f6 ∗ p7 c (mStrip 0 (cm 2)) f7 ∗ p7 c (mStrip 0 (cl 2)) f7)
def Fl0_4 (I : Ins F) (c : Dev nD) (f5 : Vec F S512x1024 .bf16) (f6 : Vec F S2x512x512 .bf16) (f7 : Vec F S2x512x8 .f32) : sProp 𝕄 := iprop(p6 c (oStrip 0 3) f6 ∗ p7 c (mStrip 0 (cm 3)) f7 ∗ p7 c (mStrip 0 (cl 3)) f7 ∗ dutyTok ER (dCell c (kOS 0 1)) 0 0 ∗ dutyTok ER (dCell (aft c 1) (kOR 0 (neg 1))) 0 0)
def Fl0_5 (I : Ins F) (c : Dev nD) (f5 : Vec F S512x1024 .bf16) (f6 : Vec F S2x512x512 .bf16) (f7 : Vec F S2x512x8 .f32) : sProp 𝕄 := iprop(dutyTok ER (dCell c (kMS 0 1)) 0 0 ∗ dutyTok ER (dCell (aft c 1) (kMR 0 (neg 1))) 0 0 ∗ dutyTok ER (dCell c (kOS 0 2)) 0 0 ∗ dutyTok ER (dCell (aft c 2) (kOR 0 (neg 2))) 0 0)
def Fl0_6 (I : Ins F) (c : Dev nD) (f5 : Vec F S512x1024 .bf16) (f6 : Vec F S2x512x512 .bf16) (f7 : Vec F S2x512x8 .f32) : sProp 𝕄 := iprop(dutyTok ER (dCell c (kMS 0 2)) 0 0 ∗ dutyTok ER (dCell (aft c 2) (kMR 0 (neg 2))) 0 0 ∗ dutyTok ER (dCell c (kOS 0 3)) 0 0 ∗ dutyTok ER (dCell (aft c 3) (kOR 0 (neg 3))) 0 0)
def Fl0_7 (I : Ins F) (c : Dev nD) (f5 : Vec F S512x1024 .bf16) (f6 : Vec F S2x512x512 .bf16) (f7 : Vec F S2x512x8 .f32) : sProp 𝕄 := iprop(dutyTok ER (dCell c (kMS 0 3)) 0 0 ∗ dutyTok ER (dCell (aft c 3) (kMR 0 (neg 3))) 0 0 ∗ p6 c (oStrip 1 0) f6 ∗ p7 c (mStrip 1 (cm 0)) f7 ∗ p7 c (mStrip 1 (cl 0)) f7)
def Fl0_8 (I : Ins F) (c : Dev nD) (f5 : Vec F S512x1024 .bf16) (f6 : Vec F S2x512x512 .bf16) (f7 : Vec F S2x512x8 .f32) : sProp 𝕄 := iprop(p6 c (oStrip 1 1) f6 ∗ p7 c (mStrip 1 (cm 1)) f7 ∗ p7 c (mStrip 1 (cl 1)) f7 ∗ p6 c (oStrip 1 2) f6)
def Fl0_9 (I : Ins F) (c : Dev nD) (f5 : Vec F S512x1024 .bf16) (f6 : Vec F S2x512x512 .bf16) (f7 : Vec F S2x512x8 .f32) : sProp 𝕄 := iprop(p7 c (mStrip 1 (cm 2)) f7 ∗ p7 c (mStrip 1 (cl 2)) f7 ∗ p6 c (oStrip 1 3) f6 ∗ p7 c (mStrip 1 (cm 3)) f7 ∗ p7 c (mStrip 1 (cl 3)) f7)
def Fl0_10 (I : Ins F) (c : Dev nD) (f5 : Vec F S512x1024 .bf16) (f6 : Vec F S2x512x512 .bf16) (f7 : Vec F S2x512x8 .f32) : sProp 𝕄 := iprop(dutyTok ER (dCell c (kOS 1 1)) 0 0 ∗ dutyTok ER (dCell (aft c 1) (kOR 1 (neg 1))) 0 0 ∗ dutyTok ER (dCell c (kMS 1 1)) 0 0 ∗ dutyTok ER (dCell (aft c 1) (kMR 1 (neg 1))) 0 0)
def Fl0_11 (I : Ins F) (c : Dev nD) (f5 : Vec F S512x1024 .bf16) (f6 : Vec F S2x512x512 .bf16) (f7 : Vec F S2x512x8 .f32) : sProp 𝕄 := iprop(dutyTok ER (dCell c (kOS 1 2)) 0 0 ∗ dutyTok ER (dCell (aft c 2) (kOR 1 (neg 2))) 0 0 ∗ dutyTok ER (dCell c (kMS 1 2)) 0 0 ∗ dutyTok ER (dCell (aft c 2) (kMR 1 (neg 2))) 0 0)
def Fl0_12 (I : Ins F) (c : Dev nD) (f5 : Vec F S512x1024 .bf16) (f6 : Vec F S2x512x512 .bf16) (f7 : Vec F S2x512x8 .f32) : sProp 𝕄 := iprop(dutyTok ER (dCell c (kOS 1 3)) 0 0 ∗ dutyTok ER (dCell (aft c 3) (kOR 1 (neg 3))) 0 0 ∗ dutyTok ER (dCell c (kMS 1 3)) 0 0 ∗ dutyTok ER (dCell (aft c 3) (kMR 1 (neg 3))) 0 0)
def Fl0_13 (I : Ins F) (c : Dev nD) (f5 : Vec F S512x1024 .bf16) (f6 : Vec F S2x512x512 .bf16) (f7 : Vec F S2x512x8 .f32) : sProp 𝕄 := iprop(cred (tallyAt (dCell c (kOR 0 1)) () NO) ∗ atPos ER (dCell c (kOR 0 1)) 0 ∅ 0)
def Fl0_14 (I : Ins F) (c : Dev nD) (f5 : Vec F S512x1024 .bf16) (f6 : Vec F S2x512x512 .bf16) (f7 : Vec F S2x512x8 .f32) : sProp 𝕄 := iprop(cred (tallyAt (dCell c (kMR 0 1)) () NM) ∗ atPos ER (dCell c (kMR 0 1)) 0 ∅ 0)
def Fl0_16 (I : Ins F) (c : Dev nD) (f5 : Vec F S512x1024 .bf16) (f6 : Vec F S2x512x512 .bf16) (f7 : Vec F S2x512x8 .f32) : sProp 𝕄 := iprop(cred (tallyAt (dCell c (kOR 0 2)) () NO) ∗ atPos ER (dCell c (kOR 0 2)) 0 ∅ 0)
def Fl0_17 (I : Ins F) (c : Dev nD) (f5 : Vec F S512x1024 .bf16) (f6 : Vec F S2x512x512 .bf16) (f7 : Vec F S2x512x8 .f32) : sProp 𝕄 := iprop(cred (tallyAt (dCell c (kMR 0 2)) () NM) ∗ atPos ER (dCell c (kMR 0 2)) 0 ∅ 0)
def Fl0_19 (I : Ins F) (c : Dev nD) (f5 : Vec F S512x1024 .bf16) (f6 : Vec F S2x512x512 .bf16) (f7 : Vec F S2x512x8 .f32) : sProp 𝕄 := iprop(cred (tallyAt (dCell c (kOR 0 3)) () NO) ∗ atPos ER (dCell c (kOR 0 3)) 0 ∅ 0)
def Fl0_20 (I : Ins F) (c : Dev nD) (f5 : Vec F S512x1024 .bf16) (f6 : Vec F S2x512x512 .bf16) (f7 : Vec F S2x512x8 .f32) : sProp 𝕄 := iprop(cred (tallyAt (dCell c (kMR 0 3)) () NM) ∗ atPos ER (dCell c (kMR 0 3)) 0 ∅ 0)
def Fl0_23 (I : Ins F) (c : Dev nD) (f5 : Vec F S512x1024 .bf16) (f6 : Vec F S2x512x512 .bf16) (f7 : Vec F S2x512x8 .f32) : sProp 𝕄 := iprop(cred (tallyAt (dCell c (kOR 1 1)) () NO) ∗ atPos ER (dCell c (kOR 1 1)) 0 ∅ 0 ∗ cred (tallyAt (dCell c (kMR 1 1)) () NM) ∗ atPos ER (dCell c (kMR 1 1)) 0 ∅ 0)
def Fl0_26 (I : Ins F) (c : Dev nD) (f5 : Vec F S512x1024 .bf16) (f6 : Vec F S2x512x512 .bf16) (f7 : Vec F S2x512x8 .f32) : sProp 𝕄 := iprop(cred (tallyAt (dCell c (kOR 1 2)) () NO) ∗ atPos ER (dCell c (kOR 1 2)) 0 ∅ 0 ∗ cred (tallyAt (dCell c (kMR 1 2)) () NM) ∗ atPos ER (dCell c (kMR 1 2)) 0 ∅ 0)
def Fl0_29 (I : Ins F) (c : Dev nD) (f5 : Vec F S512x1024 .bf16) (f6 : Vec F S2x512x512 .bf16) (f7 : Vec F S2x512x8 .f32) : sProp 𝕄 := iprop(cred (tallyAt (dCell c (kOR 1 3)) () NO) ∗ atPos ER (dCell c (kOR 1 3)) 0 ∅ 0 ∗ cred (tallyAt (dCell c (kMR 1 3)) () NM) ∗ atPos ER (dCell c (kMR 1 3)) 0 ∅ 0)
def Fl0_32 (I : Ins F) (c : Dev nD) (f5 : Vec F S512x1024 .bf16) (f6 : Vec F S2x512x512 .bf16) (f7 : Vec F S2x512x8 .f32) : sProp 𝕄 := iprop(p2 c (I.wo c) ∗ p5 c (uRows c) fullShare f5 ∗ dutyTok ER (dCell c (kAS 1)) 0 0 ∗ dutyTok ER (dCell (aft c 1) (kAR (neg 1))) 0 0)
def Fl0_33 (I : Ins F) (c : Dev nD) (f5 : Vec F S512x1024 .bf16) (f6 : Vec F S2x512x512 .bf16) (f7 : Vec F S2x512x8 .f32) : sProp 𝕄 := iprop(dutyTok ER (dCell c (kAS 2)) 0 0 ∗ dutyTok ER (dCell (aft c 2) (kAR (neg 2))) 0 0 ∗ dutyTok ER (dCell c (kAS 3)) 0 0 ∗ dutyTok ER (dCell (aft c 3) (kAR (neg 3))) 0 0 ∗ cred (tallyAt (dCell c (kAR 1)) () NA) ∗ atPos ER (dCell c (kAR 1)) 0 ∅ 0)
def Fl0_34 (I : Ins F) (c : Dev nD) (f5 : Vec F S512x1024 .bf16) (f6 : Vec F S2x512x512 .bf16) (f7 : Vec F S2x512x8 .f32) : sProp 𝕄 := iprop(cred (tallyAt (dCell c (kAR 2)) () NA) ∗ atPos ER (dCell c (kAR 2)) 0 ∅ 0 ∗ cred (tallyAt (dCell c (kAR 3)) () NA) ∗ atPos ER (dCell c (kAR 3)) 0 ∅ 0 ∗ atPos ER (dCell c (kOS 0 1)) 0 ∅ 0 ∗ atPos ER (dCell c (kMS 0 1)) 0 ∅ 0)
def Fl0_35 (I : Ins F) (c : Dev nD) (f5 : Vec F S512x1024 .bf16) (f6 : Vec F S2x512x512 .bf16) (f7 : Vec F S2x512x8 .f32) : sProp 𝕄 := iprop(atPos ER (dCell c (kOS 0 2)) 0 ∅ 0 ∗ atPos ER (dCell c (kMS 0 2)) 0 ∅ 0 ∗ atPos ER (dCell c (kOS 0 3)) 0 ∅ 0)
def Fl0_36 (I : Ins F) (c : Dev nD) (f5 : Vec F S512x1024 .bf16) (f6 : Vec F S2x512x512 .bf16) (f7 : Vec F S2x512x8 .f32) : sProp 𝕄 := iprop(atPos ER (dCell c (kMS 0 3)) 0 ∅ 0 ∗ atPos ER (dCell c (kOS 1 1)) 0 ∅ 0 ∗ atPos ER (dCell c (kMS 1 1)) 0 ∅ 0)
def Fl0_37 (I : Ins F) (c : Dev nD) (f5 : Vec F S512x1024 .bf16) (f6 : Vec F S2x512x512 .bf16) (f7 : Vec F S2x512x8 .f32) : sProp 𝕄 := iprop(atPos ER (dCell c (kOS 1 2)) 0 ∅ 0 ∗ atPos ER (dCell c (kMS 1 2)) 0 ∅ 0 ∗ atPos ER (dCell c (kOS 1 3)) 0 ∅ 0 ∗ atPos ER (dCell c (kMS 1 3)) 0 ∅ 0)
def Fl0_38 (I : Ins F) (c : Dev nD) (f5 : Vec F S512x1024 .bf16) (f6 : Vec F S2x512x512 .bf16) (f7 : Vec F S2x512x8 .f32) : sProp 𝕄 := iprop(atPos ER (dCell c (kAS 1)) 0 ∅ 0 ∗ atPos ER (dCell c (kAS 2)) 0 ∅ 0 ∗ atPos ER (dCell c (kAS 3)) 0 ∅ 0)
def Fl1_4 (I : Ins F) (c : Dev nD) (f5 : Vec F S512x1024 .bf16) (f6 : Vec F S2x512x512 .bf16) (f7 : Vec F S2x512x8 .f32) : sProp 𝕄 := iprop((∃ f, p8 (aft c 1) (oSlot 0 (neg 1)) f) ∗ owesE c 15)
def Fl1_5 (I : Ins F) (c : Dev nD) (f5 : Vec F S512x1024 .bf16) (f6 : Vec F S2x512x512 .bf16) (f7 : Vec F S2x512x8 .f32) : sProp 𝕄 := iprop((∃ f, p9 (aft c 1) (mSlot 0 (neg 1)) f) ∗ (∃ f, p8 (aft c 2) (oSlot 0 (neg 2)) f))
def Fl1_6 (I : Ins F) (c : Dev nD) (f5 : Vec F S512x1024 .bf16) (f6 : Vec F S2x512x512 .bf16) (f7 : Vec F S2x512x8 .f32) : sProp 𝕄 := iprop((∃ f, p9 (aft c 2) (mSlot 0 (neg 2)) f) ∗ (∃ f, p8 (aft c 3) (oSlot 0 (neg 3)) f))
def Fl1_7 (I : Ins F) (c : Dev nD) (f5 : Vec F S512x1024 .bf16) (f6 : Vec F S2x512x512 .bf16) (f7 : Vec F S2x512x8 .f32) : sProp 𝕄 := iprop((∃ f, p9 (aft c 3) (mSlot 0 (neg 3)) f) ∗ p3 c (I.k c))
def Fl1_10 (I : Ins F) (c : Dev nD) (f5 : Vec F S512x1024 .bf16) (f6 : Vec F S2x512x512 .bf16) (f7 : Vec F S2x512x8 .f32) : sProp 𝕄 := iprop((∃ f, p8 (aft c 1) (oSlot 1 (neg 1)) f) ∗ (∃ f, p9 (aft c 1) (mSlot 1 (neg 1)) f))
def Fl1_11 (I : Ins F) (c : Dev nD) (f5 : Vec F S512x1024 .bf16) (f6 : Vec F S2x512x512 .bf16) (f7 : Vec F S2x512x8 .f32) : sProp 𝕄 := iprop((∃ f, p8 (aft c 2) (oSlot 1 (neg 2)) f) ∗ (∃ f, p9 (aft c 2) (mSlot 1 (neg 2)) f))
def Fl1_12 (I : Ins F) (c : Dev nD) (f5 : Vec F S512x1024 .bf16) (f6 : Vec F S2x512x512 .bf16) (f7 : Vec F S2x512x8 .f32) : sProp 𝕄 := iprop((∃ f, p8 (aft c 3) (oSlot 1 (neg 3)) f) ∗ (∃ f, p9 (aft c 3) (mSlot 1 (neg 3)) f))
def Fl1_32 (I : Ins F) (c : Dev nD) (f5 : Vec F S512x1024 .bf16) (f6 : Vec F S2x512x512 .bf16) (f7 : Vec F S2x512x8 .f32) : sProp 𝕄 := iprop((∃ f, p5 (aft c 1) (uRows c) fullShare f))
def Fl1_33 (I : Ins F) (c : Dev nD) (f5 : Vec F S512x1024 .bf16) (f6 : Vec F S2x512x512 .bf16) (f7 : Vec F S2x512x8 .f32) : sProp 𝕄 := iprop((∃ f, p5 (aft c 2) (uRows c) fullShare f) ∗ (∃ f, p5 (aft c 3) (uRows c) fullShare f))
def Fl1_39 (I : Ins F) (c : Dev nD) (f5 : Vec F S512x1024 .bf16) (f6 : Vec F S2x512x512 .bf16) (f7 : Vec F S2x512x8 .f32) : sProp 𝕄 := iprop(atPos ER (barCell c) 1 ∅ 0 ∗ p0 c (I.x c) ∗ p1 c (I.wq c))
def Fl2_3 (I : Ins F) (c : Dev nD) (f5 : Vec F S512x1024 .bf16) (f6 : Vec F S2x512x512 .bf16) (f7 : Vec F S2x512x8 .f32) : sProp 𝕄 := iprop(p6 c (oStrip 0 1) f6)
def Fl2_4 (I : Ins F) (c : Dev nD) (f5 : Vec F S512x1024 .bf16) (f6 : Vec F S2x512x512 .bf16) (f7 : Vec F S2x512x8 .f32) : sProp 𝕄 := iprop(p6 c (oStrip 0 0) (oC I c) ∗ p7 c (mStrip 0 (cm 0)) (mC I c) ∗ p7 c (mStrip 0 (cl 0)) (mC I c))
def Fl2_7 (I : Ins F) (c : Dev nD) (f5 : Vec F S512x1024 .bf16) (f6 : Vec F S2x512x512 .bf16) (f7 : Vec F S2x512x8 .f32) : sProp 𝕄 := iprop(p4 c (I.v c))
def Fl3_4 (I : Ins F) (c : Dev nD) (f5 : Vec F S512x1024 .bf16) (f6 : Vec F S2x512x512 .bf16) (f7 : Vec F S2x512x8 .f32) : sProp 𝕄 := iprop(p6 c (oStrip 0 1) (oC I c) ∗ p6 c (oStrip 0 2) (oC I c) ∗ p7 c (mStrip 0 (cm 1)) (mC I c) ∗ p7 c (mStrip 0 (cm 2)) (mC I c) ∗ p7 c (mStrip 0 (cl 1)) (mC I c) ∗ p7 c (mStrip 0 (cl 2)) (mC I c))
def Fl4_5 (I : Ins F) (c : Dev nD) (f5 : Vec F S512x1024 .bf16) (f6 : Vec F S2x512x512 .bf16) (f7 : Vec F S2x512x8 .f32) : sProp 𝕄 := iprop(p7 c (mRows 0 (aft c 1)) (mC I c) ∗ owesE c 14 ∗ p6 c (oRows 0 (aft c 2)) (oC I c))
def Fl4_6 (I : Ins F) (c : Dev nD) (f5 : Vec F S512x1024 .bf16) (f6 : Vec F S2x512x512 .bf16) (f7 : Vec F S2x512x8 .f32) : sProp 𝕄 := iprop(p7 c (mRows 0 (aft c 2)) (mC I c) ∗ p6 c (oRows 0 (aft c 3)) (oC I c))
def Fl4_7 (I : Ins F) (c : Dev nD) (f5 : Vec F S512x1024 .bf16) (f6 : Vec F S2x512x512 .bf16) (f7 : Vec F S2x512x8 .f32) : sProp 𝕄 := iprop(p7 c (mRows 0 (aft c 3)) (mC I c))
def Fl4_12 (I : Ins F) (c : Dev nD) (f5 : Vec F S512x1024 .bf16) (f6 : Vec F S2x512x512 .bf16) (f7 : Vec F S2x512x8 .f32) : sProp 𝕄 := iprop(p6 c (oRows 0 c) (oC I c) ∗ p7 c (mRows 0 c) (mC I c))
def Fl4_34 (I : Ins F) (c : Dev nD) (f5 : Vec F S512x1024 .bf16) (f6 : Vec F S2x512x512 .bf16) (f7 : Vec F S2x512x8 .f32) : sProp 𝕄 := iprop(cred (tallyAt (dCell c (kOS 0 1)) () NO))
def Fl5_6 (I : Ins F) (c : Dev nD) (f5 : Vec F S512x1024 .bf16) (f6 : Vec F S2x512x512 .bf16) (f7 : Vec F S2x512x8 .f32) : sProp 𝕄 := iprop(owesE c 12)
def Fl5_34 (I : Ins F) (c : Dev nD) (f5 : Vec F S512x1024 .bf16) (f6 : Vec F S2x512x512 .bf16) (f7 : Vec F S2x512x8 .f32) : sProp 𝕄 := iprop(cred (tallyAt (dCell c (kMS 0 1)) () NM))
def Fl5_35 (I : Ins F) (c : Dev nD) (f5 : Vec F S512x1024 .bf16) (f6 : Vec F S2x512x512 .bf16) (f7 : Vec F S2x512x8 .f32) : sProp 𝕄 := iprop(cred (tallyAt (dCell c (kOS 0 2)) () NO))
def Fl6_7 (I : Ins F) (c : Dev nD) (f5 : Vec F S512x1024 .bf16) (f6 : Vec F S2x512x512 .bf16) (f7 : Vec F S2x512x8 .f32) : sProp 𝕄 := iprop(owesE c 10)
def Fl6_35 (I : Ins F) (c : Dev nD) (f5 : Vec F S512x1024 .bf16) (f6 : Vec F S2x512x512 .bf16) (f7 : Vec F S2x512x8 .f32) : sProp 𝕄 := iprop(cred (tallyAt (dCell c (kMS 0 2)) () NM) ∗ cred (tallyAt (dCell c (kOS 0 3)) () NO))
def Fl7_10 (I : Ins F) (c : Dev nD) (f5 : Vec F S512x1024 .bf16) (f6 : Vec F S2x512x512 .bf16) (f7 : Vec F S2x512x8 .f32) : sProp 𝕄 := iprop(p6 c (oStrip 1 0) (oC I c) ∗ p7 c (mStrip 1 (cm 0)) (mC I c) ∗ p7 c (mStrip 1 (cl 0)) (mC I c) ∗ owesE c 9)
def Fl7_36 (I : Ins F) (c : Dev nD) (f5 : Vec F S512x1024 .bf16) (f6 : Vec F S2x512x512 .bf16) (f7 : Vec F S2x512x8 .f32) : sProp 𝕄 := iprop(cred (tallyAt (dCell c (kMS 0 3)) () NM))
def Fl7_39 (I : Ins F) (c : Dev nD) (f5 : Vec F S512x1024 .bf16) (f6 : Vec F S2x512x512 .bf16) (f7 : Vec F S2x512x8 .f32) : sProp 𝕄 := iprop(p3 c (I.k c) ∗ p4 c (I.v c))
def Fl8_10 (I : Ins F) (c : Dev nD) (f5 : Vec F S512x1024 .bf16) (f6 : Vec F S2x512x512 .bf16) (f7 : Vec F S2x512x8 .f32) : sProp 𝕄 := iprop(p6 c (oStrip 1 1) (oC I c) ∗ p6 c (oStrip 1 2) (oC I c) ∗ p7 c (mStrip 1 (cm 1)) (mC I c) ∗ p7 c (mStrip 1 (cl 1)) (mC I c))
def Fl9_10 (I : Ins F) (c : Dev nD) (f5 : Vec F S512x1024 .bf16) (f6 : Vec F S2x512x512 .bf16) (f7 : Vec F S2x512x8 .f32) : sProp 𝕄 := iprop(p6 c (oStrip 1 3) (oC I c) ∗ p7 c (mStrip 1 (cm 2)) (mC I c) ∗ p7 c (mStrip 1 (cm 3)) (mC I c) ∗ p7 c (mStrip 1 (cl 2)) (mC I c) ∗ p7 c (mStrip 1 (cl 3)) (mC I c))
def Fl10_11 (I : Ins F) (c : Dev nD) (f5 : Vec F S512x1024 .bf16) (f6 : Vec F S2x512x512 .bf16) (f7 : Vec F S2x512x8 .f32) : sProp 𝕄 := iprop(p6 c (oRows 1 (aft c 2)) (oC I c) ∗ owesE c 7 ∗ p7 c (mRows 1 (aft c 2)) (mC I c))
def Fl10_12 (I : Ins F) (c : Dev nD) (f5 : Vec F S512x1024 .bf16) (f6 : Vec F S2x512x512 .bf16) (f7 : Vec F S2x512x8 .f32) : sProp 𝕄 := iprop(p6 c (oRows 1 (aft c 3)) (oC I c) ∗ p7 c (mRows 1 (aft c 3)) (mC I c))
def Fl10_22 (I : Ins F) (c : Dev nD) (f5 : Vec F S512x1024 .bf16) (f6 : Vec F S2x512x512 .bf16) (f7 : Vec F S2x512x8 .f32) : sProp 𝕄 := iprop(p6 c (oRows 1 c) (oC I c) ∗ p7 c (mRows 1 c) (mC I c))
def Fl10_36 (I : Ins F) (c : Dev nD) (f5 : Vec F S512x1024 .bf16) (f6 : Vec F S2x512x512 .bf16) (f7 : Vec F S2x512x8 .f32) : sProp 𝕄 := iprop(cred (tallyAt (dCell c (kOS 1 1)) () NO) ∗ cred (tallyAt (dCell c (kMS 1 1)) () NM))
def Fl11_12 (I : Ins F) (c : Dev nD) (f5 : Vec F S512x1024 .bf16) (f6 : Vec F S2x512x512 .bf16) (f7 : Vec F S2x512x8 .f32) : sProp 𝕄 := iprop(owesE c 5)
def Fl11_37 (I : Ins F) (c : Dev nD) (f5 : Vec F S512x1024 .bf16) (f6 : Vec F S2x512x512 .bf16) (f7 : Vec F S2x512x8 .f32) : sProp 𝕄 := iprop(cred (tallyAt (dCell c (kOS 1 2)) () NO) ∗ cred (tallyAt (dCell c (kMS 1 2)) () NM))
def Fl12_13 (I : Ins F) (c : Dev nD) (f5 : Vec F S512x1024 .bf16) (f6 : Vec F S2x512x512 .bf16) (f7 : Vec F S2x512x8 .f32) : sProp 𝕄 := iprop(p7 c (mRows 0 c) (mC I c) ∗ p6 c (oRows 0 c) (oC I c) ∗ owesE c 3)
def Fl12_37 (I : Ins F) (c : Dev nD) (f5 : Vec F S512x1024 .bf16) (f6 : Vec F S2x512x512 .bf16) (f7 : Vec F S2x512x8 .f32) : sProp 𝕄 := iprop(cred (tallyAt (dCell c (kOS 1 3)) () NO) ∗ cred (tallyAt (dCell c (kMS 1 3)) () NM))
def Fl13_14 (I : Ins F) (c : Dev nD) (f5 : Vec F S512x1024 .bf16) (f6 : Vec F S2x512x512 .bf16) (f7 : Vec F S2x512x8 .f32) : sProp 𝕄 := iprop(owesE c 3 ∗ p8 c (oSlot 0 1) (oS I c))
def Fl13_39 (I : Ins F) (c : Dev nD) (f5 : Vec F S512x1024 .bf16) (f6 : Vec F S2x512x512 .bf16) (f7 : Vec F S2x512x8 .f32) : sProp 𝕄 := iprop(p7 c (mRows 0 c) (mC I c) ∗ p6 c (oRows 0 c) (oC I c) ∗ atPos ER (dCell c (kOR 0 1)) 1 ∅ 0)
def Fl14_15 (I : Ins F) (c : Dev nD) (f5 : Vec F S512x1024 .bf16) (f6 : Vec F S2x512x512 .bf16) (f7 : Vec F S2x512x8 .f32) : sProp 𝕄 := iprop(p9 c (mSlot 0 1) (mS I c) ∗ p8 c (oSlot 0 1) (oS I c))
def Fl14_16 (I : Ins F) (c : Dev nD) (f5 : Vec F S512x1024 .bf16) (f6 : Vec F S2x512x512 .bf16) (f7 : Vec F S2x512x8 .f32) : sProp 𝕄 := iprop(owesE c 3)
def Fl14_39 (I : Ins F) (c : Dev nD) (f5 : Vec F S512x1024 .bf16) (f6 : Vec F S2x512x512 .bf16) (f7 : Vec F S2x512x8 .f32) : sProp 𝕄 := iprop(atPos ER (dCell c (kMR 0 1)) 1 ∅ 0)
def Fl15_16 (I : Ins F) (c : Dev nD) (f5 : Vec F S512x1024 .bf16) (f6 : Vec F S2x512x512 .bf16) (f7 : Vec F S2x512x8 .f32) : sProp 𝕄 := iprop(p9 c (mSlot 0 1) (mS I c) ∗ p8 c (oSlot 0 1) (oS I c))
def Fl16_17 (I : Ins F) (c : Dev nD) (f5 : Vec F S512x1024 .bf16) (f6 : Vec F S2x512x512 .bf16) (f7 : Vec F S2x512x8 .f32) : sProp 𝕄 := iprop(owesE c 3 ∗ p8 c (oSlot 0 2) (oS I c))
def Fl16_39 (I : Ins F) (c : Dev nD) (f5 : Vec F S512x1024 .bf16) (f6 : Vec F S2x512x512 .bf16) (f7 : Vec F S2x512x8 .f32) : sProp 𝕄 := iprop(p9 c (mSlot 0 1) (mS I c) ∗ p8 c (oSlot 0 1) (oS I c) ∗ atPos ER (dCell c (kOR 0 2)) 1 ∅ 0)
def Fl17_18 (I : Ins F) (c : Dev nD) (f5 : Vec F S512x1024 .bf16) (f6 : Vec F S2x512x512 .bf16) (f7 : Vec F S2x512x8 .f32) : sProp 𝕄 := iprop(p8 c (oSlot 0 2) (oS I c) ∗ p9 c (mSlot 0 2) (mS I c))
def Fl17_19 (I : Ins F) (c : Dev nD) (f5 : Vec F S512x1024 .bf16) (f6 : Vec F S2x512x512 .bf16) (f7 : Vec F S2x512x8 .f32) : sProp 𝕄 := iprop(owesE c 3)
def Fl17_39 (I : Ins F) (c : Dev nD) (f5 : Vec F S512x1024 .bf16) (f6 : Vec F S2x512x512 .bf16) (f7 : Vec F S2x512x8 .f32) : sProp 𝕄 := iprop(atPos ER (dCell c (kMR 0 2)) 1 ∅ 0)
def Fl18_19 (I : Ins F) (c : Dev nD) (f5 : Vec F S512x1024 .bf16) (f6 : Vec F S2x512x512 .bf16) (f7 : Vec F S2x512x8 .f32) : sProp 𝕄 := iprop(p8 c (oSlot 0 2) (oS I c))
def Fl18_39 (I : Ins F) (c : Dev nD) (f5 : Vec F S512x1024 .bf16) (f6 : Vec F S2x512x512 .bf16) (f7 : Vec F S2x512x8 .f32) : sProp 𝕄 := iprop(p9 c (mSlot 0 2) (mS I c))
def Fl19_20 (I : Ins F) (c : Dev nD) (f5 : Vec F S512x1024 .bf16) (f6 : Vec F S2x512x512 .bf16) (f7 : Vec F S2x512x8 .f32) : sProp 𝕄 := iprop(owesE c 3 ∗ p8 c (oSlot 0 3) (oS I c))
def Fl19_39 (I : Ins F) (c : Dev nD) (f5 : Vec F S512x1024 .bf16) (f6 : Vec F S2x512x512 .bf16) (f7 : Vec F S2x512x8 .f32) : sProp 𝕄 := iprop(p8 c (oSlot 0 2) (oS I c) ∗ atPos ER (dCell c (kOR 0 3)) 1 ∅ 0)
def Fl20_21 (I : Ins F) (c : Dev nD) (f5 : Vec F S512x1024 .bf16) (f6 : Vec F S2x512x512 .bf16) (f7 : Vec F S2x512x8 .f32) : sProp 𝕄 := iprop(p9 c (mSlot 0 3) (mS I c) ∗ p8 c (oSlot 0 3) (oS I c))
def Fl20_23 (I : Ins F) (c : Dev nD) (f5 : Vec F S512x1024 .bf16) (f6 : Vec F S2x512x512 .bf16) (f7 : Vec F S2x512x8 .f32) : sProp 𝕄 := iprop(owesE c 3)
def Fl20_39 (I : Ins F) (c : Dev nD) (f5 : Vec F S512x1024 .bf16) (f6 : Vec F S2x512x512 .bf16) (f7 : Vec F S2x512x8 .f32) : sProp 𝕄 := iprop(atPos ER (dCell c (kMR 0 3)) 1 ∅ 0)
def Fl21_39 (I : Ins F) (c : Dev nD) (f5 : Vec F S512x1024 .bf16) (f6 : Vec F S2x512x512 .bf16) (f7 : Vec F S2x512x8 .f32) : sProp 𝕄 := iprop(p9 c (mSlot 0 3) (mS I c) ∗ p8 c (oSlot 0 3) (oS I c))
def Fl22_23 (I : Ins F) (c : Dev nD) (f5 : Vec F S512x1024 .bf16) (f6 : Vec F S2x512x512 .bf16) (f7 : Vec F S2x512x8 .f32) : sProp 𝕄 := iprop(p6 c (oRows 1 c) (oC I c) ∗ p7 c (mRows 1 c) (mC I c))
def Fl23_24 (I : Ins F) (c : Dev nD) (f5 : Vec F S512x1024 .bf16) (f6 : Vec F S2x512x512 .bf16) (f7 : Vec F S2x512x8 .f32) : sProp 𝕄 := iprop(p9 c (mSlot 1 1) (mS I c) ∗ p8 c (oSlot 1 1) (oS I c))
def Fl23_26 (I : Ins F) (c : Dev nD) (f5 : Vec F S512x1024 .bf16) (f6 : Vec F S2x512x512 .bf16) (f7 : Vec F S2x512x8 .f32) : sProp 𝕄 := iprop(owesE c 3)
def Fl23_39 (I : Ins F) (c : Dev nD) (f5 : Vec F S512x1024 .bf16) (f6 : Vec F S2x512x512 .bf16) (f7 : Vec F S2x512x8 .f32) : sProp 𝕄 := iprop(p6 c (oRows 1 c) (oC I c) ∗ p7 c (mRows 1 c) (mC I c) ∗ atPos ER (dCell c (kOR 1 1)) 1 ∅ 0 ∗ atPos ER (dCell c (kMR 1 1)) 1 ∅ 0)
def Fl24_25 (I : Ins F) (c : Dev nD) (f5 : Vec F S512x1024 .bf16) (f6 : Vec F S2x512x512 .bf16) (f7 : Vec F S2x512x8 .f32) : sProp 𝕄 := iprop(p9 c (mSlot 1 1) (mS I c) ∗ p8 c (oSlot 1 1) (oS I c))
def Fl25_39 (I : Ins F) (c : Dev nD) (f5 : Vec F S512x1024 .bf16) (f6 : Vec F S2x512x512 .bf16) (f7 : Vec F S2x512x8 .f32) : sProp 𝕄 := iprop(p9 c (mSlot 1 1) (mS I c) ∗ p8 c (oSlot 1 1) (oS I c))
def Fl26_27 (I : Ins F) (c : Dev nD) (f5 : Vec F S512x1024 .bf16) (f6 : Vec F S2x512x512 .bf16) (f7 : Vec F S2x512x8 .f32) : sProp 𝕄 := iprop(p9 c (mSlot 1 2) (mS I c) ∗ p8 c (oSlot 1 2) (oS I c))
def Fl26_29 (I : Ins F) (c : Dev nD) (f5 : Vec F S512x1024 .bf16) (f6 : Vec F S2x512x512 .bf16) (f7 : Vec F S2x512x8 .f32) : sProp 𝕄 := iprop(owesE c 3)
def Fl26_39 (I : Ins F) (c : Dev nD) (f5 : Vec F S512x1024 .bf16) (f6 : Vec F S2x512x512 .bf16) (f7 : Vec F S2x512x8 .f32) : sProp 𝕄 := iprop(atPos ER (dCell c (kOR 1 2)) 1 ∅ 0 ∗ atPos ER (dCell c (kMR 1 2)) 1 ∅ 0)
def Fl27_28 (I : Ins F) (c : Dev nD) (f5 : Vec F S512x1024 .bf16) (f6 : Vec F S2x512x512 .bf16) (f7 : Vec F S2x512x8 .f32) : sProp 𝕄 := iprop(p9 c (mSlot 1 2) (mS I c) ∗ p8 c (oSlot 1 2) (oS I c))
def Fl28_39 (I : Ins F) (c : Dev nD) (f5 : Vec F S512x1024 .bf16) (f6 : Vec F S2x512x512 .bf16) (f7 : Vec F S2x512x8 .f32) : sProp 𝕄 := iprop(p9 c (mSlot 1 2) (mS I c) ∗ p8 c (oSlot 1 2) (oS I c))
def Fl29_30 (I : Ins F) (c : Dev nD) (f5 : Vec F S512x1024 .bf16) (f6 : Vec F S2x512x512 .bf16) (f7 : Vec F S2x512x8 .f32) : sProp 𝕄 := iprop(p8 c (oSlot 1 3) (oS I c) ∗ p9 c (mSlot 1 3) (mS I c))
def Fl29_32 (I : Ins F) (c : Dev nD) (f5 : Vec F S512x1024 .bf16) (f6 : Vec F S2x512x512 .bf16) (f7 : Vec F S2x512x8 .f32) : sProp 𝕄 := iprop(owesE c 3)
def Fl29_39 (I : Ins F) (c : Dev nD) (f5 : Vec F S512x1024 .bf16) (f6 : Vec F S2x512x512 .bf16) (f7 : Vec F S2x512x8 .f32) : sProp 𝕄 := iprop(atPos ER (dCell c (kOR 1 3)) 1 ∅ 0 ∗ atPos ER (dCell c (kMR 1 3)) 1 ∅ 0)
def Fl30_31 (I : Ins F) (c : Dev nD) (f5 : Vec F S512x1024 .bf16) (f6 : Vec F S2x512x512 .bf16) (f7 : Vec F S2x512x8 .f32) : sProp 𝕄 := iprop(p8 c (oSlot 1 3) (oS I c) ∗ p9 c (mSlot 1 3) (mS I c))
def Fl31_39 (I : Ins F) (c : Dev nD) (f5 : Vec F S512x1024 .bf16) (f6 : Vec F S2x512x512 .bf16) (f7 : Vec F S2x512x8 .f32) : sProp 𝕄 := iprop(p8 c (oSlot 1 3) (oS I c) ∗ p9 c (mSlot 1 3) (mS I c))
def Fl32_33 (I : Ins F) (c : Dev nD) (f5 : Vec F S512x1024 .bf16) (f6 : Vec F S2x512x512 .bf16) (f7 : Vec F S2x512x8 .f32) : sProp 𝕄 := iprop(p5 c (uRows c) (sh 2) (outC I) ∗ owesE c 2 ∗ p5 c (uRows c) (sh 3) (outC I))
def Fl32_38 (I : Ins F) (c : Dev nD) (f5 : Vec F S512x1024 .bf16) (f6 : Vec F S2x512x512 .bf16) (f7 : Vec F S2x512x8 .f32) : sProp 𝕄 := iprop(cred (tallyAt (dCell c (kAS 1)) () NA))
def Fl32_39 (I : Ins F) (c : Dev nD) (f5 : Vec F S512x1024 .bf16) (f6 : Vec F S2x512x512 .bf16) (f7 : Vec F S2x512x8 .f32) : sProp 𝕄 := iprop(p2 c (I.wo c))
def Fl33_34 (I : Ins F) (c : Dev nD) (f5 : Vec F S512x1024 .bf16) (f6 : Vec F S2x512x512 .bf16) (f7 : Vec F S2x512x8 .f32) : sProp 𝕄 := iprop(owesE c 0)
def Fl33_38 (I : Ins F) (c : Dev nD) (f5 : Vec F S512x1024 .bf16) (f6 : Vec F S2x512x512 .bf16) (f7 : Vec F S2x512x8 .f32) : sProp 𝕄 := iprop(cred (tallyAt (dCell c (kAS 2)) () NA) ∗ cred (tallyAt (dCell c (kAS 3)) () NA))
def Fl33_39 (I : Ins F) (c : Dev nD) (f5 : Vec F S512x1024 .bf16) (f6 : Vec F S2x512x512 .bf16) (f7 : Vec F S2x512x8 .f32) : sProp 𝕄 := iprop(atPos ER (dCell c (kAR 1)) 1 ∅ 0 ∗ p5 c (uRows (aft c 1)) fullShare (outC I))
def Fl34_35 (I : Ins F) (c : Dev nD) (f5 : Vec F S512x1024 .bf16) (f6 : Vec F S2x512x512 .bf16) (f7 : Vec F S2x512x8 .f32) : sProp 𝕄 := iprop(owesE c 0)
def Fl34_39 (I : Ins F) (c : Dev nD) (f5 : Vec F S512x1024 .bf16) (f6 : Vec F S2x512x512 .bf16) (f7 : Vec F S2x512x8 .f32) : sProp 𝕄 := iprop(atPos ER (dCell c (kAR 2)) 1 ∅ 0 ∗ p5 c (uRows (aft c 2)) fullShare (outC I) ∗ atPos ER (dCell c (kAR 3)) 1 ∅ 0 ∗ p5 c (uRows (aft c 3)) fullShare (outC I) ∗ atPos ER (dCell c (kOS 0 1)) 1 ∅ 0 ∗ p6 c (oRows 0 (aft c 1)) (oC I c) ∗ atPos ER (dCell c (kMS 0 1)) 1 ∅ 0 ∗ p7 c (mRows 0 (aft c 1)) (mC I c))
def Fl35_36 (I : Ins F) (c : Dev nD) (f5 : Vec F S512x1024 .bf16) (f6 : Vec F S2x512x512 .bf16) (f7 : Vec F S2x512x8 .f32) : sProp 𝕄 := iprop(owesE c 0)
def Fl35_39 (I : Ins F) (c : Dev nD) (f5 : Vec F S512x1024 .bf16) (f6 : Vec F S2x512x512 .bf16) (f7 : Vec F S2x512x8 .f32) : sProp 𝕄 := iprop(atPos ER (dCell c (kOS 0 2)) 1 ∅ 0 ∗ p6 c (oRows 0 (aft c 2)) (oC I c) ∗ atPos ER (dCell c (kMS 0 2)) 1 ∅ 0 ∗ p7 c (mRows 0 (aft c 2)) (mC I c) ∗ atPos ER (dCell c (kOS 0 3)) 1 ∅ 0 ∗ p6 c (oRows 0 (aft c 3)) (oC I c))
def Fl36_37 (I : Ins F) (c : Dev nD) (f5 : Vec F S512x1024 .bf16) (f6 : Vec F S2x512x512 .bf16) (f7 : Vec F S2x512x8 .f32) : sProp 𝕄 := iprop(owesE c 0)
def Fl36_39 (I : Ins F) (c : Dev nD) (f5 : Vec F S512x1024 .bf16) (f6 : Vec F S2x512x512 .bf16) (f7 : Vec F S2x512x8 .f32) : sProp 𝕄 := iprop(atPos ER (dCell c (kMS 0 3)) 1 ∅ 0 ∗ p7 c (mRows 0 (aft c 3)) (mC I c) ∗ atPos ER (dCell c (kOS 1 1)) 1 ∅ 0 ∗ p6 c (oRows 1 (aft c 1)) (oC I c) ∗ atPos ER (dCell c (kMS 1 1)) 1 ∅ 0 ∗ p7 c (mRows 1 (aft c 1)) (mC I c))
def Fl37_38 (I : Ins F) (c : Dev nD) (f5 : Vec F S512x1024 .bf16) (f6 : Vec F S2x512x512 .bf16) (f7 : Vec F S2x512x8 .f32) : sProp 𝕄 := iprop(owesE c 0)
def Fl37_39 (I : Ins F) (c : Dev nD) (f5 : Vec F S512x1024 .bf16) (f6 : Vec F S2x512x512 .bf16) (f7 : Vec F S2x512x8 .f32) : sProp 𝕄 := iprop(atPos ER (dCell c (kOS 1 2)) 1 ∅ 0 ∗ p6 c (oRows 1 (aft c 2)) (oC I c) ∗ atPos ER (dCell c (kMS 1 2)) 1 ∅ 0 ∗ p7 c (mRows 1 (aft c 2)) (mC I c) ∗ atPos ER (dCell c (kOS 1 3)) 1 ∅ 0 ∗ p6 c (oRows 1 (aft c 3)) (oC I c) ∗ atPos ER (dCell c (kMS 1 3)) 1 ∅ 0 ∗ p7 c (mRows 1 (aft c 3)) (mC I c))
def Fl38_39 (I : Ins F) (c : Dev nD) (f5 : Vec F S512x1024 .bf16) (f6 : Vec F S2x512x512 .bf16) (f7 : Vec F S2x512x8 .f32) : sProp 𝕄 := iprop(atPos ER (dCell c (kAS 1)) 1 ∅ 0 ∗ p5 c (uRows c) (sh 1) (outC I) ∗ atPos ER (dCell c (kAS 2)) 1 ∅ 0 ∗ p5 c (uRows c) (sh 2) (outC I) ∗ owesE c 0 ∗ atPos ER (dCell c (kAS 3)) 1 ∅ 0 ∗ p5 c (uRows c) (sh 3) (outC I))

end Cert.KernelIdeal.K
-- ==== Proof.KernelIdeal.Parts1.lean ====
/- Stretches 1 to 4 of the program: what each takes, does and leaves. -/
module

public import proofs.«01_k».proof.Proof.KernelIdeal.Values

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 4000

theorem part1 {Q : (Σ' (d0 : Dev nD) (v2 : BitVec 32) (v23 : FVec F S512x1024 .bf16), FVec F S2048x128 .bf16) → sProp 𝕄} :
    iprop(env I K ∗ Fl0_1 I c f5 f6 f7)
      ⊢ iprop((∀ r0 : BitVec 32, (Fl1_4 I c f5 f6 f7 ∗ Fl1_5 I c f5 f6 f7 ∗ Fl1_6 I c f5 f6 f7 ∗ Fl1_7 I c f5 f6 f7 ∗ Fl1_10 I c f5 f6 f7 ∗ Fl1_11 I c f5 f6 f7 ∗ Fl1_12 I c f5 f6 f7 ∗ Fl1_32 I c f5 f6 f7 ∗ Fl1_33 I c f5 f6 f7 ∗ Fl1_39 I c f5 f6 f7) -∗ Q ⟨c, r0, w23 I c, w25 I c⟩)
        -∗ WP c (k0_part1 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 ) Q) := by
  rw [k0_part1_eq_skeleton]; unfold k0_part1_skel
  simp only [semSignalWord, semWaitWord, Prog.lift, Prog.bind_op, Prog.bind_ret, Prog.pure_eq_ret, wp_deviceId]
  unfold Fl0_1 Fl1_4 Fl1_5 Fl1_6 Fl1_7 Fl1_10 Fl1_11 Fl1_12 Fl1_32 Fl1_33 Fl1_39 w23 w25
  iintro ⟨#HE, ⟨H1, H2, H3, H5, H6, H8, H9, H11, H12, H30, H31, H32⟩⟩ HQ
  iapply (sig_bar I K c 1 (by decide) (dev1_at c) (by rfl) (O₂ c) rfl) $$ [H1 H2 H3]
  · isplitr; · iexact HE
    isplitl [H1]; · iexact H1
    isplitl [H2]; · iexact H2
    iexact H3
  iintro H4
  iapply (sig_bar I K c 2 (by decide) (dev2_at c) (by rfl) (O₁ c) rfl) $$ [H4 H5 H6]
  · isplitr; · iexact HE
    isplitl [H4]; · iexact H4
    isplitl [H5]; · iexact H5
    iexact H6
  iintro H7
  iapply (sig_bar I K c 3 (by decide) (dev3_at c) (by rfl) (owd c 15) rfl) $$ [H7 H8 H9]
  · isplitr; · iexact HE
    isplitl [H7]; · iexact H7
    isplitl [H8]; · iexact H8
    iexact H9
  iintro H10
  ihave H10 := (owesE_intro (F := F) c 15) $$ H10
  iapply (wait_bar I K c (by rfl)) $$ [H11 H10 H12]
  · isplitr; · iexact HE
    isplitl [H11]; · iexact H11
    isplitl [H10]; · iexact H10
    iexact H12
  iintro ⟨H13, H14, HL1, HL2, HL3⟩
  ihave HL := (land_open (F := F) c 1) $$ HL1
  icases HL with ⟨H15, H16, H17, H18, H19⟩
  ihave HL := (land_open (F := F) c 2) $$ HL2
  icases HL with ⟨H20, H21, H22, H23, H24⟩
  ihave HL := (land_open (F := F) c 3) $$ HL3
  icases HL with ⟨H25, H26, H27, H28, H29⟩
  iapply (ld_x c (I.x c)) $$ H30
  iintro H30
  iapply (ld_wq c (I.wq c)) $$ H31
  iintro H31
  iapply (ld_k c 0 (by rfl) (I.k c)) $$ H32
  iintro H32
  iapply (WP_ret c)
  iapply HQ $$ %_ [H15 H13 H16 H20 H21 H25 H26 H32 H17 H18 H22 H23 H27 H28 H19 H24 H29 H14 H30 H31]
  isplitl [H15 H13]
  · isplitl [H15]; · iexact H15
    iexact H13
  isplitl [H16 H20]
  · isplitl [H16]; · iexact H16
    iexact H20
  isplitl [H21 H25]
  · isplitl [H21]; · iexact H21
    iexact H25
  isplitl [H26 H32]
  · isplitl [H26]; · iexact H26
    iexact H32
  isplitl [H17 H18]
  · isplitl [H17]; · iexact H17
    iexact H18
  isplitl [H22 H23]
  · isplitl [H22]; · iexact H22
    iexact H23
  isplitl [H27 H28]
  · isplitl [H27]; · iexact H27
    iexact H28
  isplitl [H19]
  · iexact H19
  isplitl [H24 H29]
  · isplitl [H24]; · iexact H24
    iexact H29
  isplitl [H14]; · iexact H14
  isplitl [H30]; · iexact H30
  iexact H31

theorem part2 {Q : (Σ' (v27 : FVec F S2048x128 .bf16) (v52 : FVec F S512x1 .f32) (v57 : FVec F S512x1 .f32), FVec F S512x128 .bf16) → sProp 𝕄} :
    iprop(env I K ∗ Fl0_2 I c f5 f6 f7)
      ⊢ iprop(((Fl2_3 I c f5 f6 f7 ∗ Fl2_4 I c f5 f6 f7 ∗ Fl2_7 I c f5 f6 f7) -∗ Q ⟨w27 I c, w52 I c, w57 I c, w60 I c⟩)
        -∗ WP c (k0_part2 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w23 I c) (w25 I c)) Q) := by
  rw [k0_part2_eq_skeleton]; unfold k0_part2_skel
  simp only [semSignalWord, semWaitWord, Prog.lift, Prog.bind_op, Prog.bind_ret, Prog.pure_eq_ret, wp_deviceId]
  unfold Fl0_2 Fl2_3 Fl2_4 Fl2_7 w27 w52 w57 w60
  iintro ⟨#HE, ⟨H1, H2, H4, H6, H8⟩⟩ HQ
  iapply (ld_v c 0 (by rfl) (I.v c)) $$ H1
  iintro H1
  iapply (ld_ostrip c 0 0 f6 (by rfl)) $$ H2
  iintro %wv40 H2
  iapply (st_o I c 0 0 f6 (by rfl) (by rfl)) $$ H2
  iintro H3
  iapply (ld_mstrip c 0 (cm 0) f7 (by rfl)) $$ H4
  iintro %wv43 H4
  iapply (st_m I c 0 0 f7 (by rfl) (by rfl)) $$ H4
  iintro H5
  iapply (ld_mstrip c 0 (cl 0) f7 (by rfl)) $$ H6
  iintro %wv46 H6
  iapply (st_l I c 0 0 f7 (by rfl) (by rfl)) $$ H6
  iintro H7
  iapply (ld_ostrip c 0 1 f6 (by rfl)) $$ H8
  iintro %wv61 H8
  iapply (WP_ret c)
  iapply HQ $$ [H8 H3 H5 H7 H1]
  isplitl [H8]
  · iexact H8
  isplitl [H3 H5 H7]
  · isplitl [H3]; · iexact H3
    isplitl [H5]; · iexact H5
    iexact H7
  iexact H1

theorem part3 {Q : (Σ' (v92 : FVec F S512x2048 .f32) (v94 : FVec F S512x1 .f32), FVec F S512x2048 .f32) → sProp 𝕄} :
    iprop(env I K ∗ Fl2_3 I c f5 f6 f7 ∗ Fl0_3 I c f5 f6 f7)
      ⊢ iprop(((Fl3_4 I c f5 f6 f7) -∗ Q ⟨w92 I c, w94 I c, w95 I c⟩)
        -∗ WP c (k0_part3 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w23 I c) (w25 I c) (w27 I c) (w52 I c) (w57 I c) (w60 I c)) Q) := by
  rw [k0_part3_eq_skeleton]; unfold k0_part3_skel
  simp only [semSignalWord, semWaitWord, Prog.lift, Prog.bind_op, Prog.bind_ret, Prog.pure_eq_ret, wp_deviceId]
  unfold Fl2_3 Fl0_3 Fl3_4 w92 w94 w95
  iintro ⟨#HE, H1, ⟨H3, H5, H7, H9, H11⟩⟩ HQ
  iapply (st_o I c 0 1 f6 (by rfl) (by rfl)) $$ H1
  iintro H2
  iapply (ld_mstrip c 0 (cm 1) f7 (by rfl)) $$ H3
  iintro %wv64 H3
  iapply (st_m I c 0 1 f7 (by rfl) (by rfl)) $$ H3
  iintro H4
  iapply (ld_mstrip c 0 (cl 1) f7 (by rfl)) $$ H5
  iintro %wv67 H5
  iapply (st_l I c 0 1 f7 (by rfl) (by rfl)) $$ H5
  iintro H6
  iapply (ld_ostrip c 0 2 f6 (by rfl)) $$ H7
  iintro %wv82 H7
  iapply (st_o I c 0 2 f6 (by rfl) (by rfl)) $$ H7
  iintro H8
  iapply (ld_mstrip c 0 (cm 2) f7 (by rfl)) $$ H9
  iintro %wv85 H9
  iapply (st_m I c 0 2 f7 (by rfl) (by rfl)) $$ H9
  iintro H10
  iapply (ld_mstrip c 0 (cl 2) f7 (by rfl)) $$ H11
  iintro %wv88 H11
  iapply (st_l I c 0 2 f7 (by rfl) (by rfl)) $$ H11
  iintro H12
  iapply (WP_ret c)
  iapply HQ $$ [H2 H8 H4 H10 H6 H12]
  isplitl [H2]; · iexact H2
  isplitl [H8]; · iexact H8
  isplitl [H4]; · iexact H4
  isplitl [H10]; · iexact H10
  isplitl [H6]; · iexact H6
  iexact H12

theorem part4 (bv2 : BitVec 32) {Q : (Σ' (v113 : BitVec 32), BitVec 32) → sProp 𝕄} :
    iprop(env I K ∗ Fl0_4 I c f5 f6 f7 ∗ Fl2_4 I c f5 f6 f7 ∗ Fl3_4 I c f5 f6 f7 ∗ Fl1_4 I c f5 f6 f7)
      ⊢ iprop((∀ r0 : BitVec 32, ∀ r1 : BitVec 32, (Fl4_5 I c f5 f6 f7 ∗ Fl4_6 I c f5 f6 f7 ∗ Fl4_7 I c f5 f6 f7 ∗ Fl4_12 I c f5 f6 f7 ∗ Fl4_34 I c f5 f6 f7) -∗ Q ⟨r0, r1⟩)
        -∗ WP c (k0_part4 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 (w27 I c) (w92 I c) (w94 I c) (w95 I c)) Q) := by
  rw [k0_part4_eq_skeleton]; unfold k0_part4_skel
  simp only [semSignalWord, semWaitWord, Prog.lift, Prog.bind_op, Prog.bind_ret, Prog.pure_eq_ret, wp_deviceId]
  unfold Fl0_4 Fl2_4 Fl3_4 Fl1_4 Fl4_5 Fl4_6 Fl4_7 Fl4_12 Fl4_34
  iintro ⟨#HE, ⟨H1, H3, H5, H26, H27⟩, ⟨H7, H14, H17⟩, ⟨H8, H9, H15, H16, H18, H19⟩, ⟨H24, H25⟩⟩ HQ
  iapply (ld_ostrip c 0 3 f6 (by rfl)) $$ H1
  iintro %wv103 H1
  iapply (st_o I c 0 3 f6 (by rfl) (by rfl)) $$ H1
  iintro H2
  iapply (ld_mstrip c 0 (cm 3) f7 (by rfl)) $$ H3
  iintro %wv106 H3
  iapply (st_m I c 0 3 f7 (by rfl) (by rfl)) $$ H3
  iintro H4
  iapply (ld_mstrip c 0 (cl 3) f7 (by rfl)) $$ H5
  iintro %wv109 H5
  iapply (st_l I c 0 3 f7 (by rfl) (by rfl)) $$ H5
  iintro H6
  ihave HM := (rows_of_strips6 c 0 (oC I c)) $$ [H7 H8 H9 H2]
  · isplitl [H7]; · iexact H7
    isplitl [H8]; · iexact H8
    isplitl [H9]; · iexact H9
    iexact H2
  icases HM with ⟨H10, H11, H12, H13⟩
  ihave HM := (rows_of_strips7 c 0 (mC I c)) $$ [H14 H15 H16 H4 H17 H18 H19 H6]
  · isplitl [H14]; · iexact H14
    isplitl [H15]; · iexact H15
    isplitl [H16]; · iexact H16
    isplitl [H4]; · iexact H4
    isplitl [H17]; · iexact H17
    isplitl [H18]; · iexact H18
    isplitl [H19]; · iexact H19
    iexact H6
  icases HM with ⟨H20, H21, H22, H23⟩
  iapply (send_o I K c 14 0 1 (by decide) (by rfl) (dev4_at c) (by rfl) (off1_1_at c) (by rfl) (by rfl)) $$ [H11 H24 H25 H26 H27]
  · isplitr; · iexact HE
    isplitl [H11]; · iexact H11
    isplitl [H24]; · iexact H24
    isplitl [H25]; · iexact H25
    isplitl [H26]; · iexact H26
    iexact H27
  iintro ⟨H28, H29⟩
  iapply (WP_ret c)
  iapply HQ $$ %_ %_ [H21 H29 H12 H22 H13 H23 H10 H20 H28]
  isplitl [H21 H29 H12]
  · isplitl [H21]; · iexact H21
    isplitl [H29]; · iexact H29
    iexact H12
  isplitl [H22 H13]
  · isplitl [H22]; · iexact H22
    iexact H13
  isplitl [H23]
  · iexact H23
  isplitl [H10 H20]
  · isplitl [H10]; · iexact H10
    iexact H20
  iexact H28

end Cert.KernelIdeal.K
-- ==== Proof.KernelIdeal.Parts2.lean ====
/- Stretches 5 to 9 of the program: what each takes, does and leaves. -/
module

public import proofs.«01_k».proof.Proof.KernelIdeal.Values

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 4000

theorem part5 (bv2 : BitVec 32) (bv113 : BitVec 32) (bc128_i32_77 : BitVec 32) {Q : BitVec 32 → sProp 𝕄} :
    iprop(env I K ∗ Fl4_5 I c f5 f6 f7 ∗ Fl1_5 I c f5 f6 f7 ∗ Fl0_5 I c f5 f6 f7)
      ⊢ iprop((∀ r0 : BitVec 32, (Fl5_6 I c f5 f6 f7 ∗ Fl5_34 I c f5 f6 f7 ∗ Fl5_35 I c f5 f6 f7) -∗ Q (r0))
        -∗ WP c (k0_part5 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv113 bc128_i32_77) Q) := by
  rw [k0_part5_eq_skeleton]; unfold k0_part5_skel
  simp only [semSignalWord, semWaitWord, Prog.lift, Prog.bind_op, Prog.bind_ret, Prog.pure_eq_ret, wp_deviceId]
  unfold Fl4_5 Fl1_5 Fl0_5 Fl5_6 Fl5_34 Fl5_35
  iintro ⟨#HE, ⟨H1, H3, H8⟩, ⟨H2, H9⟩, ⟨H4, H5, H10, H11⟩⟩ HQ
  iapply (send_m I K c 13 0 1 (by decide) (by rfl) (dev5_at c) (by rfl) (off2_1_at c) (by rfl) (by rfl)) $$ [H1 H2 H3 H4 H5]
  · isplitr; · iexact HE
    isplitl [H1]; · iexact H1
    isplitl [H2]; · iexact H2
    isplitl [H3]; · iexact H3
    isplitl [H4]; · iexact H4
    iexact H5
  iintro ⟨H6, H7⟩
  iapply (send_o I K c 12 0 2 (by decide) (by rfl) (dev6_at c) (by rfl) (off1_2_at c) (by rfl) (by rfl)) $$ [H8 H9 H7 H10 H11]
  · isplitr; · iexact HE
    isplitl [H8]; · iexact H8
    isplitl [H9]; · iexact H9
    isplitl [H7]; · iexact H7
    isplitl [H10]; · iexact H10
    iexact H11
  iintro ⟨H12, H13⟩
  iapply (WP_ret c)
  iapply HQ $$ %_ [H13 H6 H12]
  isplitl [H13]
  · iexact H13
  isplitl [H6]
  · iexact H6
  iexact H12

theorem part6 (bv2 : BitVec 32) (bv137 : BitVec 32) {Q : PUnit → sProp 𝕄} :
    iprop(env I K ∗ Fl4_6 I c f5 f6 f7 ∗ Fl1_6 I c f5 f6 f7 ∗ Fl5_6 I c f5 f6 f7 ∗ Fl0_6 I c f5 f6 f7)
      ⊢ iprop(((Fl6_7 I c f5 f6 f7 ∗ Fl6_35 I c f5 f6 f7) -∗ Q ⟨⟩)
        -∗ WP c (k0_part6 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv137) Q) := by
  rw [k0_part6_eq_skeleton]; unfold k0_part6_skel
  simp only [semSignalWord, semWaitWord, Prog.lift, Prog.bind_op, Prog.bind_ret, Prog.pure_eq_ret, wp_deviceId]
  unfold Fl4_6 Fl1_6 Fl5_6 Fl0_6 Fl6_7 Fl6_35
  iintro ⟨#HE, ⟨H1, H8⟩, ⟨H2, H9⟩, H3, ⟨H4, H5, H10, H11⟩⟩ HQ
  iapply (send_m I K c 11 0 2 (by decide) (by rfl) (dev7_at c) (by rfl) (off2_2_at c) (by rfl) (by rfl)) $$ [H1 H2 H3 H4 H5]
  · isplitr; · iexact HE
    isplitl [H1]; · iexact H1
    isplitl [H2]; · iexact H2
    isplitl [H3]; · iexact H3
    isplitl [H4]; · iexact H4
    iexact H5
  iintro ⟨H6, H7⟩
  iapply (send_o I K c 10 0 3 (by decide) (by rfl) (dev8_at c) (by rfl) (off1_3_at c) (by rfl) (by rfl)) $$ [H8 H9 H7 H10 H11]
  · isplitr; · iexact HE
    isplitl [H8]; · iexact H8
    isplitl [H9]; · iexact H9
    isplitl [H7]; · iexact H7
    isplitl [H10]; · iexact H10
    iexact H11
  iintro ⟨H12, H13⟩
  iapply (WP_ret c)
  iapply HQ $$ [H13 H6 H12]
  isplitl [H13]
  · iexact H13
  isplitl [H6]; · iexact H6
  iexact H12

theorem part7 {Q : (Σ' (v185 : FVec F S2048x128 .bf16) (v187 : FVec F S2048x128 .bf16), FVec F S512x2048 .f32) → sProp 𝕄} :
    iprop(env I K ∗ Fl4_7 I c f5 f6 f7 ∗ Fl1_7 I c f5 f6 f7 ∗ Fl6_7 I c f5 f6 f7 ∗ Fl0_7 I c f5 f6 f7 ∗ Fl2_7 I c f5 f6 f7)
      ⊢ iprop(((Fl7_10 I c f5 f6 f7 ∗ Fl7_36 I c f5 f6 f7 ∗ Fl7_39 I c f5 f6 f7) -∗ Q ⟨w185 I c, w187 I c, w210 I c⟩)
        -∗ WP c (k0_part7 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c (w23 I c)) Q) := by
  rw [k0_part7_eq_skeleton]; unfold k0_part7_skel
  simp only [semSignalWord, semWaitWord, Prog.lift, Prog.bind_op, Prog.bind_ret, Prog.pure_eq_ret, wp_deviceId]
  unfold Fl4_7 Fl1_7 Fl6_7 Fl0_7 Fl2_7 Fl7_10 Fl7_36 Fl7_39 w185 w187 w210
  iintro ⟨#HE, H1, ⟨H2, H8⟩, H3, ⟨H4, H5, H10, H12, H14⟩, H9⟩ HQ
  iapply (send_m I K c 9 0 3 (by decide) (by rfl) (dev9_at c) (by rfl) (off2_3_at c) (by rfl) (by rfl)) $$ [H1 H2 H3 H4 H5]
  · isplitr; · iexact HE
    isplitl [H1]; · iexact H1
    isplitl [H2]; · iexact H2
    isplitl [H3]; · iexact H3
    isplitl [H4]; · iexact H4
    iexact H5
  iintro ⟨H6, H7⟩
  iapply (ld_k c 1 (by rfl) (I.k c)) $$ H8
  iintro H8
  iapply (ld_v c 1 (by rfl) (I.v c)) $$ H9
  iintro H9
  iapply (ld_ostrip c 1 0 f6 (by rfl)) $$ H10
  iintro %wv200 H10
  iapply (st_o I c 1 0 f6 (by rfl) (by rfl)) $$ H10
  iintro H11
  iapply (ld_mstrip c 1 (cm 0) f7 (by rfl)) $$ H12
  iintro %wv203 H12
  iapply (st_m I c 1 0 f7 (by rfl) (by rfl)) $$ H12
  iintro H13
  iapply (ld_mstrip c 1 (cl 0) f7 (by rfl)) $$ H14
  iintro %wv206 H14
  iapply (st_l I c 1 0 f7 (by rfl) (by rfl)) $$ H14
  iintro H15
  iapply (WP_ret c)
  iapply HQ $$ [H11 H13 H15 H7 H6 H8 H9]
  isplitl [H11 H13 H15 H7]
  · isplitl [H11]; · iexact H11
    isplitl [H13]; · iexact H13
    isplitl [H15]; · iexact H15
    iexact H7
  isplitl [H6]
  · iexact H6
  isplitl [H8]; · iexact H8
  iexact H9

theorem part8 {Q : (Σ' (v233 : FVec F S512x1 .f32), FVec F S512x1 .f32) → sProp 𝕄} :
    iprop(env I K ∗ Fl0_8 I c f5 f6 f7)
      ⊢ iprop(((Fl8_10 I c f5 f6 f7) -∗ Q ⟨w233 I c, w238 I c⟩)
        -∗ WP c (k0_part8 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w23 I c) (w185 I c) (w187 I c) (w210 I c)) Q) := by
  rw [k0_part8_eq_skeleton]; unfold k0_part8_skel
  simp only [semSignalWord, semWaitWord, Prog.lift, Prog.bind_op, Prog.bind_ret, Prog.pure_eq_ret, wp_deviceId]
  unfold Fl0_8 Fl8_10 w233 w238
  iintro ⟨#HE, ⟨H1, H3, H5, H7⟩⟩ HQ
  iapply (ld_ostrip c 1 1 f6 (by rfl)) $$ H1
  iintro %wv221 H1
  iapply (st_o I c 1 1 f6 (by rfl) (by rfl)) $$ H1
  iintro H2
  iapply (ld_mstrip c 1 (cm 1) f7 (by rfl)) $$ H3
  iintro %wv224 H3
  iapply (st_m I c 1 1 f7 (by rfl) (by rfl)) $$ H3
  iintro H4
  iapply (ld_mstrip c 1 (cl 1) f7 (by rfl)) $$ H5
  iintro %wv227 H5
  iapply (st_l I c 1 1 f7 (by rfl) (by rfl)) $$ H5
  iintro H6
  iapply (ld_ostrip c 1 2 f6 (by rfl)) $$ H7
  iintro %wv242 H7
  iapply (st_o I c 1 2 f6 (by rfl) (by rfl)) $$ H7
  iintro H8
  iapply (WP_ret c)
  iapply HQ $$ [H2 H8 H4 H6]
  isplitl [H2]; · iexact H2
  isplitl [H8]; · iexact H8
  isplitl [H4]; · iexact H4
  iexact H6

theorem part9 (bv2 : BitVec 32) {Q : BitVec 32 → sProp 𝕄} :
    iprop(env I K ∗ Fl0_9 I c f5 f6 f7)
      ⊢ iprop((∀ r0 : BitVec 32, (Fl9_10 I c f5 f6 f7) -∗ Q (r0))
        -∗ WP c (k0_part9 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 bv2 (w23 I c) (w185 I c) (w187 I c) (w233 I c) (w238 I c)) Q) := by
  rw [k0_part9_eq_skeleton]; unfold k0_part9_skel
  simp only [semSignalWord, semWaitWord, Prog.lift, Prog.bind_op, Prog.bind_ret, Prog.pure_eq_ret, wp_deviceId]
  unfold Fl0_9 Fl9_10
  iintro ⟨#HE, ⟨H1, H3, H5, H7, H9⟩⟩ HQ
  iapply (ld_mstrip c 1 (cm 2) f7 (by rfl)) $$ H1
  iintro %wv245 H1
  iapply (st_m I c 1 2 f7 (by rfl) (by rfl)) $$ H1
  iintro H2
  iapply (ld_mstrip c 1 (cl 2) f7 (by rfl)) $$ H3
  iintro %wv248 H3
  iapply (st_l I c 1 2 f7 (by rfl) (by rfl)) $$ H3
  iintro H4
  iapply (ld_ostrip c 1 3 f6 (by rfl)) $$ H5
  iintro %wv263 H5
  iapply (st_o I c 1 3 f6 (by rfl) (by rfl)) $$ H5
  iintro H6
  iapply (ld_mstrip c 1 (cm 3) f7 (by rfl)) $$ H7
  iintro %wv266 H7
  iapply (st_m I c 1 3 f7 (by rfl) (by rfl)) $$ H7
  iintro H8
  iapply (ld_mstrip c 1 (cl 3) f7 (by rfl)) $$ H9
  iintro %wv269 H9
  iapply (st_l I c 1 3 f7 (by rfl) (by rfl)) $$ H9
  iintro H10
  iapply (WP_ret c)
  iapply HQ $$ %_ [H6 H2 H8 H4 H10]
  isplitl [H6]; · iexact H6
  isplitl [H2]; · iexact H2
  isplitl [H8]; · iexact H8
  isplitl [H4]; · iexact H4
  iexact H10

end Cert.KernelIdeal.K
-- ==== Proof.KernelIdeal.Parts3.lean ====
/- Stretches 10 to 15 of the program: what each takes, does and leaves. -/
module

public import proofs.«01_k».proof.Proof.KernelIdeal.Values

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 4000

theorem part10 (bv2 : BitVec 32) (bv273 : BitVec 32) {Q : BitVec 32 → sProp 𝕄} :
    iprop(env I K ∗ Fl7_10 I c f5 f6 f7 ∗ Fl8_10 I c f5 f6 f7 ∗ Fl9_10 I c f5 f6 f7 ∗ Fl1_10 I c f5 f6 f7 ∗ Fl0_10 I c f5 f6 f7)
      ⊢ iprop((∀ r0 : BitVec 32, (Fl10_11 I c f5 f6 f7 ∗ Fl10_12 I c f5 f6 f7 ∗ Fl10_22 I c f5 f6 f7 ∗ Fl10_36 I c f5 f6 f7) -∗ Q (r0))
        -∗ WP c (k0_part10 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv273) Q) := by
  rw [k0_part10_eq_skeleton]; unfold k0_part10_skel
  simp only [semSignalWord, semWaitWord, Prog.lift, Prog.bind_op, Prog.bind_ret, Prog.pure_eq_ret, wp_deviceId]
  unfold Fl7_10 Fl8_10 Fl9_10 Fl1_10 Fl0_10 Fl10_11 Fl10_12 Fl10_22 Fl10_36
  iintro ⟨#HE, ⟨H1, H9, H13, H22⟩, ⟨H2, H3, H10, H14⟩, ⟨H4, H11, H12, H15, H16⟩, ⟨H21, H27⟩, ⟨H23, H24, H28, H29⟩⟩ HQ
  ihave HM := (rows_of_strips6 c 1 (oC I c)) $$ [H1 H2 H3 H4]
  · isplitl [H1]; · iexact H1
    isplitl [H2]; · iexact H2
    isplitl [H3]; · iexact H3
    iexact H4
  icases HM with ⟨H5, H6, H7, H8⟩
  ihave HM := (rows_of_strips7 c 1 (mC I c)) $$ [H9 H10 H11 H12 H13 H14 H15 H16]
  · isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  icases HM with ⟨H17, H18, H19, H20⟩
  iapply (send_o I K c 8 1 1 (by decide) (by rfl) (dev10_at c) (by rfl) (off3_1_at c) (by rfl) (by rfl)) $$ [H6 H21 H22 H23 H24]
  · isplitr; · iexact HE
    isplitl [H6]; · iexact H6
    isplitl [H21]; · iexact H21
    isplitl [H22]; · iexact H22
    isplitl [H23]; · iexact H23
    iexact H24
  iintro ⟨H25, H26⟩
  iapply (send_m I K c 7 1 1 (by decide) (by rfl) (dev11_at c) (by rfl) (off4_1_at c) (by rfl) (by rfl)) $$ [H18 H27 H26 H28 H29]
  · isplitr; · iexact HE
    isplitl [H18]; · iexact H18
    isplitl [H27]; · iexact H27
    isplitl [H26]; · iexact H26
    isplitl [H28]; · iexact H28
    iexact H29
  iintro ⟨H30, H31⟩
  iapply (WP_ret c)
  iapply HQ $$ %_ [H7 H31 H19 H8 H20 H5 H17 H25 H30]
  isplitl [H7 H31 H19]
  · isplitl [H7]; · iexact H7
    isplitl [H31]; · iexact H31
    iexact H19
  isplitl [H8 H20]
  · isplitl [H8]; · iexact H8
    iexact H20
  isplitl [H5 H17]
  · isplitl [H5]; · iexact H5
    iexact H17
  isplitl [H25]; · iexact H25
  iexact H30

theorem part11 (bv2 : BitVec 32) (bv297 : BitVec 32) {Q : BitVec 32 → sProp 𝕄} :
    iprop(env I K ∗ Fl10_11 I c f5 f6 f7 ∗ Fl1_11 I c f5 f6 f7 ∗ Fl0_11 I c f5 f6 f7)
      ⊢ iprop((∀ r0 : BitVec 32, (Fl11_12 I c f5 f6 f7 ∗ Fl11_37 I c f5 f6 f7) -∗ Q (r0))
        -∗ WP c (k0_part11 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv297) Q) := by
  rw [k0_part11_eq_skeleton]; unfold k0_part11_skel
  simp only [semSignalWord, semWaitWord, Prog.lift, Prog.bind_op, Prog.bind_ret, Prog.pure_eq_ret, wp_deviceId]
  unfold Fl10_11 Fl1_11 Fl0_11 Fl11_12 Fl11_37
  iintro ⟨#HE, ⟨H1, H3, H8⟩, ⟨H2, H9⟩, ⟨H4, H5, H10, H11⟩⟩ HQ
  iapply (send_o I K c 6 1 2 (by decide) (by rfl) (dev12_at c) (by rfl) (off3_2_at c) (by rfl) (by rfl)) $$ [H1 H2 H3 H4 H5]
  · isplitr; · iexact HE
    isplitl [H1]; · iexact H1
    isplitl [H2]; · iexact H2
    isplitl [H3]; · iexact H3
    isplitl [H4]; · iexact H4
    iexact H5
  iintro ⟨H6, H7⟩
  iapply (send_m I K c 5 1 2 (by decide) (by rfl) (dev13_at c) (by rfl) (off4_2_at c) (by rfl) (by rfl)) $$ [H8 H9 H7 H10 H11]
  · isplitr; · iexact HE
    isplitl [H8]; · iexact H8
    isplitl [H9]; · iexact H9
    isplitl [H7]; · iexact H7
    isplitl [H10]; · iexact H10
    iexact H11
  iintro ⟨H12, H13⟩
  iapply (WP_ret c)
  iapply HQ $$ %_ [H13 H6 H12]
  isplitl [H13]
  · iexact H13
  isplitl [H6]; · iexact H6
  iexact H12

theorem part12 (bv2 : BitVec 32) (bv321 : BitVec 32) {Q : (Σ' (v344 : BitVec 32) (v348 : FVec F S128x128 .f32) (v351 : FVec F S128x1 .f32) (v354 : FVec F S128x1 .f32) (v358 : FVec F S128x128 .f32), FVec F S128x1 .f32) → sProp 𝕄} :
    iprop(env I K ∗ Fl10_12 I c f5 f6 f7 ∗ Fl1_12 I c f5 f6 f7 ∗ Fl11_12 I c f5 f6 f7 ∗ Fl0_12 I c f5 f6 f7 ∗ Fl4_12 I c f5 f6 f7)
      ⊢ iprop((∀ r0 : BitVec 32, (Fl12_13 I c f5 f6 f7 ∗ Fl12_37 I c f5 f6 f7) -∗ Q ⟨r0, w348 I c, w351 I c, w354 I c, w358 I c, w361 I c⟩)
        -∗ WP c (k0_part12 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv321) Q) := by
  rw [k0_part12_eq_skeleton]; unfold k0_part12_skel
  simp only [semSignalWord, semWaitWord, Prog.lift, Prog.bind_op, Prog.bind_ret, Prog.pure_eq_ret, wp_deviceId]
  unfold Fl10_12 Fl1_12 Fl11_12 Fl0_12 Fl4_12 Fl12_13 Fl12_37 w348 w351 w354 w358 w361
  iintro ⟨#HE, ⟨H1, H8⟩, ⟨H2, H9⟩, H3, ⟨H4, H5, H10, H11⟩, ⟨H14, H15⟩⟩ HQ
  iapply (send_o I K c 4 1 3 (by decide) (by rfl) (dev14_at c) (by rfl) (off3_3_at c) (by rfl) (by rfl)) $$ [H1 H2 H3 H4 H5]
  · isplitr; · iexact HE
    isplitl [H1]; · iexact H1
    isplitl [H2]; · iexact H2
    isplitl [H3]; · iexact H3
    isplitl [H4]; · iexact H4
    iexact H5
  iintro ⟨H6, H7⟩
  iapply (send_m I K c 3 1 3 (by decide) (by rfl) (dev15_at c) (by rfl) (off4_3_at c) (by rfl) (by rfl)) $$ [H8 H9 H7 H10 H11]
  · isplitr; · iexact HE
    isplitl [H8]; · iexact H8
    isplitl [H9]; · iexact H9
    isplitl [H7]; · iexact H7
    isplitl [H10]; · iexact H10
    iexact H11
  iintro ⟨H12, H13⟩
  iapply (ld_own I c 0 0 (off5_at c)) $$ H14
  iintro H14
  iapply (ld_ml I c 0 (cm 0) (off6_at c)) $$ H15
  iintro H15
  iapply (ld_ml I c 0 (cl 0) (off7_at c)) $$ H15
  iintro H15
  iapply (ld_own I c 0 1 (off8_at c)) $$ H14
  iintro H14
  iapply (ld_ml I c 0 (cm 1) (off9_at c)) $$ H15
  iintro H15
  iapply (WP_ret c)
  iapply HQ $$ %_ [H15 H14 H13 H6 H12]
  isplitl [H15 H14 H13]
  · isplitl [H15]; · iexact H15
    isplitl [H14]; · iexact H14
    iexact H13
  isplitl [H6]; · iexact H6
  iexact H12

theorem part13 (bv2 : BitVec 32) (bv344 : BitVec 32) {Q : (Σ' (v364 : FVec F S128x1 .f32) (v368 : FVec F S128x128 .f32) (v371 : FVec F S128x1 .f32) (v374 : FVec F S128x1 .f32) (v378 : FVec F S128x128 .f32) (v381 : FVec F S128x1 .f32), FVec F S128x1 .f32) → sProp 𝕄} :
    iprop(env I K ∗ Fl12_13 I c f5 f6 f7 ∗ Fl0_13 I c f5 f6 f7)
      ⊢ iprop(((Fl13_14 I c f5 f6 f7 ∗ Fl13_39 I c f5 f6 f7) -∗ Q ⟨w364 I c, w368 I c, w371 I c, w374 I c, w378 I c, w381 I c, w384 I c⟩)
        -∗ WP c (k0_part13 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv344) Q) := by
  rw [k0_part13_eq_skeleton]; unfold k0_part13_skel
  simp only [semSignalWord, semWaitWord, Prog.lift, Prog.bind_op, Prog.bind_ret, Prog.pure_eq_ret, wp_deviceId]
  unfold Fl12_13 Fl0_13 Fl13_14 Fl13_39 w364 w368 w371 w374 w378 w381 w384
  iintro ⟨#HE, ⟨H1, H2, H4⟩, ⟨H3, H5⟩⟩ HQ
  iapply (ld_ml I c 0 (cl 1) (off10_at c)) $$ H1
  iintro H1
  iapply (ld_own I c 0 2 (off11_at c)) $$ H2
  iintro H2
  iapply (ld_ml I c 0 (cm 2) (off12_at c)) $$ H1
  iintro H1
  iapply (ld_ml I c 0 (cl 2) (off13_at c)) $$ H1
  iintro H1
  iapply (ld_own I c 0 3 (off14_at c)) $$ H2
  iintro H2
  iapply (ld_ml I c 0 (cm 3) (off15_at c)) $$ H1
  iintro H1
  iapply (ld_ml I c 0 (cl 3) (off16_at c)) $$ H1
  iintro H1
  iapply (wait_oR I K c 0 1 (by decide) (by rfl) (by rfl)) $$ [H3 H4 H5]
  · isplitr; · iexact HE
    isplitl [H3]; · iexact H3
    isplitl [H4]; · iexact H4
    iexact H5
  iintro ⟨H6, H7, H8⟩
  iapply (WP_ret c)
  iapply HQ $$ [H6 H8 H1 H2 H7]
  isplitl [H6 H8]
  · isplitl [H6]; · iexact H6
    iexact H8
  isplitl [H1]; · iexact H1
  isplitl [H2]; · iexact H2
  iexact H7

theorem part14 (bv2 : BitVec 32) {Q : (Σ' (v408 : FVec F S128x1 .f32) (v417 : FVec F S128x128 .f32) (v420 : FVec F S128x1 .f32), FVec F S128x1 .f32) → sProp 𝕄} :
    iprop(env I K ∗ Fl0_14 I c f5 f6 f7 ∗ Fl13_14 I c f5 f6 f7)
      ⊢ iprop(((Fl14_15 I c f5 f6 f7 ∗ Fl14_16 I c f5 f6 f7 ∗ Fl14_39 I c f5 f6 f7) -∗ Q ⟨w408 I c, w417 I c, w420 I c, w422 I c⟩)
        -∗ WP c (k0_part14 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 bv2 (w348 I c) (w351 I c) (w354 I c)) Q) := by
  rw [k0_part14_eq_skeleton]; unfold k0_part14_skel
  simp only [semSignalWord, semWaitWord, Prog.lift, Prog.bind_op, Prog.bind_ret, Prog.pure_eq_ret, wp_deviceId]
  unfold Fl0_14 Fl13_14 Fl14_15 Fl14_16 Fl14_39 w408 w417 w420 w422
  iintro ⟨#HE, ⟨H1, H3⟩, ⟨H2, H7⟩⟩ HQ
  iapply (wait_mR I K c 0 1 (by decide) (by rfl) (by rfl)) $$ [H1 H2 H3]
  · isplitr; · iexact HE
    isplitl [H1]; · iexact H1
    isplitl [H2]; · iexact H2
    iexact H3
  iintro ⟨H4, H5, H6⟩
  iapply (ld_sm I c 0 1 (cm 0) (by rfl)) $$ H6
  iintro H6
  iapply (ld_sm I c 0 1 (cl 0) (by rfl)) $$ H6
  iintro H6
  iapply (ld_so I c 0 1 0 (by rfl)) $$ H7
  iintro H7
  iapply (ld_sm I c 0 1 (cm 1) (by rfl)) $$ H6
  iintro H6
  iapply (WP_ret c)
  iapply HQ $$ [H6 H7 H4 H5]
  isplitl [H6 H7]
  · isplitl [H6]; · iexact H6
    iexact H7
  isplitl [H4]
  · iexact H4
  iexact H5

theorem part15 {Q : (Σ' (v428 : FVec F S128x1 .f32) (v437 : FVec F S128x128 .f32) (v440 : FVec F S128x1 .f32) (v448 : FVec F S128x1 .f32) (v457 : FVec F S128x128 .f32), FVec F S128x1 .f32) → sProp 𝕄} :
    iprop(env I K ∗ Fl14_15 I c f5 f6 f7)
      ⊢ iprop(((Fl15_16 I c f5 f6 f7) -∗ Q ⟨w428 I c, w437 I c, w440 I c, w448 I c, w457 I c, w460 I c⟩)
        -∗ WP c (k0_part15 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w358 I c) (w361 I c) (w364 I c) (w368 I c) (w371 I c) (w374 I c) (w422 I c)) Q) := by
  rw [k0_part15_eq_skeleton]; unfold k0_part15_skel
  simp only [semSignalWord, semWaitWord, Prog.lift, Prog.bind_op, Prog.bind_ret, Prog.pure_eq_ret, wp_deviceId]
  unfold Fl14_15 Fl15_16 w428 w437 w440 w448 w457 w460
  iintro ⟨#HE, ⟨H1, H2⟩⟩ HQ
  iapply (ld_sm I c 0 1 (cl 1) (by rfl)) $$ H1
  iintro H1
  iapply (ld_so I c 0 1 1 (by rfl)) $$ H2
  iintro H2
  iapply (ld_sm I c 0 1 (cm 2) (by rfl)) $$ H1
  iintro H1
  iapply (ld_sm I c 0 1 (cl 2) (by rfl)) $$ H1
  iintro H1
  iapply (ld_so I c 0 1 2 (by rfl)) $$ H2
  iintro H2
  iapply (WP_ret c)
  iapply HQ $$ [H1 H2]
  isplitl [H1]; · iexact H1
  iexact H2

end Cert.KernelIdeal.K
-- ==== Proof.KernelIdeal.Parts4.lean ====
/- Stretches 16 to 21 of the program: what each takes, does and leaves. -/
module

public import proofs.«01_k».proof.Proof.KernelIdeal.Values

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 4000

theorem part16 (bv2 : BitVec 32) {Q : (Σ' (v468 : FVec F S128x1 .f32) (v477 : FVec F S128x128 .f32) (v480 : FVec F S128x1 .f32) (v489 : BitVec 32), BitVec 32) → sProp 𝕄} :
    iprop(env I K ∗ Fl15_16 I c f5 f6 f7 ∗ Fl0_16 I c f5 f6 f7 ∗ Fl14_16 I c f5 f6 f7)
      ⊢ iprop((∀ r0 : BitVec 32, ∀ r1 : BitVec 32, (Fl16_17 I c f5 f6 f7 ∗ Fl16_39 I c f5 f6 f7) -∗ Q ⟨w468 I c, w477 I c, w480 I c, r0, r1⟩)
        -∗ WP c (k0_part16 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 bv2 (w378 I c) (w381 I c) (w384 I c)) Q) := by
  rw [k0_part16_eq_skeleton]; unfold k0_part16_skel
  simp only [semSignalWord, semWaitWord, Prog.lift, Prog.bind_op, Prog.bind_ret, Prog.pure_eq_ret, wp_deviceId]
  unfold Fl15_16 Fl0_16 Fl14_16 Fl16_17 Fl16_39 w468 w477 w480
  iintro ⟨#HE, ⟨H1, H2⟩, ⟨H3, H5⟩, H4⟩ HQ
  iapply (ld_sm I c 0 1 (cm 3) (by rfl)) $$ H1
  iintro H1
  iapply (ld_sm I c 0 1 (cl 3) (by rfl)) $$ H1
  iintro H1
  iapply (ld_so I c 0 1 3 (by rfl)) $$ H2
  iintro H2
  iapply (wait_oR I K c 0 2 (by decide) (by rfl) (by rfl)) $$ [H3 H4 H5]
  · isplitr; · iexact HE
    isplitl [H3]; · iexact H3
    isplitl [H4]; · iexact H4
    iexact H5
  iintro ⟨H6, H7, H8⟩
  iapply (WP_ret c)
  iapply HQ $$ %_ %_ [H6 H8 H1 H2 H7]
  isplitl [H6 H8]
  · isplitl [H6]; · iexact H6
    iexact H8
  isplitl [H1]; · iexact H1
  isplitl [H2]; · iexact H2
  iexact H7

theorem part17 (bv489 : BitVec 32) (bc0_i32_406 : BitVec 32) {Q : (Σ' (v504 : FVec F S128x1 .f32) (v513 : FVec F S128x128 .f32) (v516 : FVec F S128x1 .f32) (v518 : FVec F S128x1 .f32), FVec F S128x1 .f32) → sProp 𝕄} :
    iprop(env I K ∗ Fl0_17 I c f5 f6 f7 ∗ Fl16_17 I c f5 f6 f7)
      ⊢ iprop(((Fl17_18 I c f5 f6 f7 ∗ Fl17_19 I c f5 f6 f7 ∗ Fl17_39 I c f5 f6 f7) -∗ Q ⟨w504 I c, w513 I c, w516 I c, w518 I c, w520 I c⟩)
        -∗ WP c (k0_part17 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w408 I c) (w417 I c) (w420 I c) bv489 bc0_i32_406) Q) := by
  rw [k0_part17_eq_skeleton]; unfold k0_part17_skel
  simp only [semSignalWord, semWaitWord, Prog.lift, Prog.bind_op, Prog.bind_ret, Prog.pure_eq_ret, wp_deviceId]
  unfold Fl0_17 Fl16_17 Fl17_18 Fl17_19 Fl17_39 w504 w513 w516 w518 w520
  iintro ⟨#HE, ⟨H1, H3⟩, ⟨H2, H7⟩⟩ HQ
  iapply (wait_mR I K c 0 2 (by decide) (by rfl) (by rfl)) $$ [H1 H2 H3]
  · isplitr; · iexact HE
    isplitl [H1]; · iexact H1
    isplitl [H2]; · iexact H2
    iexact H3
  iintro ⟨H4, H5, H6⟩
  iapply (ld_sm I c 0 2 (cm 0) (by rfl)) $$ H6
  iintro H6
  iapply (ld_sm I c 0 2 (cl 0) (by rfl)) $$ H6
  iintro H6
  iapply (ld_so I c 0 2 0 (by rfl)) $$ H7
  iintro H7
  iapply (ld_sm I c 0 2 (cm 1) (by rfl)) $$ H6
  iintro H6
  iapply (ld_sm I c 0 2 (cl 1) (by rfl)) $$ H6
  iintro H6
  iapply (WP_ret c)
  iapply HQ $$ [H7 H6 H4 H5]
  isplitl [H7 H6]
  · isplitl [H7]; · iexact H7
    iexact H6
  isplitl [H4]
  · iexact H4
  iexact H5

theorem part18 {Q : (Σ' (v524 : FVec F S128x1 .f32) (v533 : FVec F S128x128 .f32) (v536 : FVec F S128x1 .f32) (v544 : FVec F S128x1 .f32) (v553 : FVec F S128x128 .f32) (v556 : FVec F S128x1 .f32) (v558 : FVec F S128x1 .f32), FVec F S128x1 .f32) → sProp 𝕄} :
    iprop(env I K ∗ Fl17_18 I c f5 f6 f7)
      ⊢ iprop(((Fl18_19 I c f5 f6 f7 ∗ Fl18_39 I c f5 f6 f7) -∗ Q ⟨w524 I c, w533 I c, w536 I c, w544 I c, w553 I c, w556 I c, w558 I c, w560 I c⟩)
        -∗ WP c (k0_part18 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w428 I c) (w437 I c) (w440 I c) (w448 I c) (w457 I c) (w460 I c) (w518 I c) (w520 I c)) Q) := by
  rw [k0_part18_eq_skeleton]; unfold k0_part18_skel
  simp only [semSignalWord, semWaitWord, Prog.lift, Prog.bind_op, Prog.bind_ret, Prog.pure_eq_ret, wp_deviceId]
  unfold Fl17_18 Fl18_19 Fl18_39 w524 w533 w536 w544 w553 w556 w558 w560
  iintro ⟨#HE, ⟨H1, H2⟩⟩ HQ
  iapply (ld_so I c 0 2 1 (by rfl)) $$ H1
  iintro H1
  iapply (ld_sm I c 0 2 (cm 2) (by rfl)) $$ H2
  iintro H2
  iapply (ld_sm I c 0 2 (cl 2) (by rfl)) $$ H2
  iintro H2
  iapply (ld_so I c 0 2 2 (by rfl)) $$ H1
  iintro H1
  iapply (ld_sm I c 0 2 (cm 3) (by rfl)) $$ H2
  iintro H2
  iapply (ld_sm I c 0 2 (cl 3) (by rfl)) $$ H2
  iintro H2
  iapply (WP_ret c)
  iapply HQ $$ [H1 H2]
  isplitl [H1]
  · iexact H1
  iexact H2

theorem part19 (bv2 : BitVec 32) {Q : (Σ' (v564 : FVec F S128x1 .f32) (v573 : FVec F S128x128 .f32), FVec F S128x1 .f32) → sProp 𝕄} :
    iprop(env I K ∗ Fl18_19 I c f5 f6 f7 ∗ Fl0_19 I c f5 f6 f7 ∗ Fl17_19 I c f5 f6 f7)
      ⊢ iprop(((Fl19_20 I c f5 f6 f7 ∗ Fl19_39 I c f5 f6 f7) -∗ Q ⟨w564 I c, w573 I c, w576 I c⟩)
        -∗ WP c (k0_part19 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 bv2 (w468 I c) (w477 I c) (w480 I c) (w558 I c) (w560 I c)) Q) := by
  rw [k0_part19_eq_skeleton]; unfold k0_part19_skel
  simp only [semSignalWord, semWaitWord, Prog.lift, Prog.bind_op, Prog.bind_ret, Prog.pure_eq_ret, wp_deviceId]
  unfold Fl18_19 Fl0_19 Fl17_19 Fl19_20 Fl19_39 w564 w573 w576
  iintro ⟨#HE, H1, ⟨H2, H4⟩, H3⟩ HQ
  iapply (ld_so I c 0 2 3 (by rfl)) $$ H1
  iintro H1
  iapply (wait_oR I K c 0 3 (by decide) (by rfl) (by rfl)) $$ [H2 H3 H4]
  · isplitr; · iexact HE
    isplitl [H2]; · iexact H2
    isplitl [H3]; · iexact H3
    iexact H4
  iintro ⟨H5, H6, H7⟩
  iapply (WP_ret c)
  iapply HQ $$ [H5 H7 H1 H6]
  isplitl [H5 H7]
  · isplitl [H5]; · iexact H5
    iexact H7
  isplitl [H1]; · iexact H1
  iexact H6

theorem part20 {Q : (Σ' (v609 : FVec F S128x128 .f32) (v612 : FVec F S128x1 .f32) (v616 : FVec F S128x1 .f32) (v619 : FVec F S128x128 .f32) (v622 : FVec F S128x1 .f32), FVec F S128x1 .f32) → sProp 𝕄} :
    iprop(env I K ∗ Fl0_20 I c f5 f6 f7 ∗ Fl19_20 I c f5 f6 f7)
      ⊢ iprop(((Fl20_21 I c f5 f6 f7 ∗ Fl20_23 I c f5 f6 f7 ∗ Fl20_39 I c f5 f6 f7) -∗ Q ⟨w609 I c, w612 I c, w616 I c, w619 I c, w622 I c, w624 I c⟩)
        -∗ WP c (k0_part20 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w504 I c) (w513 I c) (w516 I c) (w524 I c)) Q) := by
  rw [k0_part20_eq_skeleton]; unfold k0_part20_skel
  simp only [semSignalWord, semWaitWord, Prog.lift, Prog.bind_op, Prog.bind_ret, Prog.pure_eq_ret, wp_deviceId]
  unfold Fl0_20 Fl19_20 Fl20_21 Fl20_23 Fl20_39 w609 w612 w616 w619 w622 w624
  iintro ⟨#HE, ⟨H1, H3⟩, ⟨H2, H7⟩⟩ HQ
  iapply (wait_mR I K c 0 3 (by decide) (by rfl) (by rfl)) $$ [H1 H2 H3]
  · isplitr; · iexact HE
    isplitl [H1]; · iexact H1
    isplitl [H2]; · iexact H2
    iexact H3
  iintro ⟨H4, H5, H6⟩
  iapply (ld_sm I c 0 3 (cm 0) (by rfl)) $$ H6
  iintro H6
  iapply (ld_sm I c 0 3 (cl 0) (by rfl)) $$ H6
  iintro H6
  iapply (ld_so I c 0 3 0 (by rfl)) $$ H7
  iintro H7
  iapply (ld_sm I c 0 3 (cm 1) (by rfl)) $$ H6
  iintro H6
  iapply (ld_sm I c 0 3 (cl 1) (by rfl)) $$ H6
  iintro H6
  iapply (ld_so I c 0 3 1 (by rfl)) $$ H7
  iintro H7
  iapply (WP_ret c)
  iapply HQ $$ [H6 H7 H4 H5]
  isplitl [H6 H7]
  · isplitl [H6]; · iexact H6
    iexact H7
  isplitl [H4]
  · iexact H4
  iexact H5

theorem part21 {Q : (Σ' (v629 : FVec F S128x128 .f32) (v632 : FVec F S128x1 .f32) (v649 : FVec F S128x128 .f32) (v652 : FVec F S128x1 .f32) (v654 : FVec F S128x1 .f32) (v656 : FVec F S128x1 .f32) (v659 : FVec F S128x128 .f32), FVec F S128x1 .f32) → sProp 𝕄} :
    iprop(env I K ∗ Fl20_21 I c f5 f6 f7)
      ⊢ iprop(((Fl21_39 I c f5 f6 f7) -∗ Q ⟨w629 I c, w632 I c, w649 I c, w652 I c, w654 I c, w656 I c, w659 I c, w660 I c⟩)
        -∗ WP c (k0_part21 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w533 I c) (w536 I c) (w544 I c) (w553 I c) (w556 I c) (w564 I c) (w616 I c) (w619 I c) (w622 I c) (w624 I c)) Q) := by
  rw [k0_part21_eq_skeleton]; unfold k0_part21_skel
  simp only [semSignalWord, semWaitWord, Prog.lift, Prog.bind_op, Prog.bind_ret, Prog.pure_eq_ret, wp_deviceId]
  unfold Fl20_21 Fl21_39 w629 w632 w649 w652 w654 w656 w659 w660
  iintro ⟨#HE, ⟨H1, H2⟩⟩ HQ
  iapply (ld_sm I c 0 3 (cm 2) (by rfl)) $$ H1
  iintro H1
  iapply (ld_sm I c 0 3 (cl 2) (by rfl)) $$ H1
  iintro H1
  iapply (ld_so I c 0 3 2 (by rfl)) $$ H2
  iintro H2
  iapply (ld_sm I c 0 3 (cm 3) (by rfl)) $$ H1
  iintro H1
  iapply (ld_sm I c 0 3 (cl 3) (by rfl)) $$ H1
  iintro H1
  iapply (ld_so I c 0 3 3 (by rfl)) $$ H2
  iintro H2
  iapply (WP_ret c)
  iapply HQ $$ [H1 H2]
  isplitl [H1]; · iexact H1
  iexact H2

end Cert.KernelIdeal.K
-- ==== Proof.KernelIdeal.Parts5.lean ====
/- Stretches 22 to 27 of the program: what each takes, does and leaves. -/
module

public import proofs.«01_k».proof.Proof.KernelIdeal.Values

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 4000

theorem part22 (bv344 : BitVec 32) {Q : (Σ' (v669 : FVec F S128x128 .f32) (v672 : FVec F S128x1 .f32) (v676 : FVec F S128x128 .f32) (v679 : FVec F S128x1 .f32) (v682 : FVec F S128x1 .f32) (v686 : FVec F S128x128 .f32) (v689 : FVec F S128x1 .f32) (v692 : FVec F S128x1 .f32) (v696 : FVec F S128x128 .f32) (v699 : FVec F S128x1 .f32), FVec F S128x1 .f32) → sProp 𝕄} :
    iprop(env I K ∗ Fl10_22 I c f5 f6 f7)
      ⊢ iprop(((Fl22_23 I c f5 f6 f7) -∗ Q ⟨w669 I c, w672 I c, w676 I c, w679 I c, w682 I c, w686 I c, w689 I c, w692 I c, w696 I c, w699 I c, w702 I c⟩)
        -∗ WP c (k0_part22 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv344 (w564 I c) (w573 I c) (w576 I c) (w654 I c) (w656 I c) (w659 I c) (w660 I c)) Q) := by
  rw [k0_part22_eq_skeleton]; unfold k0_part22_skel
  simp only [semSignalWord, semWaitWord, Prog.lift, Prog.bind_op, Prog.bind_ret, Prog.pure_eq_ret, wp_deviceId]
  unfold Fl10_22 Fl22_23 w669 w672 w676 w679 w682 w686 w689 w692 w696 w699 w702
  iintro ⟨#HE, ⟨H1, H2⟩⟩ HQ
  iapply (ld_own I c 1 0 (off17_at c)) $$ H1
  iintro H1
  iapply (ld_ml I c 1 (cm 0) (off18_at c)) $$ H2
  iintro H2
  iapply (ld_ml I c 1 (cl 0) (off19_at c)) $$ H2
  iintro H2
  iapply (ld_own I c 1 1 (off20_at c)) $$ H1
  iintro H1
  iapply (ld_ml I c 1 (cm 1) (off21_at c)) $$ H2
  iintro H2
  iapply (ld_ml I c 1 (cl 1) (off22_at c)) $$ H2
  iintro H2
  iapply (ld_own I c 1 2 (off23_at c)) $$ H1
  iintro H1
  iapply (ld_ml I c 1 (cm 2) (off24_at c)) $$ H2
  iintro H2
  iapply (ld_ml I c 1 (cl 2) (off25_at c)) $$ H2
  iintro H2
  iapply (WP_ret c)
  iapply HQ $$ [H1 H2]
  isplitl [H1]; · iexact H1
  iexact H2

theorem part23 (bv2 : BitVec 32) (bv344 : BitVec 32) {Q : (Σ' (v706 : FVec F S128x128 .f32) (v709 : FVec F S128x1 .f32), FVec F S128x1 .f32) → sProp 𝕄} :
    iprop(env I K ∗ Fl22_23 I c f5 f6 f7 ∗ Fl0_23 I c f5 f6 f7 ∗ Fl20_23 I c f5 f6 f7)
      ⊢ iprop(((Fl23_24 I c f5 f6 f7 ∗ Fl23_26 I c f5 f6 f7 ∗ Fl23_39 I c f5 f6 f7) -∗ Q ⟨w706 I c, w709 I c, w712 I c⟩)
        -∗ WP c (k0_part23 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv344) Q) := by
  rw [k0_part23_eq_skeleton]; unfold k0_part23_skel
  simp only [semSignalWord, semWaitWord, Prog.lift, Prog.bind_op, Prog.bind_ret, Prog.pure_eq_ret, wp_deviceId]
  unfold Fl22_23 Fl0_23 Fl20_23 Fl23_24 Fl23_26 Fl23_39 w706 w709 w712
  iintro ⟨#HE, ⟨H1, H2⟩, ⟨H3, H5, H9, H10⟩, H4⟩ HQ
  iapply (ld_own I c 1 3 (off26_at c)) $$ H1
  iintro H1
  iapply (ld_ml I c 1 (cm 3) (off27_at c)) $$ H2
  iintro H2
  iapply (ld_ml I c 1 (cl 3) (off28_at c)) $$ H2
  iintro H2
  iapply (wait_oR I K c 1 1 (by decide) (by rfl) (by rfl)) $$ [H3 H4 H5]
  · isplitr; · iexact HE
    isplitl [H3]; · iexact H3
    isplitl [H4]; · iexact H4
    iexact H5
  iintro ⟨H6, H7, H8⟩
  iapply (wait_mR I K c 1 1 (by decide) (by rfl) (by rfl)) $$ [H9 H6 H10]
  · isplitr; · iexact HE
    isplitl [H9]; · iexact H9
    isplitl [H6]; · iexact H6
    iexact H10
  iintro ⟨H11, H12, H13⟩
  iapply (WP_ret c)
  iapply HQ $$ [H13 H8 H11 H1 H2 H7 H12]
  isplitl [H13 H8]
  · isplitl [H13]; · iexact H13
    iexact H8
  isplitl [H11]
  · iexact H11
  isplitl [H1]; · iexact H1
  isplitl [H2]; · iexact H2
  isplitl [H7]; · iexact H7
  iexact H12

theorem part24 {Q : (Σ' (v736 : FVec F S128x1 .f32) (v745 : FVec F S128x128 .f32) (v748 : FVec F S128x1 .f32) (v752 : FVec F S128x1 .f32) (v756 : FVec F S128x1 .f32) (v758 : FVec F S128x1 .f32) (v760 : FVec F S128x1 .f32) (v762 : FVec F S128x128 .f32), FVec F S128x128 .f32) → sProp 𝕄} :
    iprop(env I K ∗ Fl23_24 I c f5 f6 f7)
      ⊢ iprop(((Fl24_25 I c f5 f6 f7) -∗ Q ⟨w736 I c, w745 I c, w748 I c, w752 I c, w756 I c, w758 I c, w760 I c, w762 I c, w764 I c⟩)
        -∗ WP c (k0_part24 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w676 I c) (w679 I c) (w682 I c) (w686 I c) (w689 I c)) Q) := by
  rw [k0_part24_eq_skeleton]; unfold k0_part24_skel
  simp only [semSignalWord, semWaitWord, Prog.lift, Prog.bind_op, Prog.bind_ret, Prog.pure_eq_ret, wp_deviceId]
  unfold Fl23_24 Fl24_25 w736 w745 w748 w752 w756 w758 w760 w762 w764
  iintro ⟨#HE, ⟨H1, H2⟩⟩ HQ
  iapply (ld_sm I c 1 1 (cm 0) (by rfl)) $$ H1
  iintro H1
  iapply (ld_sm I c 1 1 (cl 0) (by rfl)) $$ H1
  iintro H1
  iapply (ld_so I c 1 1 0 (by rfl)) $$ H2
  iintro H2
  iapply (ld_sm I c 1 1 (cm 1) (by rfl)) $$ H1
  iintro H1
  iapply (ld_sm I c 1 1 (cl 1) (by rfl)) $$ H1
  iintro H1
  iapply (ld_so I c 1 1 1 (by rfl)) $$ H2
  iintro H2
  iapply (WP_ret c)
  iapply HQ $$ [H1 H2]
  isplitl [H1]; · iexact H1
  iexact H2

theorem part25 {Q : (Σ' (v765 : FVec F S128x128 .f32) (v768 : FVec F S128x1 .f32) (v776 : FVec F S128x1 .f32) (v785 : FVec F S128x128 .f32) (v788 : FVec F S128x1 .f32) (v792 : FVec F S128x1 .f32) (v795 : FVec F S128x128 .f32) (v796 : FVec F S128x1 .f32) (v798 : FVec F S128x1 .f32), FVec F S128x1 .f32) → sProp 𝕄} :
    iprop(env I K ∗ Fl24_25 I c f5 f6 f7)
      ⊢ iprop(((Fl25_39 I c f5 f6 f7) -∗ Q ⟨w765 I c, w768 I c, w776 I c, w785 I c, w788 I c, w792 I c, w795 I c, w796 I c, w798 I c, w800 I c⟩)
        -∗ WP c (k0_part25 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w692 I c) (w696 I c) (w699 I c) (w702 I c) (w709 I c) (w752 I c) (w758 I c) (w760 I c) (w762 I c) (w764 I c)) Q) := by
  rw [k0_part25_eq_skeleton]; unfold k0_part25_skel
  simp only [semSignalWord, semWaitWord, Prog.lift, Prog.bind_op, Prog.bind_ret, Prog.pure_eq_ret, wp_deviceId]
  unfold Fl24_25 Fl25_39 w765 w768 w776 w785 w788 w792 w795 w796 w798 w800
  iintro ⟨#HE, ⟨H1, H2⟩⟩ HQ
  iapply (ld_sm I c 1 1 (cm 2) (by rfl)) $$ H1
  iintro H1
  iapply (ld_sm I c 1 1 (cl 2) (by rfl)) $$ H1
  iintro H1
  iapply (ld_so I c 1 1 2 (by rfl)) $$ H2
  iintro H2
  iapply (ld_sm I c 1 1 (cm 3) (by rfl)) $$ H1
  iintro H1
  iapply (ld_sm I c 1 1 (cl 3) (by rfl)) $$ H1
  iintro H1
  iapply (ld_so I c 1 1 3 (by rfl)) $$ H2
  iintro H2
  iapply (WP_ret c)
  iapply HQ $$ [H1 H2]
  isplitl [H1]; · iexact H1
  iexact H2

theorem part26 (bv2 : BitVec 32) {Q : (Σ' (v805 : FVec F S128x128 .f32) (v808 : FVec F S128x1 .f32), FVec F S128x1 .f32) → sProp 𝕄} :
    iprop(env I K ∗ Fl0_26 I c f5 f6 f7 ∗ Fl23_26 I c f5 f6 f7)
      ⊢ iprop(((Fl26_27 I c f5 f6 f7 ∗ Fl26_29 I c f5 f6 f7 ∗ Fl26_39 I c f5 f6 f7) -∗ Q ⟨w805 I c, w808 I c, w826 I c⟩)
        -∗ WP c (k0_part26 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 bv2 (w706 I c) (w712 I c) (w792 I c) (w795 I c) (w798 I c) (w800 I c)) Q) := by
  rw [k0_part26_eq_skeleton]; unfold k0_part26_skel
  simp only [semSignalWord, semWaitWord, Prog.lift, Prog.bind_op, Prog.bind_ret, Prog.pure_eq_ret, wp_deviceId]
  unfold Fl0_26 Fl23_26 Fl26_27 Fl26_29 Fl26_39 w805 w808 w826
  iintro ⟨#HE, ⟨H1, H3, H7, H8⟩, H2⟩ HQ
  iapply (wait_oR I K c 1 2 (by decide) (by rfl) (by rfl)) $$ [H1 H2 H3]
  · isplitr; · iexact HE
    isplitl [H1]; · iexact H1
    isplitl [H2]; · iexact H2
    iexact H3
  iintro ⟨H4, H5, H6⟩
  iapply (wait_mR I K c 1 2 (by decide) (by rfl) (by rfl)) $$ [H7 H4 H8]
  · isplitr; · iexact HE
    isplitl [H7]; · iexact H7
    isplitl [H4]; · iexact H4
    iexact H8
  iintro ⟨H9, H10, H11⟩
  iapply (ld_sm I c 1 2 (cm 0) (by rfl)) $$ H11
  iintro H11
  iapply (WP_ret c)
  iapply HQ $$ [H11 H6 H9 H5 H10]
  isplitl [H11 H6]
  · isplitl [H11]; · iexact H11
    iexact H6
  isplitl [H9]
  · iexact H9
  isplitl [H5]; · iexact H5
  iexact H10

theorem part27 {Q : (Σ' (v832 : FVec F S128x1 .f32) (v841 : FVec F S128x128 .f32) (v844 : FVec F S128x1 .f32) (v852 : FVec F S128x1 .f32) (v861 : FVec F S128x128 .f32), FVec F S128x1 .f32) → sProp 𝕄} :
    iprop(env I K ∗ Fl26_27 I c f5 f6 f7)
      ⊢ iprop(((Fl27_28 I c f5 f6 f7) -∗ Q ⟨w832 I c, w841 I c, w844 I c, w852 I c, w861 I c, w864 I c⟩)
        -∗ WP c (k0_part27 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w736 I c) (w745 I c) (w748 I c) (w756 I c) (w765 I c) (w768 I c) (w826 I c)) Q) := by
  rw [k0_part27_eq_skeleton]; unfold k0_part27_skel
  simp only [semSignalWord, semWaitWord, Prog.lift, Prog.bind_op, Prog.bind_ret, Prog.pure_eq_ret, wp_deviceId]
  unfold Fl26_27 Fl27_28 w832 w841 w844 w852 w861 w864
  iintro ⟨#HE, ⟨H1, H2⟩⟩ HQ
  iapply (ld_sm I c 1 2 (cl 0) (by rfl)) $$ H1
  iintro H1
  iapply (ld_so I c 1 2 0 (by rfl)) $$ H2
  iintro H2
  iapply (ld_sm I c 1 2 (cm 1) (by rfl)) $$ H1
  iintro H1
  iapply (ld_sm I c 1 2 (cl 1) (by rfl)) $$ H1
  iintro H1
  iapply (ld_so I c 1 2 1 (by rfl)) $$ H2
  iintro H2
  iapply (WP_ret c)
  iapply HQ $$ [H1 H2]
  isplitl [H1]; · iexact H1
  iexact H2

end Cert.KernelIdeal.K
-- ==== Proof.KernelIdeal.Parts6.lean ====
/- Stretches 28 to 32 of the program: what each takes, does and leaves. -/
module

public import proofs.«01_k».proof.Proof.KernelIdeal.Values

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 4000

theorem part28 {Q : (Σ' (v872 : FVec F S128x1 .f32) (v881 : FVec F S128x128 .f32) (v884 : FVec F S128x1 .f32) (v892 : FVec F S128x1 .f32) (v901 : FVec F S128x128 .f32), FVec F S128x1 .f32) → sProp 𝕄} :
    iprop(env I K ∗ Fl27_28 I c f5 f6 f7)
      ⊢ iprop(((Fl28_39 I c f5 f6 f7) -∗ Q ⟨w872 I c, w881 I c, w884 I c, w892 I c, w901 I c, w904 I c⟩)
        -∗ WP c (k0_part28 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w776 I c) (w785 I c) (w788 I c) (w796 I c) (w805 I c) (w808 I c)) Q) := by
  rw [k0_part28_eq_skeleton]; unfold k0_part28_skel
  simp only [semSignalWord, semWaitWord, Prog.lift, Prog.bind_op, Prog.bind_ret, Prog.pure_eq_ret, wp_deviceId]
  unfold Fl27_28 Fl28_39 w872 w881 w884 w892 w901 w904
  iintro ⟨#HE, ⟨H1, H2⟩⟩ HQ
  iapply (ld_sm I c 1 2 (cm 2) (by rfl)) $$ H1
  iintro H1
  iapply (ld_sm I c 1 2 (cl 2) (by rfl)) $$ H1
  iintro H1
  iapply (ld_so I c 1 2 2 (by rfl)) $$ H2
  iintro H2
  iapply (ld_sm I c 1 2 (cm 3) (by rfl)) $$ H1
  iintro H1
  iapply (ld_sm I c 1 2 (cl 3) (by rfl)) $$ H1
  iintro H1
  iapply (ld_so I c 1 2 3 (by rfl)) $$ H2
  iintro H2
  iapply (WP_ret c)
  iapply HQ $$ [H1 H2]
  isplitl [H1]; · iexact H1
  iexact H2

theorem part29 (bv2 : BitVec 32) {Q : (Σ' (v922 : FVec F S128x1 .f32), FVec F S128x1 .f32) → sProp 𝕄} :
    iprop(env I K ∗ Fl0_29 I c f5 f6 f7 ∗ Fl26_29 I c f5 f6 f7)
      ⊢ iprop(((Fl29_30 I c f5 f6 f7 ∗ Fl29_32 I c f5 f6 f7 ∗ Fl29_39 I c f5 f6 f7) -∗ Q ⟨w922 I c, w924 I c⟩)
        -∗ WP c (k0_part29 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 bv2) Q) := by
  rw [k0_part29_eq_skeleton]; unfold k0_part29_skel
  simp only [semSignalWord, semWaitWord, Prog.lift, Prog.bind_op, Prog.bind_ret, Prog.pure_eq_ret, wp_deviceId]
  unfold Fl0_29 Fl26_29 Fl29_30 Fl29_32 Fl29_39 w922 w924
  iintro ⟨#HE, ⟨H1, H3, H7, H8⟩, H2⟩ HQ
  iapply (wait_oR I K c 1 3 (by decide) (by rfl) (by rfl)) $$ [H1 H2 H3]
  · isplitr; · iexact HE
    isplitl [H1]; · iexact H1
    isplitl [H2]; · iexact H2
    iexact H3
  iintro ⟨H4, H5, H6⟩
  iapply (wait_mR I K c 1 3 (by decide) (by rfl) (by rfl)) $$ [H7 H4 H8]
  · isplitr; · iexact HE
    isplitl [H7]; · iexact H7
    isplitl [H4]; · iexact H4
    iexact H8
  iintro ⟨H9, H10, H11⟩
  iapply (ld_sm I c 1 3 (cm 0) (by rfl)) $$ H11
  iintro H11
  iapply (ld_sm I c 1 3 (cl 0) (by rfl)) $$ H11
  iintro H11
  iapply (WP_ret c)
  iapply HQ $$ [H6 H11 H9 H5 H10]
  isplitl [H6 H11]
  · isplitl [H6]; · iexact H6
    iexact H11
  isplitl [H9]
  · iexact H9
  isplitl [H5]; · iexact H5
  iexact H10

theorem part30 {Q : (Σ' (v937 : FVec F S128x128 .f32) (v940 : FVec F S128x1 .f32) (v957 : FVec F S128x128 .f32) (v960 : FVec F S128x1 .f32) (v962 : FVec F S128x1 .f32), FVec F S128x1 .f32) → sProp 𝕄} :
    iprop(env I K ∗ Fl29_30 I c f5 f6 f7)
      ⊢ iprop(((Fl30_31 I c f5 f6 f7) -∗ Q ⟨w937 I c, w940 I c, w957 I c, w960 I c, w962 I c, w964 I c⟩)
        -∗ WP c (k0_part30 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w832 I c) (w841 I c) (w844 I c) (w852 I c) (w861 I c) (w864 I c) (w922 I c) (w924 I c)) Q) := by
  rw [k0_part30_eq_skeleton]; unfold k0_part30_skel
  simp only [semSignalWord, semWaitWord, Prog.lift, Prog.bind_op, Prog.bind_ret, Prog.pure_eq_ret, wp_deviceId]
  unfold Fl29_30 Fl30_31 w937 w940 w957 w960 w962 w964
  iintro ⟨#HE, ⟨H1, H2⟩⟩ HQ
  iapply (ld_so I c 1 3 0 (by rfl)) $$ H1
  iintro H1
  iapply (ld_sm I c 1 3 (cm 1) (by rfl)) $$ H2
  iintro H2
  iapply (ld_sm I c 1 3 (cl 1) (by rfl)) $$ H2
  iintro H2
  iapply (ld_so I c 1 3 1 (by rfl)) $$ H1
  iintro H1
  iapply (ld_sm I c 1 3 (cm 2) (by rfl)) $$ H2
  iintro H2
  iapply (ld_sm I c 1 3 (cl 2) (by rfl)) $$ H2
  iintro H2
  iapply (WP_ret c)
  iapply HQ $$ [H1 H2]
  isplitl [H1]; · iexact H1
  iexact H2

theorem part31 {Q : (Σ' (v977 : FVec F S128x128 .f32) (v980 : FVec F S128x1 .f32) (v997 : FVec F S128x128 .f32) (v1000 : FVec F S128x1 .f32) (v1003 : FVec F S128x128 .bf16) (v1006 : FVec F S128x128 .bf16), FVec F S128x128 .f32) → sProp 𝕄} :
    iprop(env I K ∗ Fl30_31 I c f5 f6 f7)
      ⊢ iprop(((Fl31_39 I c f5 f6 f7) -∗ Q ⟨w977 I c, w980 I c, w997 I c, w1000 I c, w1003 I c, w1006 I c, w1008 I c⟩)
        -∗ WP c (k0_part31 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 (w609 I c) (w612 I c) (w629 I c) (w632 I c) (w649 I c) (w652 I c) (w872 I c) (w881 I c) (w884 I c) (w892 I c) (w901 I c) (w904 I c) (w962 I c) (w964 I c)) Q) := by
  rw [k0_part31_eq_skeleton]; unfold k0_part31_skel
  simp only [semSignalWord, semWaitWord, Prog.lift, Prog.bind_op, Prog.bind_ret, Prog.pure_eq_ret, wp_deviceId]
  unfold Fl30_31 Fl31_39 w977 w980 w997 w1000 w1003 w1006 w1008
  iintro ⟨#HE, ⟨H1, H2⟩⟩ HQ
  iapply (ld_so I c 1 3 2 (by rfl)) $$ H1
  iintro H1
  iapply (ld_sm I c 1 3 (cm 3) (by rfl)) $$ H2
  iintro H2
  iapply (ld_sm I c 1 3 (cl 3) (by rfl)) $$ H2
  iintro H2
  iapply (ld_so I c 1 3 3 (by rfl)) $$ H1
  iintro H1
  iapply (WP_ret c)
  iapply HQ $$ [H1 H2]
  isplitl [H1]; · iexact H1
  iexact H2

theorem part32 (bv2 : BitVec 32) (bv344 : BitVec 32) {Q : PUnit → sProp 𝕄} :
    iprop(env I K ∗ Fl0_32 I c f5 f6 f7 ∗ Fl1_32 I c f5 f6 f7 ∗ Fl29_32 I c f5 f6 f7)
      ⊢ iprop(((Fl32_33 I c f5 f6 f7 ∗ Fl32_38 I c f5 f6 f7 ∗ Fl32_39 I c f5 f6 f7) -∗ Q ⟨⟩)
        -∗ WP c (k0_part32 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2 bv344 (w669 I c) (w672 I c) (w937 I c) (w940 I c) (w957 I c) (w960 I c) (w977 I c) (w980 I c) (w997 I c) (w1000 I c) (w1003 I c) (w1006 I c) (w1008 I c)) Q) := by
  rw [k0_part32_eq_skeleton]; unfold k0_part32_skel
  simp only [semSignalWord, semWaitWord, Prog.lift, Prog.bind_op, Prog.bind_ret, Prog.pure_eq_ret, wp_deviceId]
  unfold Fl0_32 Fl1_32 Fl29_32 Fl32_33 Fl32_38 Fl32_39
  iintro ⟨#HE, ⟨H1, H2, H9, H10⟩, H7, H8⟩ HQ
  iapply (ld_wo c (I.wo c)) $$ H1
  iintro H1
  iapply (ld_urows c f5 (off29_at c)) $$ H2
  iintro %wv1031 H2
  iapply (st_u I c f5 (off29_at c) (fin_eq I c)) $$ H2
  iintro H3
  ihave HM := ((shares5 c (uRows c) (outC I)).1) $$ H3
  icases HM with ⟨H4, H5, H6⟩
  iapply (send_u I K c 2 1 (by decide) (by rfl) (dev16_at c) (off30_at c) (off30_at c) (by rfl) (by rfl)) $$ [H4 H7 H8 H9 H10]
  · isplitr; · iexact HE
    isplitl [H4]; · iexact H4
    isplitl [H7]; · iexact H7
    isplitl [H8]; · iexact H8
    isplitl [H9]; · iexact H9
    iexact H10
  iintro ⟨H11, H12⟩
  iapply (WP_ret c)
  iapply HQ $$ [H5 H12 H6 H11 H1]
  isplitl [H5 H12 H6]
  · isplitl [H5]; · iexact H5
    isplitl [H12]; · iexact H12
    iexact H6
  isplitl [H11]
  · iexact H11
  iexact H1

end Cert.KernelIdeal.K
-- ==== Proof.KernelIdeal.Parts7.lean ====
/- Stretches 33 to 37 of the program: what each takes, does and leaves. -/
module

public import proofs.«01_k».proof.Proof.KernelIdeal.Values

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 4000

theorem part33 (bv2 : BitVec 32) {Q : PUnit → sProp 𝕄} :
    iprop(env I K ∗ Fl32_33 I c f5 f6 f7 ∗ Fl1_33 I c f5 f6 f7 ∗ Fl0_33 I c f5 f6 f7)
      ⊢ iprop(((Fl33_34 I c f5 f6 f7 ∗ Fl33_38 I c f5 f6 f7 ∗ Fl33_39 I c f5 f6 f7) -∗ Q ⟨⟩)
        -∗ WP c (k0_part33 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2) Q) := by
  rw [k0_part33_eq_skeleton]; unfold k0_part33_skel
  simp only [semSignalWord, semWaitWord, Prog.lift, Prog.bind_op, Prog.bind_ret, Prog.pure_eq_ret, wp_deviceId]
  unfold Fl32_33 Fl1_33 Fl0_33 Fl33_34 Fl33_38 Fl33_39
  iintro ⟨#HE, ⟨H1, H3, H8⟩, ⟨H2, H9⟩, ⟨H4, H5, H10, H11, H14, H15⟩⟩ HQ
  iapply (send_u I K c 1 2 (by decide) (by rfl) (dev17_at c) (off30_at c) (off30_at c) (by rfl) (by rfl)) $$ [H1 H2 H3 H4 H5]
  · isplitr; · iexact HE
    isplitl [H1]; · iexact H1
    isplitl [H2]; · iexact H2
    isplitl [H3]; · iexact H3
    isplitl [H4]; · iexact H4
    iexact H5
  iintro ⟨H6, H7⟩
  iapply (send_u I K c 0 3 (by decide) (by rfl) (dev18_at c) (off30_at c) (off30_at c) (by rfl) (by rfl)) $$ [H8 H9 H7 H10 H11]
  · isplitr; · iexact HE
    isplitl [H8]; · iexact H8
    isplitl [H9]; · iexact H9
    isplitl [H7]; · iexact H7
    isplitl [H10]; · iexact H10
    iexact H11
  iintro ⟨H12, H13⟩
  iapply (wait_aR I K c 1 (by decide) (by rfl) (by rfl)) $$ [H14 H13 H15]
  · isplitr; · iexact HE
    isplitl [H14]; · iexact H14
    isplitl [H13]; · iexact H13
    iexact H15
  iintro ⟨H16, H17, H18⟩
  iapply (WP_ret c)
  iapply HQ $$ [H16 H6 H12 H17 H18]
  isplitl [H16]
  · iexact H16
  isplitl [H6 H12]
  · isplitl [H6]; · iexact H6
    iexact H12
  isplitl [H17]; · iexact H17
  iexact H18

theorem part34 (bv2 : BitVec 32) {Q : PUnit → sProp 𝕄} :
    iprop(env I K ∗ Fl0_34 I c f5 f6 f7 ∗ Fl33_34 I c f5 f6 f7 ∗ Fl4_34 I c f5 f6 f7 ∗ Fl5_34 I c f5 f6 f7)
      ⊢ iprop(((Fl34_35 I c f5 f6 f7 ∗ Fl34_39 I c f5 f6 f7) -∗ Q ⟨⟩)
        -∗ WP c (k0_part34 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c bv2) Q) := by
  rw [k0_part34_eq_skeleton]; unfold k0_part34_skel
  simp only [semSignalWord, semWaitWord, Prog.lift, Prog.bind_op, Prog.bind_ret, Prog.pure_eq_ret, wp_deviceId]
  unfold Fl0_34 Fl33_34 Fl4_34 Fl5_34 Fl34_35 Fl34_39
  iintro ⟨#HE, ⟨H1, H3, H7, H8, H13, H18⟩, H2, H12, H17⟩ HQ
  iapply (wait_aR I K c 2 (by decide) (by rfl) (by rfl)) $$ [H1 H2 H3]
  · isplitr; · iexact HE
    isplitl [H1]; · iexact H1
    isplitl [H2]; · iexact H2
    iexact H3
  iintro ⟨H4, H5, H6⟩
  iapply (wait_aR I K c 3 (by decide) (by rfl) (by rfl)) $$ [H7 H4 H8]
  · isplitr; · iexact HE
    isplitl [H7]; · iexact H7
    isplitl [H4]; · iexact H4
    iexact H8
  iintro ⟨H9, H10, H11⟩
  iapply (wait_oS I K c 0 1 (by decide) (by rfl) (by rfl)) $$ [H12 H9 H13]
  · isplitr; · iexact HE
    isplitl [H12]; · iexact H12
    isplitl [H9]; · iexact H9
    iexact H13
  iintro ⟨H14, H15, H16⟩
  iapply (wait_mS I K c 0 1 (by decide) (by rfl) (by rfl)) $$ [H17 H14 H18]
  · isplitr; · iexact HE
    isplitl [H17]; · iexact H17
    isplitl [H14]; · iexact H14
    iexact H18
  iintro ⟨H19, H20, H21⟩
  iapply (WP_ret c)
  iapply HQ $$ [H19 H5 H6 H10 H11 H15 H16 H20 H21]
  isplitl [H19]
  · iexact H19
  isplitl [H5]; · iexact H5
  isplitl [H6]; · iexact H6
  isplitl [H10]; · iexact H10
  isplitl [H11]; · iexact H11
  isplitl [H15]; · iexact H15
  isplitl [H16]; · iexact H16
  isplitl [H20]; · iexact H20
  iexact H21

theorem part35 {Q : PUnit → sProp 𝕄} :
    iprop(env I K ∗ Fl5_35 I c f5 f6 f7 ∗ Fl34_35 I c f5 f6 f7 ∗ Fl0_35 I c f5 f6 f7 ∗ Fl6_35 I c f5 f6 f7)
      ⊢ iprop(((Fl35_36 I c f5 f6 f7 ∗ Fl35_39 I c f5 f6 f7) -∗ Q ⟨⟩)
        -∗ WP c (k0_part35 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c) Q) := by
  rw [k0_part35_eq_skeleton]; unfold k0_part35_skel
  simp only [semSignalWord, semWaitWord, Prog.lift, Prog.bind_op, Prog.bind_ret, Prog.pure_eq_ret, wp_deviceId]
  unfold Fl5_35 Fl34_35 Fl0_35 Fl6_35 Fl35_36 Fl35_39
  iintro ⟨#HE, H1, H2, ⟨H3, H8, H13⟩, ⟨H7, H12⟩⟩ HQ
  iapply (wait_oS I K c 0 2 (by decide) (by rfl) (by rfl)) $$ [H1 H2 H3]
  · isplitr; · iexact HE
    isplitl [H1]; · iexact H1
    isplitl [H2]; · iexact H2
    iexact H3
  iintro ⟨H4, H5, H6⟩
  iapply (wait_mS I K c 0 2 (by decide) (by rfl) (by rfl)) $$ [H7 H4 H8]
  · isplitr; · iexact HE
    isplitl [H7]; · iexact H7
    isplitl [H4]; · iexact H4
    iexact H8
  iintro ⟨H9, H10, H11⟩
  iapply (wait_oS I K c 0 3 (by decide) (by rfl) (by rfl)) $$ [H12 H9 H13]
  · isplitr; · iexact HE
    isplitl [H12]; · iexact H12
    isplitl [H9]; · iexact H9
    iexact H13
  iintro ⟨H14, H15, H16⟩
  iapply (WP_ret c)
  iapply HQ $$ [H14 H5 H6 H10 H11 H15 H16]
  isplitl [H14]
  · iexact H14
  isplitl [H5]; · iexact H5
  isplitl [H6]; · iexact H6
  isplitl [H10]; · iexact H10
  isplitl [H11]; · iexact H11
  isplitl [H15]; · iexact H15
  iexact H16

theorem part36 {Q : PUnit → sProp 𝕄} :
    iprop(env I K ∗ Fl7_36 I c f5 f6 f7 ∗ Fl35_36 I c f5 f6 f7 ∗ Fl0_36 I c f5 f6 f7 ∗ Fl10_36 I c f5 f6 f7)
      ⊢ iprop(((Fl36_37 I c f5 f6 f7 ∗ Fl36_39 I c f5 f6 f7) -∗ Q ⟨⟩)
        -∗ WP c (k0_part36 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c) Q) := by
  rw [k0_part36_eq_skeleton]; unfold k0_part36_skel
  simp only [semSignalWord, semWaitWord, Prog.lift, Prog.bind_op, Prog.bind_ret, Prog.pure_eq_ret, wp_deviceId]
  unfold Fl7_36 Fl35_36 Fl0_36 Fl10_36 Fl36_37 Fl36_39
  iintro ⟨#HE, H1, H2, ⟨H3, H8, H13⟩, ⟨H7, H12⟩⟩ HQ
  iapply (wait_mS I K c 0 3 (by decide) (by rfl) (by rfl)) $$ [H1 H2 H3]
  · isplitr; · iexact HE
    isplitl [H1]; · iexact H1
    isplitl [H2]; · iexact H2
    iexact H3
  iintro ⟨H4, H5, H6⟩
  iapply (wait_oS I K c 1 1 (by decide) (by rfl) (by rfl)) $$ [H7 H4 H8]
  · isplitr; · iexact HE
    isplitl [H7]; · iexact H7
    isplitl [H4]; · iexact H4
    iexact H8
  iintro ⟨H9, H10, H11⟩
  iapply (wait_mS I K c 1 1 (by decide) (by rfl) (by rfl)) $$ [H12 H9 H13]
  · isplitr; · iexact HE
    isplitl [H12]; · iexact H12
    isplitl [H9]; · iexact H9
    iexact H13
  iintro ⟨H14, H15, H16⟩
  iapply (WP_ret c)
  iapply HQ $$ [H14 H5 H6 H10 H11 H15 H16]
  isplitl [H14]
  · iexact H14
  isplitl [H5]; · iexact H5
  isplitl [H6]; · iexact H6
  isplitl [H10]; · iexact H10
  isplitl [H11]; · iexact H11
  isplitl [H15]; · iexact H15
  iexact H16

theorem part37 {Q : PUnit → sProp 𝕄} :
    iprop(env I K ∗ Fl11_37 I c f5 f6 f7 ∗ Fl36_37 I c f5 f6 f7 ∗ Fl0_37 I c f5 f6 f7 ∗ Fl12_37 I c f5 f6 f7)
      ⊢ iprop(((Fl37_38 I c f5 f6 f7 ∗ Fl37_39 I c f5 f6 f7) -∗ Q ⟨⟩)
        -∗ WP c (k0_part37 B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9 c) Q) := by
  rw [k0_part37_eq_skeleton]; unfold k0_part37_skel
  simp only [semSignalWord, semWaitWord, Prog.lift, Prog.bind_op, Prog.bind_ret, Prog.pure_eq_ret, wp_deviceId]
  unfold Fl11_37 Fl36_37 Fl0_37 Fl12_37 Fl37_38 Fl37_39
  iintro ⟨#HE, ⟨H1, H7⟩, H2, ⟨H3, H8, H13, H18⟩, ⟨H12, H17⟩⟩ HQ
  iapply (wait_oS I K c 1 2 (by decide) (by rfl) (by rfl)) $$ [H1 H2 H3]
  · isplitr; · iexact HE
    isplitl [H1]; · iexact H1
    isplitl [H2]; · iexact H2
    iexact H3
  iintro ⟨H4, H5, H6⟩
  iapply (wait_mS I K c 1 2 (by decide) (by rfl) (by rfl)) $$ [H7 H4 H8]
  · isplitr; · iexact HE
    isplitl [H7]; · iexact H7
    isplitl [H4]; · iexact H4
    iexact H8
  iintro ⟨H9, H10, H11⟩
  iapply (wait_oS I K c 1 3 (by decide) (by rfl) (by rfl)) $$ [H12 H9 H13]
  · isplitr; · iexact HE
    isplitl [H12]; · iexact H12
    isplitl [H9]; · iexact H9
    iexact H13
  iintro ⟨H14, H15, H16⟩
  iapply (wait_mS I K c 1 3 (by decide) (by rfl) (by rfl)) $$ [H17 H14 H18]
  · isplitr; · iexact HE
    isplitl [H17]; · iexact H17
    isplitl [H14]; · iexact H14
    iexact H18
  iintro ⟨H19, H20, H21⟩
  iapply (WP_ret c)
  iapply HQ $$ [H19 H5 H6 H10 H11 H15 H16 H20 H21]
  isplitl [H19]
  · iexact H19
  isplitl [H5]; · iexact H5
  isplitl [H6]; · iexact H6
  isplitl [H10]; · iexact H10
  isplitl [H11]; · iexact H11
  isplitl [H15]; · iexact H15
  isplitl [H16]; · iexact H16
  isplitl [H20]; · iexact H20
  iexact H21

end Cert.KernelIdeal.K
-- ==== Proof.KernelIdeal.Body.lean ====
/- The whole program on one device, stretch after stretch. -/
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4
public import proofs.«01_k».proof.Proof.KernelIdeal.Parts5
public import proofs.«01_k».proof.Proof.KernelIdeal.Parts6
public import proofs.«01_k».proof.Proof.KernelIdeal.Parts7

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)

set_option maxRecDepth 8000

theorem WP_bind {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ p k Q).symm

/-- Everything a device starts with that the program uses. -/
def bodyIn (I : Ins F) (c : Dev nD) (f5 : Vec F S512x1024 .bf16) (f6 : Vec F S2x512x512 .bf16) (f7 : Vec F S2x512x8 .f32) : sProp 𝕄 :=
  iprop(Fl0_1 I c f5 f6 f7 ∗ Fl0_2 I c f5 f6 f7 ∗ Fl0_3 I c f5 f6 f7 ∗ Fl0_4 I c f5 f6 f7 ∗ Fl0_5 I c f5 f6 f7 ∗ Fl0_6 I c f5 f6 f7 ∗ Fl0_7 I c f5 f6 f7 ∗ Fl0_8 I c f5 f6 f7 ∗ Fl0_9 I c f5 f6 f7 ∗ Fl0_10 I c f5 f6 f7 ∗ Fl0_11 I c f5 f6 f7 ∗ Fl0_12 I c f5 f6 f7 ∗ Fl0_13 I c f5 f6 f7 ∗ Fl0_14 I c f5 f6 f7 ∗ Fl0_16 I c f5 f6 f7 ∗ Fl0_17 I c f5 f6 f7 ∗ Fl0_19 I c f5 f6 f7 ∗ Fl0_20 I c f5 f6 f7 ∗ Fl0_23 I c f5 f6 f7 ∗ Fl0_26 I c f5 f6 f7 ∗ Fl0_29 I c f5 f6 f7 ∗ Fl0_32 I c f5 f6 f7 ∗ Fl0_33 I c f5 f6 f7 ∗ Fl0_34 I c f5 f6 f7 ∗ Fl0_35 I c f5 f6 f7 ∗ Fl0_36 I c f5 f6 f7 ∗ Fl0_37 I c f5 f6 f7 ∗ Fl0_38 I c f5 f6 f7)
/-- Everything it is left with. -/
def bodyOut (I : Ins F) (c : Dev nD) (f5 : Vec F S512x1024 .bf16) (f6 : Vec F S2x512x512 .bf16) (f7 : Vec F S2x512x8 .f32) : sProp 𝕄 :=
  iprop(Fl1_39 I c f5 f6 f7 ∗ Fl7_39 I c f5 f6 f7 ∗ Fl13_39 I c f5 f6 f7 ∗ Fl14_39 I c f5 f6 f7 ∗ Fl16_39 I c f5 f6 f7 ∗ Fl17_39 I c f5 f6 f7 ∗ Fl18_39 I c f5 f6 f7 ∗ Fl19_39 I c f5 f6 f7 ∗ Fl20_39 I c f5 f6 f7 ∗ Fl21_39 I c f5 f6 f7 ∗ Fl23_39 I c f5 f6 f7 ∗ Fl25_39 I c f5 f6 f7 ∗ Fl26_39 I c f5 f6 f7 ∗ Fl28_39 I c f5 f6 f7 ∗ Fl29_39 I c f5 f6 f7 ∗ Fl31_39 I c f5 f6 f7 ∗ Fl32_39 I c f5 f6 f7 ∗ Fl33_39 I c f5 f6 f7 ∗ Fl34_39 I c f5 f6 f7 ∗ Fl35_39 I c f5 f6 f7 ∗ Fl36_39 I c f5 f6 f7 ∗ Fl37_39 I c f5 f6 f7 ∗ Fl38_39 I c f5 f6 f7)

theorem body_run {Q : PUnit → sProp 𝕄} :
    iprop(env I K ∗ bodyIn I c f5 f6 f7) ⊢ iprop((bodyOut I c f5 f6 f7 -∗ Q ⟨⟩) -∗ WP c (cc0__body B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9) Q) := by
  rw [cc0__body_eq_skeleton]; unfold cc0__body_skel
  unfold bodyIn bodyOut
  iintro ⟨#HE, G0_1, G0_2, G0_3, G0_4, G0_5, G0_6, G0_7, G0_8, G0_9, G0_10, G0_11, G0_12, G0_13, G0_14, G0_16, G0_17, G0_19, G0_20, G0_23, G0_26, G0_29, G0_32, G0_33, G0_34, G0_35, G0_36, G0_37, G0_38⟩ HQ
  iapply (WP_bind c)
  rw [k0_part38_eq_skeleton]; unfold k0_part38_skel
  iapply (WP_bind c)
  iapply (part1 I K c f5 f6 f7) $$ [G0_1]
  · isplitr; · iexact HE
    iexact G0_1
  iintro %r1_0 ⟨G1_4, G1_5, G1_6, G1_7, G1_10, G1_11, G1_12, G1_32, G1_33, G1_39⟩
  try dsimp only
  iapply (WP_bind c)
  iapply (part2 I K c f5 f6 f7) $$ [G0_2]
  · isplitr; · iexact HE
    iexact G0_2
  iintro ⟨G2_3, G2_4, G2_7⟩
  try dsimp only
  iapply (WP_bind c)
  iapply (part3 I K c f5 f6 f7) $$ [G2_3 G0_3]
  · isplitr; · iexact HE
    isplitl [G2_3]; · iexact G2_3
    iexact G0_3
  iintro G3_4
  try dsimp only
  iapply (WP_bind c)
  iapply (part4 I K c f5 f6 f7 _) $$ [G0_4 G2_4 G3_4 G1_4]
  · isplitr; · iexact HE
    isplitl [G0_4]; · iexact G0_4
    isplitl [G2_4]; · iexact G2_4
    isplitl [G3_4]; · iexact G3_4
    iexact G1_4
  iintro %r4_0 %r4_1 ⟨G4_5, G4_6, G4_7, G4_12, G4_34⟩
  try dsimp only
  iapply (WP_bind c)
  iapply (part5 I K c f5 f6 f7 _ _ _) $$ [G4_5 G1_5 G0_5]
  · isplitr; · iexact HE
    isplitl [G4_5]; · iexact G4_5
    isplitl [G1_5]; · iexact G1_5
    iexact G0_5
  iintro %r5_0 ⟨G5_6, G5_34, G5_35⟩
  try dsimp only
  iapply (WP_bind c)
  iapply (part6 I K c f5 f6 f7 _ _) $$ [G4_6 G1_6 G5_6 G0_6]
  · isplitr; · iexact HE
    isplitl [G4_6]; · iexact G4_6
    isplitl [G1_6]; · iexact G1_6
    isplitl [G5_6]; · iexact G5_6
    iexact G0_6
  iintro ⟨G6_7, G6_35⟩
  try dsimp only
  iapply (WP_bind c)
  iapply (part7 I K c f5 f6 f7) $$ [G4_7 G1_7 G6_7 G0_7 G2_7]
  · isplitr; · iexact HE
    isplitl [G4_7]; · iexact G4_7
    isplitl [G1_7]; · iexact G1_7
    isplitl [G6_7]; · iexact G6_7
    isplitl [G0_7]; · iexact G0_7
    iexact G2_7
  iintro ⟨G7_10, G7_36, G7_39⟩
  try dsimp only
  iapply (WP_bind c)
  iapply (part8 I K c f5 f6 f7) $$ [G0_8]
  · isplitr; · iexact HE
    iexact G0_8
  iintro G8_10
  try dsimp only
  iapply (WP_bind c)
  iapply (part9 I K c f5 f6 f7 _) $$ [G0_9]
  · isplitr; · iexact HE
    iexact G0_9
  iintro %r9_0 G9_10
  try dsimp only
  iapply (WP_bind c)
  iapply (part10 I K c f5 f6 f7 _ _) $$ [G7_10 G8_10 G9_10 G1_10 G0_10]
  · isplitr; · iexact HE
    isplitl [G7_10]; · iexact G7_10
    isplitl [G8_10]; · iexact G8_10
    isplitl [G9_10]; · iexact G9_10
    isplitl [G1_10]; · iexact G1_10
    iexact G0_10
  iintro %r10_0 ⟨G10_11, G10_12, G10_22, G10_36⟩
  try dsimp only
  iapply (WP_bind c)
  iapply (part11 I K c f5 f6 f7 _ _) $$ [G10_11 G1_11 G0_11]
  · isplitr; · iexact HE
    isplitl [G10_11]; · iexact G10_11
    isplitl [G1_11]; · iexact G1_11
    iexact G0_11
  iintro %r11_0 ⟨G11_12, G11_37⟩
  try dsimp only
  iapply (WP_bind c)
  iapply (part12 I K c f5 f6 f7 _ _) $$ [G10_12 G1_12 G11_12 G0_12 G4_12]
  · isplitr; · iexact HE
    isplitl [G10_12]; · iexact G10_12
    isplitl [G1_12]; · iexact G1_12
    isplitl [G11_12]; · iexact G11_12
    isplitl [G0_12]; · iexact G0_12
    iexact G4_12
  iintro %r12_0 ⟨G12_13, G12_37⟩
  try dsimp only
  iapply (WP_bind c)
  iapply (part13 I K c f5 f6 f7 _ _) $$ [G12_13 G0_13]
  · isplitr; · iexact HE
    isplitl [G12_13]; · iexact G12_13
    iexact G0_13
  iintro ⟨G13_14, G13_39⟩
  try dsimp only
  iapply (WP_bind c)
  iapply (part14 I K c f5 f6 f7 _) $$ [G0_14 G13_14]
  · isplitr; · iexact HE
    isplitl [G0_14]; · iexact G0_14
    iexact G13_14
  iintro ⟨G14_15, G14_16, G14_39⟩
  try dsimp only
  iapply (WP_bind c)
  iapply (part15 I K c f5 f6 f7) $$ [G14_15]
  · isplitr; · iexact HE
    iexact G14_15
  iintro G15_16
  try dsimp only
  iapply (WP_bind c)
  iapply (part16 I K c f5 f6 f7 _) $$ [G15_16 G0_16 G14_16]
  · isplitr; · iexact HE
    isplitl [G15_16]; · iexact G15_16
    isplitl [G0_16]; · iexact G0_16
    iexact G14_16
  iintro %r16_0 %r16_1 ⟨G16_17, G16_39⟩
  try dsimp only
  iapply (WP_bind c)
  iapply (part17 I K c f5 f6 f7 _ _) $$ [G0_17 G16_17]
  · isplitr; · iexact HE
    isplitl [G0_17]; · iexact G0_17
    iexact G16_17
  iintro ⟨G17_18, G17_19, G17_39⟩
  try dsimp only
  iapply (WP_bind c)
  iapply (part18 I K c f5 f6 f7) $$ [G17_18]
  · isplitr; · iexact HE
    iexact G17_18
  iintro ⟨G18_19, G18_39⟩
  try dsimp only
  iapply (WP_bind c)
  iapply (part19 I K c f5 f6 f7 _) $$ [G18_19 G0_19 G17_19]
  · isplitr; · iexact HE
    isplitl [G18_19]; · iexact G18_19
    isplitl [G0_19]; · iexact G0_19
    iexact G17_19
  iintro ⟨G19_20, G19_39⟩
  try dsimp only
  iapply (WP_bind c)
  iapply (part20 I K c f5 f6 f7) $$ [G0_20 G19_20]
  · isplitr; · iexact HE
    isplitl [G0_20]; · iexact G0_20
    iexact G19_20
  iintro ⟨G20_21, G20_23, G20_39⟩
  try dsimp only
  iapply (WP_bind c)
  iapply (part21 I K c f5 f6 f7) $$ [G20_21]
  · isplitr; · iexact HE
    iexact G20_21
  iintro G21_39
  try dsimp only
  iapply (WP_bind c)
  iapply (part22 I K c f5 f6 f7 _) $$ [G10_22]
  · isplitr; · iexact HE
    iexact G10_22
  iintro G22_23
  try dsimp only
  iapply (WP_bind c)
  iapply (part23 I K c f5 f6 f7 _ _) $$ [G22_23 G0_23 G20_23]
  · isplitr; · iexact HE
    isplitl [G22_23]; · iexact G22_23
    isplitl [G0_23]; · iexact G0_23
    iexact G20_23
  iintro ⟨G23_24, G23_26, G23_39⟩
  try dsimp only
  iapply (WP_bind c)
  iapply (part24 I K c f5 f6 f7) $$ [G23_24]
  · isplitr; · iexact HE
    iexact G23_24
  iintro G24_25
  try dsimp only
  iapply (WP_bind c)
  iapply (part25 I K c f5 f6 f7) $$ [G24_25]
  · isplitr; · iexact HE
    iexact G24_25
  iintro G25_39
  try dsimp only
  iapply (WP_bind c)
  iapply (part26 I K c f5 f6 f7 _) $$ [G0_26 G23_26]
  · isplitr; · iexact HE
    isplitl [G0_26]; · iexact G0_26
    iexact G23_26
  iintro ⟨G26_27, G26_29, G26_39⟩
  try dsimp only
  iapply (WP_bind c)
  iapply (part27 I K c f5 f6 f7) $$ [G26_27]
  · isplitr; · iexact HE
    iexact G26_27
  iintro G27_28
  try dsimp only
  iapply (WP_bind c)
  iapply (part28 I K c f5 f6 f7) $$ [G27_28]
  · isplitr; · iexact HE
    iexact G27_28
  iintro G28_39
  try dsimp only
  iapply (WP_bind c)
  iapply (part29 I K c f5 f6 f7 _) $$ [G0_29 G26_29]
  · isplitr; · iexact HE
    isplitl [G0_29]; · iexact G0_29
    iexact G26_29
  iintro ⟨G29_30, G29_32, G29_39⟩
  try dsimp only
  iapply (WP_bind c)
  iapply (part30 I K c f5 f6 f7) $$ [G29_30]
  · isplitr; · iexact HE
    iexact G29_30
  iintro G30_31
  try dsimp only
  iapply (WP_bind c)
  iapply (part31 I K c f5 f6 f7) $$ [G30_31]
  · isplitr; · iexact HE
    iexact G30_31
  iintro G31_39
  try dsimp only
  iapply (WP_bind c)
  iapply (part32 I K c f5 f6 f7 _ _) $$ [G0_32 G1_32 G29_32]
  · isplitr; · iexact HE
    isplitl [G0_32]; · iexact G0_32
    isplitl [G1_32]; · iexact G1_32
    iexact G29_32
  iintro ⟨G32_33, G32_38, G32_39⟩
  try dsimp only
  iapply (WP_bind c)
  iapply (part33 I K c f5 f6 f7 _) $$ [G32_33 G1_33 G0_33]
  · isplitr; · iexact HE
    isplitl [G32_33]; · iexact G32_33
    isplitl [G1_33]; · iexact G1_33
    iexact G0_33
  iintro ⟨G33_34, G33_38, G33_39⟩
  try dsimp only
  iapply (WP_bind c)
  iapply (part34 I K c f5 f6 f7 _) $$ [G0_34 G33_34 G4_34 G5_34]
  · isplitr; · iexact HE
    isplitl [G0_34]; · iexact G0_34
    isplitl [G33_34]; · iexact G33_34
    isplitl [G4_34]; · iexact G4_34
    iexact G5_34
  iintro ⟨G34_35, G34_39⟩
  try dsimp only
  iapply (WP_bind c)
  iapply (part35 I K c f5 f6 f7) $$ [G5_35 G34_35 G0_35 G6_35]
  · isplitr; · iexact HE
    isplitl [G5_35]; · iexact G5_35
    isplitl [G34_35]; · iexact G34_35
    isplitl [G0_35]; · iexact G0_35
    iexact G6_35
  iintro ⟨G35_36, G35_39⟩
  try dsimp only
  iapply (WP_bind c)
  iapply (part36 I K c f5 f6 f7) $$ [G7_36 G35_36 G0_36 G10_36]
  · isplitr; · iexact HE
    isplitl [G7_36]; · iexact G7_36
    isplitl [G35_36]; · iexact G35_36
    isplitl [G0_36]; · iexact G0_36
    iexact G10_36
  iintro ⟨G36_37, G36_39⟩
  try dsimp only
  iapply (WP_bind c)
  iapply (part37 I K c f5 f6 f7) $$ [G11_37 G36_37 G0_37 G12_37]
  · isplitr; · iexact HE
    isplitl [G11_37]; · iexact G11_37
    isplitl [G36_37]; · iexact G36_37
    isplitl [G0_37]; · iexact G0_37
    iexact G12_37
  iintro ⟨G37_38, G37_39⟩
  try dsimp only
  simp only [Prog.lift, Prog.bind_op, Prog.bind_ret, Prog.pure_eq_ret]
  unfold Fl32_38 Fl37_38 Fl0_38 Fl33_38 Fl38_39
  irename G32_38 => H1
  irename G37_38 => H2
  icases G0_38 with ⟨H3, H8, H13⟩
  icases G33_38 with ⟨H7, H12⟩
  iapply (wait_aS I K c 1 (by decide) (by rfl) (by rfl)) $$ [H1 H2 H3]
  · isplitr; · iexact HE
    isplitl [H1]; · iexact H1
    isplitl [H2]; · iexact H2
    iexact H3
  iintro ⟨H4, H5, H6⟩
  iapply (wait_aS I K c 2 (by decide) (by rfl) (by rfl)) $$ [H7 H4 H8]
  · isplitr; · iexact HE
    isplitl [H7]; · iexact H7
    isplitl [H4]; · iexact H4
    iexact H8
  iintro ⟨H9, H10, H11⟩
  iapply (WP_ret c)
  try dsimp only
  iapply (wait_aS I K c 3 (by decide) (by rfl) (by rfl)) $$ [H12 H9 H13]
  · isplitr; · iexact HE
    isplitl [H12]; · iexact H12
    isplitl [H9]; · iexact H9
    iexact H13
  iintro ⟨H14, H15, H16⟩
  iapply (WP_ret c)
  iapply HQ
  isplitl [G1_39]; · iexact G1_39
  isplitl [G7_39]; · iexact G7_39
  isplitl [G13_39]; · iexact G13_39
  isplitl [G14_39]; · iexact G14_39
  isplitl [G16_39]; · iexact G16_39
  isplitl [G17_39]; · iexact G17_39
  isplitl [G18_39]; · iexact G18_39
  isplitl [G19_39]; · iexact G19_39
  isplitl [G20_39]; · iexact G20_39
  isplitl [G21_39]; · iexact G21_39
  isplitl [G23_39]; · iexact G23_39
  isplitl [G25_39]; · iexact G25_39
  isplitl [G26_39]; · iexact G26_39
  isplitl [G28_39]; · iexact G28_39
  isplitl [G29_39]; · iexact G29_39
  isplitl [G31_39]; · iexact G31_39
  isplitl [G32_39]; · iexact G32_39
  isplitl [G33_39]; · iexact G33_39
  isplitl [G34_39]; · iexact G34_39
  isplitl [G35_39]; · iexact G35_39
  isplitl [G36_39]; · iexact G36_39
  isplitl [G37_39]; · iexact G37_39
  isplitl [H5]; · iexact H5
  isplitl [H6]; · iexact H6
  isplitl [H10]; · iexact H10
  isplitl [H11]; · iexact H11
  isplitl [H14]; · iexact H14
  isplitl [H15]; · iexact H15
  iexact H16

end Cert.KernelIdeal.K
-- ==== Proof.KernelIdeal.Enter.lean ====
/- From whole buffers and the full sets of positions, tokens and credits to what the program starts with, and back. -/
module

public import proofs.«01_k».proof.Proof.KernelIdeal.Body

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ) (c : Dev nD)
  (f5 : Vec F S512x1024 .bf16) (f6 : Vec F S2x512x512 .bf16) (f7 : Vec F S2x512x8 .f32)
  (f8 : Vec F S2x4x128x512 .bf16) (f9 : Vec F S2x4x128x8 .f32)

set_option maxRecDepth 8000

/-- A device at the first round of all its cells. -/
def pos0 (c : Dev nD) : sProp 𝕄 :=
  iprop(atPos ER (dCell c (kOS 0 0)) 0 ∅ 0 ∗ atPos ER (dCell c (kOS 0 1)) 0 ∅ 0 ∗ atPos ER (dCell c (kOS 0 2)) 0 ∅ 0 ∗ atPos ER (dCell c (kOS 0 3)) 0 ∅ 0 ∗ atPos ER (dCell c (kOS 1 0)) 0 ∅ 0 ∗ atPos ER (dCell c (kOS 1 1)) 0 ∅ 0 ∗ atPos ER (dCell c (kOS 1 2)) 0 ∅ 0 ∗ atPos ER (dCell c (kOS 1 3)) 0 ∅ 0 ∗ atPos ER (dCell c (kOR 0 0)) 0 ∅ 0 ∗ atPos ER (dCell c (kOR 0 1)) 0 ∅ 0 ∗ atPos ER (dCell c (kOR 0 2)) 0 ∅ 0 ∗ atPos ER (dCell c (kOR 0 3)) 0 ∅ 0 ∗ atPos ER (dCell c (kOR 1 0)) 0 ∅ 0 ∗ atPos ER (dCell c (kOR 1 1)) 0 ∅ 0 ∗ atPos ER (dCell c (kOR 1 2)) 0 ∅ 0 ∗ atPos ER (dCell c (kOR 1 3)) 0 ∅ 0 ∗ atPos ER (dCell c (kMS 0 0)) 0 ∅ 0 ∗ atPos ER (dCell c (kMS 0 1)) 0 ∅ 0 ∗ atPos ER (dCell c (kMS 0 2)) 0 ∅ 0 ∗ atPos ER (dCell c (kMS 0 3)) 0 ∅ 0 ∗ atPos ER (dCell c (kMS 1 0)) 0 ∅ 0 ∗ atPos ER (dCell c (kMS 1 1)) 0 ∅ 0 ∗ atPos ER (dCell c (kMS 1 2)) 0 ∅ 0 ∗ atPos ER (dCell c (kMS 1 3)) 0 ∅ 0 ∗ atPos ER (dCell c (kMR 0 0)) 0 ∅ 0 ∗ atPos ER (dCell c (kMR 0 1)) 0 ∅ 0 ∗ atPos ER (dCell c (kMR 0 2)) 0 ∅ 0 ∗ atPos ER (dCell c (kMR 0 3)) 0 ∅ 0 ∗ atPos ER (dCell c (kMR 1 0)) 0 ∅ 0 ∗ atPos ER (dCell c (kMR 1 1)) 0 ∅ 0 ∗ atPos ER (dCell c (kMR 1 2)) 0 ∅ 0 ∗ atPos ER (dCell c (kMR 1 3)) 0 ∅ 0 ∗ atPos ER (dCell c (kAS 0)) 0 ∅ 0 ∗ atPos ER (dCell c (kAS 1)) 0 ∅ 0 ∗ atPos ER (dCell c (kAS 2)) 0 ∅ 0 ∗ atPos ER (dCell c (kAS 3)) 0 ∅ 0 ∗ atPos ER (dCell c (kAR 0)) 0 ∅ 0 ∗ atPos ER (dCell c (kAR 1)) 0 ∅ 0 ∗ atPos ER (dCell c (kAR 2)) 0 ∅ 0 ∗ atPos ER (dCell c (kAR 3)) 0 ∅ 0 ∗ atPos ER (barCell c) 0 ∅ 0)
/-- The same after the program: a round further where there was something to wait for. -/
def pos1 (c : Dev nD) : sProp 𝕄 :=
  iprop(atPos ER (dCell c (kOS 0 0)) 0 ∅ 0 ∗ atPos ER (dCell c (kOS 0 1)) 1 ∅ 0 ∗ atPos ER (dCell c (kOS 0 2)) 1 ∅ 0 ∗ atPos ER (dCell c (kOS 0 3)) 1 ∅ 0 ∗ atPos ER (dCell c (kOS 1 0)) 0 ∅ 0 ∗ atPos ER (dCell c (kOS 1 1)) 1 ∅ 0 ∗ atPos ER (dCell c (kOS 1 2)) 1 ∅ 0 ∗ atPos ER (dCell c (kOS 1 3)) 1 ∅ 0 ∗ atPos ER (dCell c (kOR 0 0)) 0 ∅ 0 ∗ atPos ER (dCell c (kOR 0 1)) 1 ∅ 0 ∗ atPos ER (dCell c (kOR 0 2)) 1 ∅ 0 ∗ atPos ER (dCell c (kOR 0 3)) 1 ∅ 0 ∗ atPos ER (dCell c (kOR 1 0)) 0 ∅ 0 ∗ atPos ER (dCell c (kOR 1 1)) 1 ∅ 0 ∗ atPos ER (dCell c (kOR 1 2)) 1 ∅ 0 ∗ atPos ER (dCell c (kOR 1 3)) 1 ∅ 0 ∗ atPos ER (dCell c (kMS 0 0)) 0 ∅ 0 ∗ atPos ER (dCell c (kMS 0 1)) 1 ∅ 0 ∗ atPos ER (dCell c (kMS 0 2)) 1 ∅ 0 ∗ atPos ER (dCell c (kMS 0 3)) 1 ∅ 0 ∗ atPos ER (dCell c (kMS 1 0)) 0 ∅ 0 ∗ atPos ER (dCell c (kMS 1 1)) 1 ∅ 0 ∗ atPos ER (dCell c (kMS 1 2)) 1 ∅ 0 ∗ atPos ER (dCell c (kMS 1 3)) 1 ∅ 0 ∗ atPos ER (dCell c (kMR 0 0)) 0 ∅ 0 ∗ atPos ER (dCell c (kMR 0 1)) 1 ∅ 0 ∗ atPos ER (dCell c (kMR 0 2)) 1 ∅ 0 ∗ atPos ER (dCell c (kMR 0 3)) 1 ∅ 0 ∗ atPos ER (dCell c (kMR 1 0)) 0 ∅ 0 ∗ atPos ER (dCell c (kMR 1 1)) 1 ∅ 0 ∗ atPos ER (dCell c (kMR 1 2)) 1 ∅ 0 ∗ atPos ER (dCell c (kMR 1 3)) 1 ∅ 0 ∗ atPos ER (dCell c (kAS 0)) 0 ∅ 0 ∗ atPos ER (dCell c (kAS 1)) 1 ∅ 0 ∗ atPos ER (dCell c (kAS 2)) 1 ∅ 0 ∗ atPos ER (dCell c (kAS 3)) 1 ∅ 0 ∗ atPos ER (dCell c (kAR 0)) 0 ∅ 0 ∗ atPos ER (dCell c (kAR 1)) 1 ∅ 0 ∗ atPos ER (dCell c (kAR 2)) 1 ∅ 0 ∗ atPos ER (dCell c (kAR 3)) 1 ∅ 0 ∗ atPos ER (barCell c) 1 ∅ 0)
/-- The duties a device pays. -/
def toks (c : Dev nD) : sProp 𝕄 :=
  iprop(dutyTok ER (barCell (aft c 1)) 0 c ∗ dutyTok ER (barCell (aft c 2)) 0 c ∗ dutyTok ER (barCell (aft c 3)) 0 c ∗ dutyTok ER (dCell c (kOS 0 1)) 0 0 ∗ dutyTok ER (dCell c (kMS 0 1)) 0 0 ∗ dutyTok ER (dCell c (kOS 0 2)) 0 0 ∗ dutyTok ER (dCell c (kMS 0 2)) 0 0 ∗ dutyTok ER (dCell c (kOS 0 3)) 0 0 ∗ dutyTok ER (dCell c (kMS 0 3)) 0 0 ∗ dutyTok ER (dCell c (kOS 1 1)) 0 0 ∗ dutyTok ER (dCell c (kMS 1 1)) 0 0 ∗ dutyTok ER (dCell c (kOS 1 2)) 0 0 ∗ dutyTok ER (dCell c (kMS 1 2)) 0 0 ∗ dutyTok ER (dCell c (kOS 1 3)) 0 0 ∗ dutyTok ER (dCell c (kMS 1 3)) 0 0 ∗ dutyTok ER (dCell c (kAS 1)) 0 0 ∗ dutyTok ER (dCell c (kAS 2)) 0 0 ∗ dutyTok ER (dCell c (kAS 3)) 0 0 ∗ dutyTok ER (dCell (aft c 1) (kOR 0 (neg 1))) 0 0 ∗ dutyTok ER (dCell (aft c 1) (kMR 0 (neg 1))) 0 0 ∗ dutyTok ER (dCell (aft c 2) (kOR 0 (neg 2))) 0 0 ∗ dutyTok ER (dCell (aft c 2) (kMR 0 (neg 2))) 0 0 ∗ dutyTok ER (dCell (aft c 3) (kOR 0 (neg 3))) 0 0 ∗ dutyTok ER (dCell (aft c 3) (kMR 0 (neg 3))) 0 0 ∗ dutyTok ER (dCell (aft c 1) (kOR 1 (neg 1))) 0 0 ∗ dutyTok ER (dCell (aft c 1) (kMR 1 (neg 1))) 0 0 ∗ dutyTok ER (dCell (aft c 2) (kOR 1 (neg 2))) 0 0 ∗ dutyTok ER (dCell (aft c 2) (kMR 1 (neg 2))) 0 0 ∗ dutyTok ER (dCell (aft c 3) (kOR 1 (neg 3))) 0 0 ∗ dutyTok ER (dCell (aft c 3) (kMR 1 (neg 3))) 0 0 ∗ dutyTok ER (dCell (aft c 1) (kAR (neg 1))) 0 0 ∗ dutyTok ER (dCell (aft c 2) (kAR (neg 2))) 0 0 ∗ dutyTok ER (dCell (aft c 3) (kAR (neg 3))) 0 0)
/-- What the others owe it. -/
def creds (c : Dev nD) : sProp 𝕄 :=
  iprop(cred (tallyAt (barCell c) () 3) ∗ cred (tallyAt (dCell c (kOR 0 1)) () NO) ∗ cred (tallyAt (dCell c (kMR 0 1)) () NM) ∗ cred (tallyAt (dCell c (kOR 0 2)) () NO) ∗ cred (tallyAt (dCell c (kMR 0 2)) () NM) ∗ cred (tallyAt (dCell c (kOR 0 3)) () NO) ∗ cred (tallyAt (dCell c (kMR 0 3)) () NM) ∗ cred (tallyAt (dCell c (kOR 1 1)) () NO) ∗ cred (tallyAt (dCell c (kMR 1 1)) () NM) ∗ cred (tallyAt (dCell c (kOR 1 2)) () NO) ∗ cred (tallyAt (dCell c (kMR 1 2)) () NM) ∗ cred (tallyAt (dCell c (kOR 1 3)) () NO) ∗ cred (tallyAt (dCell c (kMR 1 3)) () NM) ∗ cred (tallyAt (dCell c (kAR 1)) () NA) ∗ cred (tallyAt (dCell c (kAR 2)) () NA) ∗ cred (tallyAt (dCell c (kAR 3)) () NA))
/-- The five arguments as staged. -/
def args (I : Ins F) (c : Dev nD) : sProp 𝕄 := iprop(p0 c (I.x c) ∗ p1 c (I.wq c) ∗ p2 c (I.wo c) ∗ p3 c (I.k c) ∗ p4 c (I.v c))
/-- What the program never touches. -/
def spare (c : Dev nD) (f8 : Vec F S2x4x128x512 .bf16) (f9 : Vec F S2x4x128x8 .f32) : sProp 𝕄 :=
  iprop(atPos ER (dCell c (kOS 0 0)) 0 ∅ 0 ∗ atPos ER (dCell c (kOS 1 0)) 0 ∅ 0 ∗ atPos ER (dCell c (kOR 0 0)) 0 ∅ 0 ∗ atPos ER (dCell c (kOR 1 0)) 0 ∅ 0 ∗ atPos ER (dCell c (kMS 0 0)) 0 ∅ 0 ∗ atPos ER (dCell c (kMS 1 0)) 0 ∅ 0 ∗ atPos ER (dCell c (kMR 0 0)) 0 ∅ 0 ∗ atPos ER (dCell c (kMR 1 0)) 0 ∅ 0 ∗ atPos ER (dCell c (kAS 0)) 0 ∅ 0 ∗ atPos ER (dCell c (kAR 0)) 0 ∅ 0 ∗ p8 c (oSlot 0 0) f8 ∗ p8 c (oSlot 1 0) f8 ∗ p9 c (mSlot 0 0) f9 ∗ p9 c (mSlot 1 0) f9)

theorem enter_mem :
    (iprop(p5 c Finset.univ fullShare f5 ∗ p6 c Finset.univ f6 ∗ p7 c Finset.univ f7 ∗ p8 c Finset.univ f8 ∗ p9 c Finset.univ f9) : sProp 𝕄)
      ⊢ iprop(p5 c (uRows c) fullShare f5 ∗ p6 c (oStrip 0 0) f6 ∗ p6 c (oStrip 0 1) f6 ∗ p6 c (oStrip 0 2) f6 ∗ p6 c (oStrip 0 3) f6 ∗ p6 c (oStrip 1 0) f6 ∗ p6 c (oStrip 1 1) f6 ∗ p6 c (oStrip 1 2) f6 ∗ p6 c (oStrip 1 3) f6 ∗ p7 c (mStrip 0 (cm 0)) f7 ∗ p7 c (mStrip 0 (cm 1)) f7 ∗ p7 c (mStrip 0 (cm 2)) f7 ∗ p7 c (mStrip 0 (cm 3)) f7 ∗ p7 c (mStrip 0 (cl 0)) f7 ∗ p7 c (mStrip 0 (cl 1)) f7 ∗ p7 c (mStrip 0 (cl 2)) f7 ∗ p7 c (mStrip 0 (cl 3)) f7 ∗ p7 c (mStrip 1 (cm 0)) f7 ∗ p7 c (mStrip 1 (cm 1)) f7 ∗ p7 c (mStrip 1 (cm 2)) f7 ∗ p7 c (mStrip 1 (cm 3)) f7 ∗ p7 c (mStrip 1 (cl 0)) f7 ∗ p7 c (mStrip 1 (cl 1)) f7 ∗ p7 c (mStrip 1 (cl 2)) f7 ∗ p7 c (mStrip 1 (cl 3)) f7 ∗ land c (aft c 1) ∗ land c (aft c 2) ∗ land c (aft c 3)
        ∗ p8 c (oSlot 0 0) f8 ∗ p8 c (oSlot 1 0) f8 ∗ p9 c (mSlot 0 0) f9 ∗ p9 c (mSlot 1 0) f9) := by
  rw [rows5, whole6, whole7, slots8, slots9, slab6_strips, slab6_strips, slab7_strips, slab7_strips]
  iintro ⟨⟨U0, U1, U2, U3⟩, ⟨⟨A00, A01, A02, A03⟩, A10, A11, A12, A13⟩, ⟨⟨M00, M01, M02, M03, M04, M05, M06, M07⟩, M10, M11, M12, M13, M14, M15, M16, M17⟩, ⟨O00, O01, O02, O03, O10, O11, O12, O13⟩, N00, N01, N02, N03, N10, N11, N12, N13⟩
  ihave L1 := (land_make c 1 f5 f8 f9) $$ [O01 N01 O11 N11 U1]
  · isplitl [O01]; · iexact O01
    isplitl [N01]; · iexact N01
    isplitl [O11]; · iexact O11
    isplitl [N11]; · iexact N11
    iexact U1
  ihave L2 := (land_make c 2 f5 f8 f9) $$ [O02 N02 O12 N12 U2]
  · isplitl [O02]; · iexact O02
    isplitl [N02]; · iexact N02
    isplitl [O12]; · iexact O12
    isplitl [N12]; · iexact N12
    iexact U2
  ihave L3 := (land_make c 3 f5 f8 f9) $$ [O03 N03 O13 N13 U3]
  · isplitl [O03]; · iexact O03
    isplitl [N03]; · iexact N03
    isplitl [O13]; · iexact O13
    isplitl [N13]; · iexact N13
    iexact U3
  isplitl [U0]; · iexact U0
  isplitl [A00]; · iexact A00
  isplitl [A01]; · iexact A01
  isplitl [A02]; · iexact A02
  isplitl [A03]; · iexact A03
  isplitl [A10]; · iexact A10
  isplitl [A11]; · iexact A11
  isplitl [A12]; · iexact A12
  isplitl [A13]; · iexact A13
  isplitl [M00]; · iexact M00
  isplitl [M01]; · iexact M01
  isplitl [M02]; · iexact M02
  isplitl [M03]; · iexact M03
  isplitl [M04]; · iexact M04
  isplitl [M05]; · iexact M05
  isplitl [M06]; · iexact M06
  isplitl [M07]; · iexact M07
  isplitl [M10]; · iexact M10
  isplitl [M11]; · iexact M11
  isplitl [M12]; · iexact M12
  isplitl [M13]; · iexact M13
  isplitl [M14]; · iexact M14
  isplitl [M15]; · iexact M15
  isplitl [M16]; · iexact M16
  isplitl [M17]; · iexact M17
  isplitl [L1]; · iexact L1
  isplitl [L2]; · iexact L2
  isplitl [L3]; · iexact L3
  isplitl [O00]; · iexact O00
  isplitl [O10]; · iexact O10
  isplitl [N00]; · iexact N00
  iexact N10

theorem enter :
    iprop((∃ W, owes (c : Thread nD τ) (O₀ c) W) ∗ pos0 c ∗ toks c ∗ creds c ∗ args I c ∗ p5 c Finset.univ fullShare f5 ∗ p6 c Finset.univ f6 ∗ p7 c Finset.univ f7 ∗ p8 c Finset.univ f8 ∗ p9 c Finset.univ f9)
      ⊢ iprop(bodyIn I c f5 f6 f7 ∗ spare c f8 f9) := by
  unfold pos0 toks creds args bodyIn spare Fl0_1 Fl0_2 Fl0_3 Fl0_4 Fl0_5 Fl0_6 Fl0_7 Fl0_8 Fl0_9 Fl0_10 Fl0_11 Fl0_12 Fl0_13 Fl0_14 Fl0_16 Fl0_17 Fl0_19 Fl0_20 Fl0_23 Fl0_26 Fl0_29 Fl0_32 Fl0_33 Fl0_34 Fl0_35 Fl0_36 Fl0_37 Fl0_38
  iintro ⟨H0, ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩, ⟨H42, H43, H44, H45, H46, H47, H48, H49, H50, H51, H52, H53, H54, H55, H56, H57, H58, H59, H60, H61, H62, H63, H64, H65, H66, H67, H68, H69, H70, H71, H72, H73, H74⟩, ⟨H75, H76, H77, H78, H79, H80, H81, H82, H83, H84, H85, H86, H87, H88, H89, H90⟩, ⟨H91, H92, H93, H94, H95⟩, HM⟩
  ihave HM2 := (enter_mem c f5 f6 f7 f8 f9) $$ HM
  icases HM2 with ⟨H96, H97, H98, H99, H100, H101, H102, H103, H104, H105, H106, H107, H108, H109, H110, H111, H112, H113, H114, H115, H116, H117, H118, H119, H120, H121, H122, H123, S8a, S8b, S9a, S9b⟩
  isplitl [H0 H42 H121 H43 H122 H44 H123 H75 H41 H91 H92 H94 H95 H97 H105 H109 H98 H106 H110 H99 H107 H111 H100 H108 H112 H45 H60 H46 H61 H47 H62 H48 H63 H49 H64 H50 H65 H101 H113 H117 H102 H114 H118 H103 H115 H119 H104 H116 H120 H51 H66 H52 H67 H53 H68 H54 H69 H55 H70 H56 H71 H76 H10 H77 H26 H78 H11 H79 H27 H80 H12 H81 H28 H82 H14 H83 H30 H84 H15 H85 H31 H86 H16 H87 H32 H93 H96 H57 H72 H58 H73 H59 H74 H88 H38 H89 H39 H90 H40 H2 H18 H3 H19 H4 H20 H6 H22 H7 H23 H8 H24 H34 H35 H36]
  · isplitl [H0 H42 H121 H43 H122 H44 H123 H75 H41 H91 H92 H94]
    · isplitl [H0]; · iexact H0
      isplitl [H42]; · iexact H42
      isplitl [H121]; · iexact H121
      isplitl [H43]; · iexact H43
      isplitl [H122]; · iexact H122
      isplitl [H44]; · iexact H44
      isplitl [H123]; · iexact H123
      isplitl [H75]; · iexact H75
      isplitl [H41]; · iexact H41
      isplitl [H91]; · iexact H91
      isplitl [H92]; · iexact H92
      iexact H94
    isplitl [H95 H97 H105 H109 H98]
    · isplitl [H95]; · iexact H95
      isplitl [H97]; · iexact H97
      isplitl [H105]; · iexact H105
      isplitl [H109]; · iexact H109
      iexact H98
    isplitl [H106 H110 H99 H107 H111]
    · isplitl [H106]; · iexact H106
      isplitl [H110]; · iexact H110
      isplitl [H99]; · iexact H99
      isplitl [H107]; · iexact H107
      iexact H111
    isplitl [H100 H108 H112 H45 H60]
    · isplitl [H100]; · iexact H100
      isplitl [H108]; · iexact H108
      isplitl [H112]; · iexact H112
      isplitl [H45]; · iexact H45
      iexact H60
    isplitl [H46 H61 H47 H62]
    · isplitl [H46]; · iexact H46
      isplitl [H61]; · iexact H61
      isplitl [H47]; · iexact H47
      iexact H62
    isplitl [H48 H63 H49 H64]
    · isplitl [H48]; · iexact H48
      isplitl [H63]; · iexact H63
      isplitl [H49]; · iexact H49
      iexact H64
    isplitl [H50 H65 H101 H113 H117]
    · isplitl [H50]; · iexact H50
      isplitl [H65]; · iexact H65
      isplitl [H101]; · iexact H101
      isplitl [H113]; · iexact H113
      iexact H117
    isplitl [H102 H114 H118 H103]
    · isplitl [H102]; · iexact H102
      isplitl [H114]; · iexact H114
      isplitl [H118]; · iexact H118
      iexact H103
    isplitl [H115 H119 H104 H116 H120]
    · isplitl [H115]; · iexact H115
      isplitl [H119]; · iexact H119
      isplitl [H104]; · iexact H104
      isplitl [H116]; · iexact H116
      iexact H120
    isplitl [H51 H66 H52 H67]
    · isplitl [H51]; · iexact H51
      isplitl [H66]; · iexact H66
      isplitl [H52]; · iexact H52
      iexact H67
    isplitl [H53 H68 H54 H69]
    · isplitl [H53]; · iexact H53
      isplitl [H68]; · iexact H68
      isplitl [H54]; · iexact H54
      iexact H69
    isplitl [H55 H70 H56 H71]
    · isplitl [H55]; · iexact H55
      isplitl [H70]; · iexact H70
      isplitl [H56]; · iexact H56
      iexact H71
    isplitl [H76 H10]
    · isplitl [H76]; · iexact H76
      iexact H10
    isplitl [H77 H26]
    · isplitl [H77]; · iexact H77
      iexact H26
    isplitl [H78 H11]
    · isplitl [H78]; · iexact H78
      iexact H11
    isplitl [H79 H27]
    · isplitl [H79]; · iexact H79
      iexact H27
    isplitl [H80 H12]
    · isplitl [H80]; · iexact H80
      iexact H12
    isplitl [H81 H28]
    · isplitl [H81]; · iexact H81
      iexact H28
    isplitl [H82 H14 H83 H30]
    · isplitl [H82]; · iexact H82
      isplitl [H14]; · iexact H14
      isplitl [H83]; · iexact H83
      iexact H30
    isplitl [H84 H15 H85 H31]
    · isplitl [H84]; · iexact H84
      isplitl [H15]; · iexact H15
      isplitl [H85]; · iexact H85
      iexact H31
    isplitl [H86 H16 H87 H32]
    · isplitl [H86]; · iexact H86
      isplitl [H16]; · iexact H16
      isplitl [H87]; · iexact H87
      iexact H32
    isplitl [H93 H96 H57 H72]
    · isplitl [H93]; · iexact H93
      isplitl [H96]; · iexact H96
      isplitl [H57]; · iexact H57
      iexact H72
    isplitl [H58 H73 H59 H74 H88 H38]
    · isplitl [H58]; · iexact H58
      isplitl [H73]; · iexact H73
      isplitl [H59]; · iexact H59
      isplitl [H74]; · iexact H74
      isplitl [H88]; · iexact H88
      iexact H38
    isplitl [H89 H39 H90 H40 H2 H18]
    · isplitl [H89]; · iexact H89
      isplitl [H39]; · iexact H39
      isplitl [H90]; · iexact H90
      isplitl [H40]; · iexact H40
      isplitl [H2]; · iexact H2
      iexact H18
    isplitl [H3 H19 H4]
    · isplitl [H3]; · iexact H3
      isplitl [H19]; · iexact H19
      iexact H4
    isplitl [H20 H6 H22]
    · isplitl [H20]; · iexact H20
      isplitl [H6]; · iexact H6
      iexact H22
    isplitl [H7 H23 H8 H24]
    · isplitl [H7]; · iexact H7
      isplitl [H23]; · iexact H23
      isplitl [H8]; · iexact H8
      iexact H24
    isplitl [H34]; · iexact H34
    isplitl [H35]; · iexact H35
    iexact H36
  isplitl [H1]; · iexact H1
  isplitl [H5]; · iexact H5
  isplitl [H9]; · iexact H9
  isplitl [H13]; · iexact H13
  isplitl [H17]; · iexact H17
  isplitl [H21]; · iexact H21
  isplitl [H25]; · iexact H25
  isplitl [H29]; · iexact H29
  isplitl [H33]; · iexact H33
  isplitl [H37]; · iexact H37
  isplitl [S8a]; · iexact S8a
  isplitl [S8b]; · iexact S8b
  isplitl [S9a]; · iexact S9a
  iexact S9b

theorem leave :
    iprop(bodyOut I c f5 f6 f7 ∗ spare c f8 f9)
      ⊢ iprop(owesE c 0 ∗ pos1 c ∗ args I c ∗ p5 c Finset.univ fullShare (outC I) ∗ (∃ f, p6 c Finset.univ f) ∗ (∃ f, p7 c Finset.univ f) ∗ (∃ f, p8 c Finset.univ f) ∗ (∃ f, p9 c Finset.univ f)) := by
  unfold pos1 args bodyOut spare Fl1_39 Fl7_39 Fl13_39 Fl14_39 Fl16_39 Fl17_39 Fl18_39 Fl19_39 Fl20_39 Fl21_39 Fl23_39 Fl25_39 Fl26_39 Fl28_39 Fl29_39 Fl31_39 Fl32_39 Fl33_39 Fl34_39 Fl35_39 Fl36_39 Fl37_39 Fl38_39
  iintro ⟨⟨⟨H0, H1, H2⟩, ⟨H3, H4⟩, ⟨H5, H6, H7⟩, H8, ⟨H9, H10, H11⟩, H12, H13, ⟨H14, H15⟩, H16, ⟨H17, H18⟩, ⟨H19, H20, H21, H22⟩, ⟨H23, H24⟩, ⟨H25, H26⟩, ⟨H27, H28⟩, ⟨H29, H30⟩, ⟨H31, H32⟩, H33, ⟨H34, H35⟩, ⟨H36, H37, H38, H39, H40, H41, H42, H43⟩, ⟨H44, H45, H46, H47, H48, H49⟩, ⟨H50, H51, H52, H53, H54, H55⟩, ⟨H56, H57, H58, H59, H60, H61, H62, H63⟩, H64, H65, H66, H67, H68, H69, H70⟩, H71, H72, H73, H74, H75, H76, H77, H78, H79, H80, S8a, S8b, S9a, S9b⟩
  ihave HU := (shares5 c (uRows c) (outC I)).2 $$ [H65 H67 H70]
  · isplitl [H65]; · iexact H65
    isplitl [H67]; · iexact H67
    iexact H70
  ihave HU5 := (Entails.of_eq (rows5 c fullShare (outC I)).symm) $$ [HU H35 H37 H39]
  · isplitl [HU]; · iexact HU
    isplitl [H35]; · iexact H35
    isplitl [H37]; · iexact H37
    iexact H39
  ihave HG60 := (Entails.of_eq (slab6_rows c 0 (oC I c)).symm) $$ [H6 H41 H45 H49]
  · isplitl [H6]; · iexact H6
    isplitl [H41]; · iexact H41
    isplitl [H45]; · iexact H45
    iexact H49
  ihave HG61 := (Entails.of_eq (slab6_rows c 1 (oC I c)).symm) $$ [H19 H53 H57 H61]
  · isplitl [H19]; · iexact H19
    isplitl [H53]; · iexact H53
    isplitl [H57]; · iexact H57
    iexact H61
  ihave HW6 := (Entails.of_eq (whole6 c (oC I c)).symm) $$ [HG60 HG61]
  · isplitl [HG60]; · iexact HG60
    iexact HG61
  ihave HG70 := (Entails.of_eq (slab7_rows c 0 (mC I c)).symm) $$ [H5 H43 H47 H51]
  · isplitl [H5]; · iexact H5
    isplitl [H43]; · iexact H43
    isplitl [H47]; · iexact H47
    iexact H51
  ihave HG71 := (Entails.of_eq (slab7_rows c 1 (mC I c)).symm) $$ [H20 H55 H59 H63]
  · isplitl [H20]; · iexact H20
    isplitl [H55]; · iexact H55
    isplitl [H59]; · iexact H59
    iexact H63
  ihave HW7 := (Entails.of_eq (whole7 c (mC I c)).symm) $$ [HG70 HG71]
  · isplitl [HG70]; · iexact HG70
    iexact HG71
  ihave HW8 := (slots8_join c) $$ [S8a H10 H14 H18 S8b H24 H28 H31]
  · isplitl [S8a]
    · iexists f8; iexact S8a
    isplitl [H10]
    · iexists (oS I c); iexact H10
    isplitl [H14]
    · iexists (oS I c); iexact H14
    isplitl [H18]
    · iexists (oS I c); iexact H18
    isplitl [S8b]
    · iexists f8; iexact S8b
    isplitl [H24]
    · iexists (oS I c); iexact H24
    isplitl [H28]
    · iexists (oS I c); iexact H28
    iexists (oS I c); iexact H31
  ihave HW9 := (slots9_join c) $$ [S9a H9 H13 H17 S9b H23 H27 H32]
  · isplitl [S9a]
    · iexists f9; iexact S9a
    isplitl [H9]
    · iexists (mS I c); iexact H9
    isplitl [H13]
    · iexists (mS I c); iexact H13
    isplitl [H17]
    · iexists (mS I c); iexact H17
    isplitl [S9b]
    · iexists f9; iexact S9b
    isplitl [H23]
    · iexists (mS I c); iexact H23
    isplitl [H27]
    · iexists (mS I c); iexact H27
    iexists (mS I c); iexact H32
  isplitl [H68]; · iexact H68
  isplitl [H71 H40 H44 H48 H72 H52 H56 H60 H73 H7 H11 H15 H74 H21 H25 H29 H75 H42 H46 H50 H76 H54 H58 H62 H77 H8 H12 H16 H78 H22 H26 H30 H79 H64 H66 H69 H80 H34 H36 H38 H0]
  · isplitl [H71]; · iexact H71
    isplitl [H40]; · iexact H40
    isplitl [H44]; · iexact H44
    isplitl [H48]; · iexact H48
    isplitl [H72]; · iexact H72
    isplitl [H52]; · iexact H52
    isplitl [H56]; · iexact H56
    isplitl [H60]; · iexact H60
    isplitl [H73]; · iexact H73
    isplitl [H7]; · iexact H7
    isplitl [H11]; · iexact H11
    isplitl [H15]; · iexact H15
    isplitl [H74]; · iexact H74
    isplitl [H21]; · iexact H21
    isplitl [H25]; · iexact H25
    isplitl [H29]; · iexact H29
    isplitl [H75]; · iexact H75
    isplitl [H42]; · iexact H42
    isplitl [H46]; · iexact H46
    isplitl [H50]; · iexact H50
    isplitl [H76]; · iexact H76
    isplitl [H54]; · iexact H54
    isplitl [H58]; · iexact H58
    isplitl [H62]; · iexact H62
    isplitl [H77]; · iexact H77
    isplitl [H8]; · iexact H8
    isplitl [H12]; · iexact H12
    isplitl [H16]; · iexact H16
    isplitl [H78]; · iexact H78
    isplitl [H22]; · iexact H22
    isplitl [H26]; · iexact H26
    isplitl [H30]; · iexact H30
    isplitl [H79]; · iexact H79
    isplitl [H64]; · iexact H64
    isplitl [H66]; · iexact H66
    isplitl [H69]; · iexact H69
    isplitl [H80]; · iexact H80
    isplitl [H34]; · iexact H34
    isplitl [H36]; · iexact H36
    isplitl [H38]; · iexact H38
    iexact H0
  isplitl [H1 H2 H33 H3 H4]
  · isplitl [H1]; · iexact H1
    isplitl [H2]; · iexact H2
    isplitl [H33]; · iexact H33
    isplitl [H3]; · iexact H3
    iexact H4
  isplitl [HU5]; · iexact HU5
  isplitl [HW6]; · iexists (oC I c); iexact HW6
  isplitl [HW7]; · iexists (mC I c); iexact HW7
  isplitl [HW8]; · iexact HW8
  iexact HW9

end Cert.KernelIdeal.K
-- ==== Proof.KernelIdeal.Ghost.lean ====
/- What the launch deals: the cells with their positions and tokens, and the credit for what the others owe. -/
module

public import proofs.«01_k».proof.Proof.KernelIdeal.Enter

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (I : Ins F) (K : Dev nD × Fin 41 → ℕ)

set_option maxRecDepth 8000

/-! ## The cells -/

def osem : Fin 40 → SemLoc sig := fun k => .dma (semD k)
theorem ownSemFacts : Pipeline.OwnSemFacts cfg0.spec osem := by decide

theorem semD_inj {k k' : Fin 40} (h : semD k = semD k') : k = k' := by
  have h1 := congrArg Fin.val h
  have h2 : 6 + k.val = 6 + k'.val := h1
  exact Fin.ext (by omega)

theorem csem_inj {k k' : Fin 41} (h : csem k = csem k') : k = k' := by
  unfold csem at h
  split at h <;> split at h
  · have h1 := semD_inj (SemLoc.dma.inj h)
    have h2 : k.val = k'.val := Fin.mk.inj h1
    exact Fin.ext h2
  · exact absurd h (by intro h; cases h)
  · exact absurd h (by intro h; cases h)
  · exact Fin.ext (by omega)

theorem kcell_injective : Function.Injective (kcell : Dev nD × Fin 41 → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_injective⟩

/-! ## The tokens, listed by who pays -/

/-- The `i`-th duty device `c` pays: which semaphore, and where. -/
def payAt (c : Dev nD) (i : Fin 33) : Dev nD × Fin 41 :=
  if i.val < 3 then (aft c ⟨(i.val + 1) % 4, Nat.mod_lt _ (by decide)⟩, kB)
  else if i.val < 18 then (c, kD (own (i.val - 3)))
  else (aft c (tgt (i.val - 18)).1, kD (tgt (i.val - 18)).2)
/-- Under whose name. -/
def payBy (c : Dev nD) (i : Fin 33) : Dev nD := if i.val < 3 then c else 0

theorem pay_inj : ∀ (c : Dev nD) (i : Fin 33) (c' : Dev nD) (i' : Fin 33), payAt c i = payAt c' i' → payBy c i = payBy c' i' → c = c' ∧ i = i' := by
  decide +kernel

def tokOf (ci : Dev nD × Fin 33) : GSem nD τ sig × ℕ × Dev nD := (kcell (payAt ci.1 ci.2), 0, payBy ci.1 ci.2)
theorem tokOf_injective : Function.Injective tokOf := by
  rintro ⟨c, i⟩ ⟨c', i'⟩ h
  have h1 : payAt c i = payAt c' i' := kcell_injective (congrArg Prod.fst h)
  have h2 : payBy c i = payBy c' i' := congrArg (fun x => x.2.2) h
  obtain ⟨h3, h4⟩ := pay_inj c i c' i' h1 h2
  rw [h3, h4]
def allToks : Finset (GSem nD τ sig × ℕ × Dev nD) := Finset.univ.map ⟨tokOf, tokOf_injective⟩

theorem toks_eq (c : Dev nD) :
    (bigSep Finset.univ fun i : Fin 33 => dutyTok ER (tokOf (c, i)).1 (tokOf (c, i)).2.1 (tokOf (c, i)).2.2) = (toks c : sProp 𝕄) := by
  rw [bigSep_univ_eq_bigSepL [0, 1, 2, 3, 4, 5, 6, 7, 8, 9, 10, 11, 12, 13, 14, 15, 16, 17, 18, 19, 20, 21, 22, 23, 24, 25, 26, 27, 28, 29, 30, 31, 32] (by decide) (by decide)]
  rfl
theorem pos0_eq (c : Dev nD) : (bigSep Finset.univ fun k : Fin 41 => atPos ER (kcell (c, k)) 0 ∅ 0) = (pos0 c : sProp 𝕄) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]
  rfl
/-- How many rounds a cell goes through. -/
def rounds (k : Fin 41) : ℕ := if k.val < 40 ∧ k.val % 4 = 0 then 0 else 1
theorem pos1_eq (c : Dev nD) : (bigSep Finset.univ fun k : Fin 41 => atPos ER (kcell (c, k)) (rounds k) ∅ 0) = (pos1 c : sProp 𝕄) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40] (by decide) (by decide)]
  rfl
theorem dut_idle (c : Dev nD) : ∀ k : Fin 41, rounds k = 0 → dut c (role (csem k)) = ∅ := by
  intro k h
  fin_cases k <;> first | rfl | exact absurd h (by decide)

/-- At the end every semaphore is back at zero. -/
theorem close_all (c : Dev nD) :
    iprop(env I K ∗ pos1 c) ⊢ (|={Set.univ}=> bigSep Finset.univ fun k : Fin 41 => semVal (kcell (c, k)) 0 : sProp 𝕄) := by
  rw [← pos1_eq]
  have hp : ∀ k : Fin 41, iprop(env I K ∗ atPos ER (kcell (c, k)) (rounds k) ∅ 0) ⊢ (|={Set.univ}=> semVal (kcell (c, k)) 0 : sProp 𝕄) := by
    intro k
    by_cases h : rounds k = 0
    · rw [h]; exact close_0 I K c k (dut_idle c k h)
    · exact close_k I K c k _ (by omega)
  exact ((sep_mono_left (BI.bigSep_of_persistent Finset.univ (env I K))).trans (by rw [← bigSep_sep']; exact bigSep_mono fun k _ => hp k)).trans
    (bigSep_fupd _ _)

/-! ## The launch element -/

def u₀ : UU :=
  (initOf (Pipeline.cells cfgs cellOf_inj) (Pipeline.launchToks cfgs cellOf_inj), initOf allCells allToks)

/-- What the launch element deals device `c`. -/
def G (c : Dev nD) : sProp 𝕄 :=
  iprop((bigSep Finset.univ fun k : Fin 41 => roundState ER (Rd I) (kcell (c, k)) 0)
    ∗ (bigSep Finset.univ fun k : Fin 41 => iprop(atPos ER (kcell (c, k)) 0 ∅ 0 ∗ reached ER (kcell (c, k)) 0)) ∗ toks c)

/-- The invariants of all cells, and that all are at their first round. -/
def records (K : Dev nD × Fin 41 → ℕ) : sProp 𝕄 :=
  iprop((bigSep Finset.univ fun ck : Dev nD × Fin 41 => cellInv ER (Rd I) (K ck) (kcell ck))
    ∗ bigSep Finset.univ fun ck : Dev nD × Fin 41 => reached ER (kcell ck) 0)
instance records_persistent (K : Dev nD × Fin 41 → ℕ) : BI.Persistent (records I K) := by unfold records; infer_instance
/-- What device `c` has after the global step. -/
def G' (c : Dev nD) : sProp 𝕄 := iprop(∃ K, records I K ∗ pos0 c ∗ toks c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 41 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [← toks_eq c]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem kD_inj : Function.Injective kD := fun a b h => by
  have h1 : a.val = b.val := congrArg (fun x : Fin 41 => x.val) h
  exact Fin.ext h1
theorem sems_eq (c : Dev nD) : (bigSep Finset.univ fun k : Fin 41 => semVal (kcell (c, k)) 0 : sProp 𝕄)
    = iprop((bigSep Finset.univ fun k : Fin 40 => semVal (dCell c k) 0) ∗ semVal (barCell c) 0) := by
  have hu : (Finset.univ : Finset (Fin 41)) = insert kB (Finset.univ.map ⟨kD, kD_inj⟩) := by decide
  have hn : kB ∉ (Finset.univ.map ⟨kD, kD_inj⟩ : Finset (Fin 41)) := by decide
  rw [hu, BI.bigSep_insert hn, bigSep_map]
  have hk : (bigSep Finset.univ fun k : Fin 40 => (semVal (kcell (c, kD k)) 0 : sProp 𝕄)) = bigSep Finset.univ fun k => semVal (dCell c k) 0 :=
    bigSep_congr fun k _ => by rw [kcell_D]
  refine (congrArg (fun X : sProp 𝕄 => iprop(semVal (barCell c) 0 ∗ X)) hk).trans ?_
  exact equiv_iff.mp ⟨sep_comm, sep_comm⟩
theorem ownSems0_eq (c : Dev nD) : (Pipeline.ownSems0 (Ix := Unit) (Name := ℕ) (U := UU) (Lvl := ℕ) (Val := Elt F) (τ := τ) osem c : sProp 𝕄)
    = bigSep Finset.univ fun k : Fin 40 => semVal (dCell c k) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_in (c : Dev nD) :
    iprop(Pipeline.ownSems0 (Ix := Unit) (Name := ℕ) (U := UU) (Lvl := ℕ) (Val := Elt F) (τ := τ) osem c ∗ unscopedSems0 c)
      ⊢ (bigSep Finset.univ fun k : Fin 41 => semVal (kcell (c, k)) 0 : sProp 𝕄) := by
  rw [sems_eq, ownSems0_eq, unscopedSems0_eq]
theorem sems_out (c : Dev nD) : (bigSep Finset.univ fun k : Fin 41 => semVal (kcell (c, k)) 0 : sProp 𝕄)
      ⊢ iprop(Pipeline.ownSems0 (Ix := Unit) (Name := ℕ) (U := UU) (Lvl := ℕ) (Val := Elt F) (τ := τ) osem c ∗ unscopedSems0 c) := by
  rw [sems_eq, ownSems0_eq, unscopedSems0_eq]

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_in (F := F) c) $$ [Hos Hus]
  · isplitl [Hos] <;> iassumption
  imod (show iprop((bigSep Finset.univ fun k : Fin 41 => semVal (kcell (c, k)) 0) ∗ bigSep Finset.univ fun k : Fin 41 => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (Rd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × Fin 41 => iprop(∃ κ : ℕ, cellInv ER (Rd I) κ (kcell ck))),
    bigSep_congr (s := Finset.univ) (fun (c : Dev nD) _ => bigSep_sep' Finset.univ (fun k : Fin 41 => (atPos ER (kcell (c, k)) 0 ∅ 0 : sProp 𝕄)) (fun k => reached ER (kcell (c, k)) 0)),
    bigSep_sep', ← bigSep_univ_prod (fun ck : Dev nD × Fin 41 => (reached ER (kcell ck) 0 : sProp 𝕄))]
  iintro ⟨HI, ⟨Hat, #HR⟩, Htok⟩
  ihave HK := (BI.bigSep_exists_pi Finset.univ (fun (ck : Dev nD × Fin 41) (κ : ℕ) => (cellInv ER (Rd I) κ (kcell ck) : sProp 𝕄))) $$ HI
  icases HK with ⟨%K, #HI⟩
  have hone : ∀ c ∈ (Finset.univ : Finset (Dev nD)), iprop(records I K ∗ pos0 c ∗ toks c) ⊢ G' I c := fun c _ => by
    unfold G'; iintro H; iexists K; iexact H
  iapply ((sep_mono_left (BI.bigSep_of_persistent Finset.univ (records I K))).trans (by rw [← bigSep_sep']; exact bigSep_mono hone))
  isplitr
  · unfold records; isplitl; · iexact HI
    iexact HR
  · rw [bigSep_sep']
    isplitl [Hat]
    · iapply (Entails.of_eq (bigSep_congr (s := Finset.univ) fun (c : Dev nD) _ => pos0_eq (F := F) c)); iexact Hat
    · iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem bar_eq_iff {a b : Dev nD} : Iff (barCell a = barCell b) (a = b) :=
  ⟨fun h => congrArg (fun g : GSem nD τ sig => g.1.1) h, fun h => h ▸ rfl⟩
theorem dCell_eq_iff {a b : Dev nD} {k k' : Fin 40} : Iff (dCell a k = dCell b k') (a = b ∧ k = k') :=
  ⟨fun h => ⟨congrArg (fun g : GSem nD τ sig => g.1.1) h, semD_inj (SemLoc.dma.inj (congrArg Prod.snd h))⟩, fun h => by rw [h.1, h.2]⟩
theorem dCell_ne_bar {a b : Dev nD} {k : Fin 40} : dCell a k ≠ barCell b := fun h => by
  have h2 : (SemLoc.dma (semD k) : SemLoc sig) = .reg barS := congrArg Prod.snd h
  cases h2

/-- How many of the last `n` transfers of device `d` land on device `c`'s semaphore `k`. -/
def hits (d c : Dev nD) (k : Fin 40) : ℕ → ℕ
  | 0 => 0
  | n + 1 => hits d c k n + if c = aft d (tgt (14 - n)).1 ∧ k = (tgt (14 - n)).2 then 1 else 0
theorem owd_D (d c : Dev nD) (k : Fin 40) : ∀ n, owd d n (dCell c k) () = hits d c k n * amt (roleN k.val)
  | 0 => by unfold owd hits; rw [Nat.zero_mul]; rfl
  | n + 1 => by
    unfold owd hits
    rw [Pi.add_apply, Finsupp.add_apply, owd_D d c k n, Nat.add_mul]
    congr 1
    unfold tal
    rw [tallyAt_apply]
    by_cases h : c = aft d (tgt (14 - n)).1 ∧ k = (tgt (14 - n)).2
    · rw [if_pos h, if_pos ⟨dCell_eq_iff.mpr h, rfl⟩, Nat.one_mul, ← h.2]
    · rw [if_neg h, if_neg fun h' => h (dCell_eq_iff.mp h'.1), Nat.zero_mul]
theorem owd_B (d c : Dev nD) : ∀ n, owd d n (barCell c) () = 0
  | 0 => rfl
  | n + 1 => by
    unfold owd
    rw [Pi.add_apply, Finsupp.add_apply, owd_B d c n]
    unfold tal
    rw [tallyAt_apply, if_neg fun h => dCell_ne_bar h.1.symm]
theorem O₀_D (d c : Dev nD) (k : Fin 40) : O₀ d (dCell c k) () = hits d c k 15 * amt (roleN k.val) := by
  unfold O₀ O₂ O₁
  rw [Pi.add_apply, Finsupp.add_apply, Pi.add_apply, Finsupp.add_apply, Pi.add_apply, Finsupp.add_apply, owd_D,
    tallyAt_apply, tallyAt_apply, tallyAt_apply, if_neg fun h => dCell_ne_bar h.1, if_neg fun h => dCell_ne_bar h.1, if_neg fun h => dCell_ne_bar h.1,
    Nat.add_zero]
def barHits (d c : Dev nD) : ℕ := (if c = aft d 3 then 1 else 0) + (if c = aft d 2 then 1 else 0) + (if c = aft d 1 then 1 else 0)
theorem O₀_B (d c : Dev nD) : O₀ d (barCell c) () = barHits d c := by
  unfold O₀ O₂ O₁ barHits
  rw [Pi.add_apply, Finsupp.add_apply, Pi.add_apply, Finsupp.add_apply, Pi.add_apply, Finsupp.add_apply, owd_B,
    tallyAt_apply, tallyAt_apply, tallyAt_apply, Nat.zero_add]
  simp only [bar_eq_iff, and_true]
/-- The semaphores something lands on. -/
def isRecv (k : Fin 40) : Prop := 8 ≤ k.val % 16 ∧ k.val < 32 ∧ k.val % 4 ≠ 0 ∨ 36 < k.val
instance (k : Fin 40) : Decidable (isRecv k) := by unfold isRecv; infer_instance
theorem hits_one : ∀ (c : Dev nD) (k : Fin 40), isRecv k → (∑ d : Dev nD, hits d c k 15) = 1 := by decide +kernel
theorem barHits_three : ∀ c : Dev nD, (∑ d : Dev nD, barHits d c) = 3 := by decide +kernel

theorem launch_B (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_B d c, barHits_three]
theorem launch_D (c : Dev nD) (k : Fin 40) (hk : isRecv k) (n : ℕ) (hn : amt (roleN k.val) = n) :
    tallyOn (dCell c k) (launchCredit (Pipeline.owing O₀) 0 (dCell c k)) = (tallyAt (dCell c k) () n : CellTallies nD τ sig Unit) := by
  unfold tallyAt; refine congrArg _ (Finsupp.ext fun u => ?_); cases u
  rw [Pipeline.launchCredit_owing, Finsupp.single_eq_same, Finset.sum_congr rfl fun d _ => O₀_D d c k, ← Finset.sum_mul, hits_one c k hk, Nat.one_mul, hn]

/-- The semaphores a device is owed something on. -/
def owedOn : List (SemLoc sig) := [SemLoc.reg barS, SemLoc.dma (semD (kOR 0 1)), SemLoc.dma (semD (kMR 0 1)), SemLoc.dma (semD (kOR 0 2)), SemLoc.dma (semD (kMR 0 2)), SemLoc.dma (semD (kOR 0 3)), SemLoc.dma (semD (kMR 0 3)), SemLoc.dma (semD (kOR 1 1)), SemLoc.dma (semD (kMR 1 1)), SemLoc.dma (semD (kOR 1 2)), SemLoc.dma (semD (kMR 1 2)), SemLoc.dma (semD (kOR 1 3)), SemLoc.dma (semD (kMR 1 3)), SemLoc.dma (semD (kAR 1)), SemLoc.dma (semD (kAR 2)), SemLoc.dma (semD (kAR 3))]
theorem owedOn_nodup : owedOn.Nodup := by decide +kernel
theorem bigSep_sub {J : Type} [DecidableEq J] {s t : Finset J} (h : t ⊆ s) (Φ : J → sProp 𝕄) : bigSep s Φ ⊢ bigSep t Φ := BI.bigSep_subset h
theorem creds_intro (c : Dev nD) : (Pipeline.launchCred O₀ c : sProp 𝕄) ⊢ creds c := by
  unfold Pipeline.launchCred
  refine (bigSep_sub (Finset.subset_univ owedOn.toFinset) _).trans ?_
  rw [bigSep_eq_bigSepL_of_eq owedOn rfl owedOn_nodup]
  refine Entails.of_eq ?_
  show (iprop(cred (tallyOn (barCell c) (launchCredit (Pipeline.owing O₀) 0 (barCell c))) ∗ cred (tallyOn (dCell c (kOR 0 1)) (launchCredit (Pipeline.owing O₀) 0 (dCell c (kOR 0 1)))) ∗ cred (tallyOn (dCell c (kMR 0 1)) (launchCredit (Pipeline.owing O₀) 0 (dCell c (kMR 0 1)))) ∗ cred (tallyOn (dCell c (kOR 0 2)) (launchCredit (Pipeline.owing O₀) 0 (dCell c (kOR 0 2)))) ∗ cred (tallyOn (dCell c (kMR 0 2)) (launchCredit (Pipeline.owing O₀) 0 (dCell c (kMR 0 2)))) ∗ cred (tallyOn (dCell c (kOR 0 3)) (launchCredit (Pipeline.owing O₀) 0 (dCell c (kOR 0 3)))) ∗ cred (tallyOn (dCell c (kMR 0 3)) (launchCredit (Pipeline.owing O₀) 0 (dCell c (kMR 0 3)))) ∗ cred (tallyOn (dCell c (kOR 1 1)) (launchCredit (Pipeline.owing O₀) 0 (dCell c (kOR 1 1)))) ∗ cred (tallyOn (dCell c (kMR 1 1)) (launchCredit (Pipeline.owing O₀) 0 (dCell c (kMR 1 1)))) ∗ cred (tallyOn (dCell c (kOR 1 2)) (launchCredit (Pipeline.owing O₀) 0 (dCell c (kOR 1 2)))) ∗ cred (tallyOn (dCell c (kMR 1 2)) (launchCredit (Pipeline.owing O₀) 0 (dCell c (kMR 1 2)))) ∗ cred (tallyOn (dCell c (kOR 1 3)) (launchCredit (Pipeline.owing O₀) 0 (dCell c (kOR 1 3)))) ∗ cred (tallyOn (dCell c (kMR 1 3)) (launchCredit (Pipeline.owing O₀) 0 (dCell c (kMR 1 3)))) ∗ cred (tallyOn (dCell c (kAR 1)) (launchCredit (Pipeline.owing O₀) 0 (dCell c (kAR 1)))) ∗ cred (tallyOn (dCell c (kAR 2)) (launchCredit (Pipeline.owing O₀) 0 (dCell c (kAR 2)))) ∗ cred (tallyOn (dCell c (kAR 3)) (launchCredit (Pipeline.owing O₀) 0 (dCell c (kAR 3))))) : sProp 𝕄) = creds c
  unfold creds
  rw [launch_B, launch_D c (kOR 0 1) (by decide) NO rfl, launch_D c (kMR 0 1) (by decide) NM rfl, launch_D c (kOR 0 2) (by decide) NO rfl, launch_D c (kMR 0 2) (by decide) NM rfl, launch_D c (kOR 0 3) (by decide) NO rfl, launch_D c (kMR 0 3) (by decide) NM rfl, launch_D c (kOR 1 1) (by decide) NO rfl, launch_D c (kMR 1 1) (by decide) NM rfl, launch_D c (kOR 1 2) (by decide) NO rfl, launch_D c (kMR 1 2) (by decide) NM rfl, launch_D c (kOR 1 3) (by decide) NO rfl, launch_D c (kMR 1 3) (by decide) NM rfl, launch_D c (kAR 1) (by decide) NA rfl, launch_D c (kAR 2) (by decide) NA rfl, launch_D c (kAR 3) (by decide) NA rfl]

end Cert.KernelIdeal.K
-- ==== Proof.KernelIdeal.Launch.lean ====
/- The launch: the pipeline's proof data, the program's obligation, and the run of the four devices. -/
module

public import proofs.«01_k».proof.Proof.KernelIdeal.Ghost
public import Idealize.ShloMosaic.Lib.Quiescent
public import Idealize.ShloMosaic.Lib.Pipeline.CollectiveSegs

@[expose] public section

noncomputable section

namespace Cert.KernelIdeal.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000

/-- The inputs as the pipeline stages them from the initial memory. -/
def ins : Ins F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg2))
  k c := (win0_3.blk (0 : Fin 1)).view.read (Elt F) (m ((c : Thread nD τ).loc main_arg3))
  v c := (win0_4.blk (0 : Fin 1)).view.read (Elt F) (m ((c : Thread nD τ).loc main_arg4))

/-! ## The proof data -/

/-- The four scratch buffers, whole. -/
def scratch (c : Dev nD) : sProp 𝕄 :=
  iprop((∃ f, p6 c Finset.univ f) ∗ (∃ f, p7 c Finset.univ f) ∗ (∃ f, p8 c Finset.univ f) ∗ (∃ f, p9 c Finset.univ f))
/-- What a device starts its program from, beside the scratch. -/
def start (I : Ins F) (c : Dev nD) : sProp 𝕄 := iprop(∃ K, env I K ∗ pos0 c ∗ toks c ∗ creds c)
def Φ₀ (I : Ins F) (c : Dev nD) : sProp 𝕄 := iprop(start I c ∗ scratch c)
def Φ₁ (c : Dev nD) : sProp 𝕄 := iprop((bigSep Finset.univ fun k : Fin 41 => semVal (kcell (c, k)) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).wq c
    | ⟨2, _⟩ => (ins m).wo c
    | ⟨3, _⟩ => (ins m).k c
    | ⟨4, _⟩ => (ins m).v c
    | ⟨5, _⟩ => outC (ins m)
  Φ t := match t with
    | ⟨0, _⟩ => Φ₀ (ins m) c
    | ⟨_ + 1, _⟩ => Φ₁ c
  q _ := fullShare
  owed t := match t with
    | ⟨0, _⟩ => O₀ c
    | ⟨_ + 1, _⟩ => 0

theorem fetch_in : ∀ w : Fin 6, w.val < 5 → (cfg0.win w).fetch t0_0 = true := by decide
theorem before_in (c : Dev nD) (w : Fin 6) (hw : w.val < 5) (d) : (dats m 0 c).before w t0_0 d = (dats m 0 c).after w t0_0 := by
  unfold Dat.before
  rw [if_pos (fetch_in w hw)]
  rcases w with ⟨w, h6⟩
  interval_cases w <;> rfl

/-! ## The program's obligation -/

def bodyPre (c : Dev nD) : sProp 𝕄 :=
  iprop(Φ₀ (ins m) c ∗ (dats m 0 c).owesAt () t0_0.castSucc
    ∗ (∃ d, p0 c ((dats m 0 c).before (0 : Fin 6) t0_0 d)) ∗ (∃ d, p1 c ((dats m 0 c).before (1 : Fin 6) t0_0 d))
    ∗ (∃ d, p2 c ((dats m 0 c).before (2 : Fin 6) t0_0 d)) ∗ (∃ d, p3 c ((dats m 0 c).before (3 : Fin 6) t0_0 d))
    ∗ (∃ d, p4 c ((dats m 0 c).before (4 : Fin 6) t0_0 d)) ∗ (∃ d, p5 c Finset.univ fullShare ((dats m 0 c).before (5 : Fin 6) t0_0 d)))
def bodyPost (c : Dev nD) : sProp 𝕄 :=
  iprop(Φ₁ c ∗ (dats m 0 c).owesAt () t0_0.succ
    ∗ p0 c ((ins m).x c) ∗ p1 c ((ins m).wq c) ∗ p2 c ((ins m).wo c) ∗ p3 c ((ins m).k c) ∗ p4 c ((ins m).v c)
    ∗ p5 c Finset.univ fullShare (outC (ins m)))

theorem owes_in (c : Dev nD) : (dats m 0 c).owesAt () t0_0.castSucc ⊢ (iprop(∃ W, owes (c : Thread nD τ) (O₀ c) W) : sProp 𝕄) := by
  unfold Dat.owesAt Pipeline.owesWithin
  iintro ⟨%W, %hW, HO⟩
  iexists W
  iexact HO
theorem owes_out (c : Dev nD) : (owesE c 0 : sProp 𝕄) ⊢ (dats m 0 c).owesAt () t0_0.succ := by
  unfold Dat.owesAt Pipeline.owesWithin owesE
  iintro ⟨%W, HO⟩
  iexists W
  isplitr; · ipureintro; exact fun _ _ => Or.inl trivial
  iexact HO

theorem finish (K : Dev nD × Fin 41 → ℕ) (c : Dev nD) (f5 : Vec F S512x1024 .bf16) (f6 : Vec F S2x512x512 .bf16) (f7 : Vec F S2x512x8 .f32)
    (f8 : Vec F S2x4x128x512 .bf16) (f9 : Vec F S2x4x128x8 .f32) :
    iprop(env (ins m) K ∗ bodyOut (ins m) c f5 f6 f7 ∗ spare c f8 f9) ⊢ (|={Set.univ}=> bodyPost m c : sProp 𝕄) := by
  iintro ⟨#HE, HB, HS⟩
  ihave HL := (leave (ins m) c f5 f6 f7 f8 f9) $$ [HB HS]
  · isplitl [HB] <;> iassumption
  icases HL with ⟨HO, HP, HA, H5, H6⟩
  imod (close_all (ins m) K c) $$ [HP] with HZ
  · isplitr; · iexact HE
    iexact HP
  imodintro
  unfold bodyPost Φ₁ scratch args
  icases HA with ⟨A0, A1, A2, A3, A4⟩
  isplitl [HZ H6]
  · isplitl [HZ] <;> iassumption
  isplitl [HO]; · iapply (owes_out m c); iexact HO
  isplitl [A0]; · iexact A0
  isplitl [A1]; · iexact A1
  isplitl [A2]; · iexact A2
  isplitl [A3]; · iexact A3
  isplitl [A4]; · iexact A4
  iexact H5

theorem WP_fupd (c : Dev nD) {α : Type} {p : Prog (TpuEff nD τ sig (Elt F) Λ₀ .tc) α} {Q : α → sProp 𝕄} :
    WP c p (fun a => iprop(|={Set.univ}=> Q a)) ⊢ WP c p Q := wp_fupd _ _ _ p Q

theorem sound_body (c : Dev nD) :
    bodyPre m c ⊢ WP c (cc0__body B0 (Memref.isWhole_whole _) B1 (Memref.isWhole_whole _) B2 (Memref.isWhole_whole _) B3 (Memref.isWhole_whole _) B4 (Memref.isWhole_whole _) B5 (Memref.isWhole_whole _) B6 (Memref.isWhole_whole _) B7 (Memref.isWhole_whole _) B8 (Memref.isWhole_whole _) B9 (Memref.isWhole_whole _) cc0_scratch4 cc0_scratch5 cc0_scratch6 cc0_scratch7 cc0_scratch8 cc0_scratch9) (fun _ => bodyPost m c) := by
  unfold bodyPre Φ₀ start scratch
  simp only [before_in m c 0 (by decide), before_in m c 1 (by decide), before_in m c 2 (by decide), before_in m c 3 (by decide), before_in m c 4 (by decide)]
  iintro ⟨⟨⟨%K, #HE, Hp, Ht, Hc⟩, ⟨%f6, H6⟩, ⟨%f7, H7⟩, ⟨%f8, H8⟩, ⟨%f9, H9⟩⟩, HO, ⟨%d0, A0⟩, ⟨%d1, A1⟩, ⟨%d2, A2⟩, ⟨%d3, A3⟩, ⟨%d4, A4⟩, ⟨%d5, A5⟩⟩
  ihave HO' := (owes_in m c) $$ HO
  ihave HN := (enter (ins m) c _ f6 f7 f8 f9) $$ [HO' Hp Ht Hc A0 A1 A2 A3 A4 A5 H6 H7 H8 H9]
  · isplitl [HO']; · iexact HO'
    isplitl [Hp]; · iexact Hp
    isplitl [Ht]; · iexact Ht
    isplitl [Hc]; · iexact Hc
    isplitl [A0 A1 A2 A3 A4]
    · unfold args
      isplitl [A0]; · iexact A0
      isplitl [A1]; · iexact A1
      isplitl [A2]; · iexact A2
      isplitl [A3]; · iexact A3
      iexact A4
    isplitl [A5]; · iexact A5
    isplitl [H6]; · iexact H6
    isplitl [H7]; · iexact H7
    isplitl [H8]; · iexact H8
    iexact H9
  icases HN with ⟨HB, HS⟩
  iapply (WP_fupd c)
  iapply (body_run (ins m) K c _ f6 f7) $$ [HB]
  · isplitr; · iexact HE
    iexact HB
  iintro HB
  iapply (finish m K c _ f6 f7 f8 f9)
  isplitr; · iexact HE
  isplitl [HB] <;> iassumption

/-- The library's obligation for device `c`. -/
theorem body_obligation (c : Dev nD) : BodyObligation (dats m 0 c) (defs₀ (F := F)) 𝒱₀ () Set.univ := fun t => by
  rw [fin_N0 t]
  rw [show (Finset.univ : Finset (Fin cfg0.W)) = (Finset.univ : Finset (Fin 6)) from rfl]
  rw [bigSep_W0, bigSep_W0]
  simp only [owns_whole]
  exact sound_body m c

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start (ins m) c ∗ emp) := by
  iintro ⟨-, Hlev, Hcr, -, HG⟩
  ihave Hc := (creds_intro (F := F) c) $$ Hcr
  imodintro
  unfold start G' env records
  icases HG with ⟨%K, ⟨HI, HR⟩, Hp, Ht⟩
  isplitl
  · iexists K
    isplitl [HI HR Hlev]
    · isplitl [HI]; · iexact HI
      isplitl [HR] <;> iassumption
    isplitl [Hp]; · iexact Hp
    isplitl [Ht] <;> iassumption
  · iempintro

theorem scratch_eq (c : Dev nD) : (scratch c : sProp 𝕄) = Pipeline.scopedRest cfg0.spec c := by
  rw [scopedRest0_eq]
  unfold scratch p6 p7 p8 p9
  rfl

theorem phi0_intro (c : Dev nD) :
    iprop(start (ins m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ (ins m) c from rfl, ← scratch_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ← scratch_eq]
  unfold Φ₁
  iintro ⟨HZ, Hr⟩
  ihave H := (sems_out (F := F) c) $$ HZ
  icases H with ⟨H1, H2⟩
  isplitl [H2]; · iexact H2
  isplitl [H1] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- Every weakly fair execution of the four devices ends, with each device's arrays at the contents computed above and
    every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (ins m)) (G' := G' (ins m)) (u₀ := u₀)
    (hu₀ := by
      unfold u₀
      iintro Hu
      ihave H := (ownU_pair _ _) $$ Hu
      icases H with ⟨HP, HX⟩
      imod (fund_all (ins m)) $$ HX with HG
      imodintro
      isplitl [HP] <;> iassumption)
    (hglob := glob (ins m))
    (hA := fun _ _ => rfl) (hpf := fun _ k => k.elim0)
    (X := start (ins m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began; -/
theorem finalA_in (c : Dev nD) (w : Fin 6) (hw : w.val < 5) : finalA m c w = m ((cfg0.win w).arr.view.loc (c : Thread nD τ)) :=
  (dats m 0 c).arrAt_in w (by revert hw; revert w; decide) _
/-- the result array holds the computed result. -/
theorem finalA_out (c : Dev nD) : (win0_5.blk (0 : Fin 1)).view.read (Elt F) (finalA m c (5 : Fin 6)) = outC (ins m) := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

/-- The run, read at the program's six arrays. -/
theorem run : θ_run defs (onTc (τ := τ) (main (F := F))) ⟨m, fun _ => 0, ρ⟩ (fun r => (∀ c : Dev nD,
      (win0_5.blk (0 : Fin 1)).view.read (Elt F) (r.2.mem ((c.tc : Thread nD τ).loc main_v1)) = outC (ins m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(congrArg _ (h.1 c (5 : Fin 6))).trans (finalA_out m c),
    (h.1 c (0 : Fin 6)).trans (finalA_in m c 0 (by decide)), (h.1 c (1 : Fin 6)).trans (finalA_in m c 1 (by decide)),
    (h.1 c (2 : Fin 6)).trans (finalA_in m c 2 (by decide)), (h.1 c (3 : Fin 6)).trans (finalA_in m c 3 (by decide)),
    (h.1 c (4 : Fin 6)).trans (finalA_in m c 4 (by decide))⟩, h.2⟩) (run_main m ρ)

/-! ## The staged blocks are the whole arrays -/

theorem blk_read0 (f : Buf (Elt F) (((0 : Dev nD) : Thread nD τ).loc main_arg0)) : (win0_0.blk (0 : Fin 1)).view.read (Elt F) f = f := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) f

theorem blk_read1 (f : Buf (Elt F) (((0 : Dev nD) : Thread nD τ).loc main_arg1)) : (win0_1.blk (0 : Fin 1)).view.read (Elt F) f = f := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) f

theorem blk_read2 (f : Buf (Elt F) (((0 : Dev nD) : Thread nD τ).loc main_arg2)) : (win0_2.blk (0 : Fin 1)).view.read (Elt F) f = f := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) f

theorem blk_read3 (f : Buf (Elt F) (((0 : Dev nD) : Thread nD τ).loc main_arg3)) : (win0_3.blk (0 : Fin 1)).view.read (Elt F) f = f := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) f

theorem blk_read4 (f : Buf (Elt F) (((0 : Dev nD) : Thread nD τ).loc main_arg4)) : (win0_4.blk (0 : Fin 1)).view.read (Elt F) f = f := by
  have hz : (fun a => (win0_4.index (0 : Fin 1)) a * main_arg4.ty.shape.size a) = fun _ => 0 := funext fun a => by fin_cases a <;> decide
  exact Memref.read_access_unit_zero (Elt F) main_arg4 hz (fun a => by fin_cases a <;> decide) f

theorem blk_read5 (f : Buf (Elt F) (((0 : Dev nD) : Thread nD τ).loc main_v1)) : (win0_5.blk (0 : Fin 1)).view.read (Elt F) f = f := by
  have hz : (fun a => (win0_5.index (0 : Fin 1)) a * main_v1.ty.shape.size a) = fun _ => 0 := funext fun a => by fin_cases a <;> decide
  exact Memref.read_access_unit_zero (Elt F) main_v1 hz (fun a => by fin_cases a <;> decide) f
theorem ins_x (c : Dev nD) : (ins m).x c = m ((c : Thread nD τ).loc main_arg0) := by
  show (win0_0.blk (0 : Fin 1)).view.read (Elt F) (m ((c : Thread nD τ).loc main_arg0)) = _
  exact blk_read0 (F := F) (m ((c : Thread nD τ).loc main_arg0))
theorem ins_wq (c : Dev nD) : (ins m).wq c = m ((c : Thread nD τ).loc main_arg1) := by
  show (win0_1.blk (0 : Fin 1)).view.read (Elt F) (m ((c : Thread nD τ).loc main_arg1)) = _
  exact blk_read1 (F := F) (m ((c : Thread nD τ).loc main_arg1))
theorem ins_wo (c : Dev nD) : (ins m).wo c = m ((c : Thread nD τ).loc main_arg2) := by
  show (win0_2.blk (0 : Fin 1)).view.read (Elt F) (m ((c : Thread nD τ).loc main_arg2)) = _
  exact blk_read2 (F := F) (m ((c : Thread nD τ).loc main_arg2))
theorem ins_k (c : Dev nD) : (ins m).k c = m ((c : Thread nD τ).loc main_arg3) := by
  show (win0_3.blk (0 : Fin 1)).view.read (Elt F) (m ((c : Thread nD τ).loc main_arg3)) = _
  exact blk_read3 (F := F) (m ((c : Thread nD τ).loc main_arg3))
theorem ins_v (c : Dev nD) : (ins m).v c = m ((c : Thread nD τ).loc main_arg4) := by
  show (win0_4.blk (0 : Fin 1)).view.read (Elt F) (m ((c : Thread nD τ).loc main_arg4)) = _
  exact blk_read4 (F := F) (m ((c : Thread nD τ).loc main_arg4))

end Cert.KernelIdeal.K
-- ==== Proof.KernelIdeal.Twin.lean ====
/- The kernel and its reading over the extended reals are the same text, nothing having been rewritten: they are one
   program, so what is proved of the one for any float values holds of the other. -/
module

public import proofs.«01_k».proof.Proof.KernelIdeal.Launch
public import proofs.«01_k».proof.Proof.Gen.Kernel

@[expose] public section

namespace Cert.KernelIdeal.Twin
open Idealize.ShloMosaic Idealize.SL.Sem

variable {F : FTy → Type} [FloatOps F] [Cert.Kernel.Facts] [Cert.KernelIdeal.Facts]

/-- The two bodies are the same function. -/
theorem body_eq : (@Cert.Kernel.cc0__body F _ _) = (@Cert.KernelIdeal.cc0__body F _ _) := rfl
/-- The tables of bodies agree, -/
theorem defs₀_eq : (Cert.Kernel.defs₀ (F := F)) = (Cert.KernelIdeal.defs₀ (F := F)) := by
  unfold Cert.Kernel.defs₀ Cert.KernelIdeal.defs₀
  refine congrArg Defs.onTc ?_
  funext l a
  match l, a with
  | 0, (t, s) => rfl
/-- with the pipeline's entries added, -/
theorem defs_eq : (Cert.Kernel.defs (F := F)) = (Cert.KernelIdeal.defs (F := F)) :=
  congrArg (Pipeline.defs (Cert.KernelIdeal.pcfgs (F := F))) defs₀_eq
/-- and so do the programs that each device starts. -/
theorem main_eq : (Cert.Kernel.main (F := F)) = (Cert.KernelIdeal.main (F := F)) := rfl

end Cert.KernelIdeal.Twin
-- ==== Proof.KernelIdeal.Softmax.lean ====
/- Softmax over keys in four blocks, in the extended reals: the partial sums of the blocks, each taken against its own
   maximum, merge into the sums over all the keys against the maximum of all. Nothing is asked of the scores or values. -/
module

public import Idealize.ShloMosaic.PureOps.Ideal

@[expose] public section

noncomputable section

namespace Cert.KernelIdeal.Softmax

open Idealize.ShloMosaic

/-- A factor that is neither negative nor infinite goes into a sum. -/
theorem sum_mul_factor {ι : Type} (s : Finset ι) (f : ι → EReal) {r : EReal} (h0 : 0 ≤ r) (ht : r ≠ ⊤) :
    (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 ht, ih]

/-- A weight against a maximum `m`, rescaled to a larger maximum `M`, is the weight against `M`. -/
theorem exp_rescale {s m M : EReal} (h1 : s ≤ m) (h2 : m ≤ M) :
    Ideal.exp (s - m) * Ideal.exp (m - M) = Ideal.exp (s - M) := by
  induction m using EReal.rec with
  | bot =>
    obtain rfl : s = ⊥ := le_bot_iff.mp h1
    simp [sub_eq_add_neg]
  | top =>
    obtain rfl : M = ⊤ := top_le_iff.mp h2
    have e (x : EReal) : x - ⊤ = ⊥ := by simp [sub_eq_add_neg]
    simp [e]
  | coe m =>
    induction M using EReal.rec with
    | bot => exact absurd (le_bot_iff.mp h2) (EReal.coe_ne_bot m)
    | top =>
      have e (x : EReal) : x - ⊤ = ⊥ := by simp [sub_eq_add_neg]
      simp [e]
    | coe M =>
      induction s using EReal.rec with
      | bot => simp [sub_eq_add_neg]
      | top => exact absurd (top_le_iff.mp h1) (EReal.coe_ne_top m)
      | coe s =>
        rw [← EReal.coe_sub, ← EReal.coe_sub, ← EReal.coe_sub, Ideal.exp_coe, Ideal.exp_coe, Ideal.exp_coe, ← EReal.coe_mul, ← Real.exp_add]
        congr 2; ring

theorem exp_nonneg (x : EReal) : 0 ≤ Ideal.exp x := by
  induction x using EReal.rec with
  | bot => simp
  | top => simp
  | coe x => rw [Ideal.exp_coe]; exact_mod_cast (Real.exp_pos x).le

theorem exp_ne_top {m M : EReal} (h : m ≤ M) : Ideal.exp (m - M) ≠ ⊤ := by
  induction M using EReal.rec with
  | bot =>
    obtain rfl : m = ⊥ := le_bot_iff.mp h
    simp [sub_eq_add_neg]
  | top => simp [sub_eq_add_neg]
  | coe M =>
    induction m using EReal.rec with
    | bot => simp [sub_eq_add_neg]
    | top => exact absurd (top_le_iff.mp h) (EReal.coe_ne_top M)
    | coe m => rw [← EReal.coe_sub, Ideal.exp_coe]; exact EReal.coe_ne_top _

/-- The largest of a family of scores. -/
def top {n : Nat} (s : Fin n → EReal) : EReal := Finset.univ.fold max ⊥ s

theorem top_eq {n : Nat} (s : Fin n → EReal) : top s = Finset.univ.sup s := rfl
theorem le_top_ {n : Nat} (s : Fin n → EReal) (j : Fin n) : s j ≤ top s := by
  rw [top_eq]; exact Finset.le_sup (Finset.mem_univ j)

/-- The weighted sum of values, and the sum of weights, against a maximum. -/
def num {n : Nat} (M : EReal) (s v : Fin n → EReal) : EReal := ∑ j, Ideal.exp (s j - M) * v j
def den {n : Nat} (M : EReal) (s : Fin n → EReal) : EReal := ∑ j, Ideal.exp (s j - M)

variable {n : Nat}

theorem num_shift (s v : Fin n → EReal) {m M : EReal} (hs : ∀ j, s j ≤ m) (h : m ≤ M) : num m s v * Ideal.exp (m - M) = num M s v := by
  rw [num, sum_mul_factor _ _ (exp_nonneg _) (exp_ne_top h)]
  exact Finset.sum_congr rfl fun j _ => by rw [mul_right_comm, exp_rescale (hs j) h]

theorem den_shift (s : Fin n → EReal) {m M : EReal} (hs : ∀ j, s j ≤ m) (h : m ≤ M) : den m s * Ideal.exp (m - M) = den M s := by
  rw [den, sum_mul_factor _ _ (exp_nonneg _) (exp_ne_top h)]
  exact Finset.sum_congr rfl fun j _ => exp_rescale (hs j) h

theorem add_shift {X Y X' Y' m M : EReal} (h : m ≤ M) (hX : X * Ideal.exp (m - M) = X') (hY : Y * Ideal.exp (m - M) = Y') :
    (X + Y) * Ideal.exp (m - M) = X' + Y' := by
  rw [EReal.right_distrib_of_nonneg_of_ne_top (exp_nonneg _) (exp_ne_top h), hX, hY]

/-- The running maximum over four blocks, taken in the order `a 0, a 1, a 2, a 3`. -/
def mx (s : Fin 4 → Fin n → EReal) : Fin 4 → EReal
  | 0 => top (s 0)
  | 1 => max (top (s 0)) (top (s 1))
  | 2 => max (max (top (s 0)) (top (s 1))) (top (s 2))
  | 3 => max (max (max (top (s 0)) (top (s 1))) (top (s 2))) (top (s 3))

/-- One merge: what was gathered against `m`, and a block's part against `m'`, both taken to `M`. -/
def mrg (m m' M X Y : EReal) : EReal := X * Ideal.exp (m - M) + Y * Ideal.exp (m' - M)

theorem merge_num (s v : Fin 4 → Fin n → EReal) :
    mrg (mx s 2) (top (s 3)) (mx s 3) (mrg (mx s 1) (top (s 2)) (mx s 2) (mrg (mx s 0) (top (s 1)) (mx s 1)
      (num (top (s 0)) (s 0) (v 0)) (num (top (s 1)) (s 1) (v 1))) (num (top (s 2)) (s 2) (v 2))) (num (top (s 3)) (s 3) (v 3))
    = num (mx s 3) (s 0) (v 0) + num (mx s 3) (s 1) (v 1) + num (mx s 3) (s 2) (v 2) + num (mx s 3) (s 3) (v 3) := by
  have h01 : mx s 0 ≤ mx s 1 := le_max_left _ _
  have h12 : mx s 1 ≤ mx s 2 := le_max_left _ _
  have h23 : mx s 2 ≤ mx s 3 := le_max_left _ _
  have b1 : top (s 1) ≤ mx s 1 := le_max_right _ _
  have b2 : top (s 2) ≤ mx s 2 := le_max_right _ _
  have b3 : top (s 3) ≤ mx s 3 := le_max_right _ _
  have l0 (j) : s 0 j ≤ mx s 0 := le_top_ _ j
  have l1 (j) : s 1 j ≤ mx s 1 := (le_top_ _ j).trans b1
  have l2 (j) : s 2 j ≤ mx s 2 := (le_top_ _ j).trans b2
  have e1 : mrg (mx s 0) (top (s 1)) (mx s 1) (num (top (s 0)) (s 0) (v 0)) (num (top (s 1)) (s 1) (v 1))
      = num (mx s 1) (s 0) (v 0) + num (mx s 1) (s 1) (v 1) :=
    congrArg₂ _ (num_shift _ _ l0 h01) (num_shift _ _ (le_top_ _) b1)
  have e2 : mrg (mx s 1) (top (s 2)) (mx s 2) (num (mx s 1) (s 0) (v 0) + num (mx s 1) (s 1) (v 1)) (num (top (s 2)) (s 2) (v 2))
      = num (mx s 2) (s 0) (v 0) + num (mx s 2) (s 1) (v 1) + num (mx s 2) (s 2) (v 2) :=
    congrArg₂ _ (add_shift h12 (num_shift _ _ (fun j => (l0 j).trans h01) h12) (num_shift _ _ l1 h12)) (num_shift _ _ (le_top_ _) b2)
  rw [e1, e2]
  exact congrArg₂ _ (add_shift h23 (add_shift h23 (num_shift _ _ (fun j => (l0 j).trans (h01.trans h12)) h23)
    (num_shift _ _ (fun j => (l1 j).trans h12) h23)) (num_shift _ _ l2 h23)) (num_shift _ _ (le_top_ _) b3)

theorem den_eq_num (M : EReal) (s : Fin n → EReal) : den M s = num M s fun _ => 1 := by simp [den, num]

theorem merge_den (s : Fin 4 → Fin n → EReal) :
    mrg (mx s 2) (top (s 3)) (mx s 3) (mrg (mx s 1) (top (s 2)) (mx s 2) (mrg (mx s 0) (top (s 1)) (mx s 1)
      (den (top (s 0)) (s 0)) (den (top (s 1)) (s 1))) (den (top (s 2)) (s 2))) (den (top (s 3)) (s 3))
    = den (mx s 3) (s 0) + den (mx s 3) (s 1) + den (mx s 3) (s 2) + den (mx s 3) (s 3) := by
  simp only [den_eq_num]
  exact merge_num s fun _ _ => 1

/-! The blocks taken in cyclic order, and all the keys in one row. -/

/-- The block `j` places after `c`. -/
def after (c j : Fin 4) : Fin 4 := ⟨(c.val + j.val) % 4, Nat.mod_lt _ (by decide)⟩

theorem sum_after (c : Fin 4) (f : Fin 4 → EReal) : f (after c 0) + f (after c 1) + f (after c 2) + f (after c 3) = ∑ b, f b := by
  rw [Fin.sum_univ_four]
  fin_cases c <;> simp [after] <;> abel

theorem mx_after (c : Fin 4) (s : Fin 4 → Fin n → EReal) : mx (fun j => s (after c j)) 3 = Finset.univ.sup fun b => top (s b) := by
  have e : (Finset.univ.sup fun b => top (s b)) = max (max (max (top (s 0)) (top (s 1))) (top (s 2))) (top (s 3)) := by
    rw [show (Finset.univ : Finset (Fin 4)) = {0, 1, 2, 3} from by decide]
    simp [Finset.sup_insert, sup_assoc]
  have rot (a b c d : EReal) : max (max (max b c) d) a = max (max (max a b) c) d := by ac_rfl
  rw [e]
  match c with
  | 0 => exact rfl
  | 1 => exact rot (top (s 0)) (top (s 1)) (top (s 2)) (top (s 3))
  | 2 => exact (rot (top (s 1)) (top (s 2)) (top (s 3)) (top (s 0))).trans (rot _ _ _ _)
  | 3 => exact ((rot (top (s 2)) (top (s 3)) (top (s 0)) (top (s 1))).trans (rot _ _ _ _)).trans (rot _ _ _ _)

/-- Key `j` of block `b`, among all the keys. -/
def whole (b : Fin 4) (j : Fin 2048) : Fin 8192 := ⟨2048 * b.val + j.val, by omega⟩

theorem whole_surj (J : Fin 8192) : whole ⟨J.val / 2048, by omega⟩ ⟨J.val % 2048, by omega⟩ = J := Fin.ext (Nat.div_add_mod _ _)

theorem sum_whole (f : Fin 8192 → EReal) : ∑ b : Fin 4, ∑ j : Fin 2048, f (whole b j) = ∑ J, f J := by
  rw [← Fintype.sum_prod_type' (f := fun b j => f (whole b j))]
  refine Fintype.sum_equiv (Equiv.mk (fun p : Fin 4 × Fin 2048 => whole p.1 p.2)
    (fun J : Fin 8192 => ((⟨J.val / 2048, by omega⟩ : Fin 4), (⟨J.val % 2048, by omega⟩ : Fin 2048))) (fun p => ?_) (fun J => whole_surj J)) _ _ fun _ => rfl
  refine Prod.ext (Fin.ext ?_) (Fin.ext ?_)
  · show (2048 * p.1.val + p.2.val) / 2048 = p.1.val; omega
  · show (2048 * p.1.val + p.2.val) % 2048 = p.2.val; omega

theorem top_whole (s : Fin 8192 → EReal) : (Finset.univ.sup fun b : Fin 4 => top fun j => s (whole b j)) = top s := by
  refine le_antisymm (Finset.sup_le fun b _ => ?_) ?_
  · rw [top_eq]; exact Finset.sup_le fun j _ => le_top_ s _
  · rw [top_eq]
    refine Finset.sup_le fun J _ => ?_
    rw [← whole_surj J]
    exact (le_top_ (fun j => s (whole ⟨J.val / 2048, by omega⟩ j)) _).trans
      (Finset.le_sup (f := fun b : Fin 4 => top fun j => s (whole b j)) (Finset.mem_univ _))

/-- The merge, in cyclic order from any block, of the partial sums: the sums over all the keys against their maximum. -/
theorem merged_num (c : Fin 4) (s v : Fin 8192 → EReal) (S V : Fin 4 → Fin 2048 → EReal)
    (hS : ∀ j, S j = fun i => s (whole (after c j) i)) (hV : ∀ j, V j = fun i => v (whole (after c j) i)) :
    mrg (mx S 2) (top (S 3)) (mx S 3) (mrg (mx S 1) (top (S 2)) (mx S 2) (mrg (mx S 0) (top (S 1)) (mx S 1)
      (num (top (S 0)) (S 0) (V 0)) (num (top (S 1)) (S 1) (V 1))) (num (top (S 2)) (S 2) (V 2))) (num (top (S 3)) (S 3) (V 3))
    = num (top s) s v := by
  rw [merge_num]
  have hm : mx S 3 = top s := by
    rw [show S = fun j => (fun b i => s (whole b i)) (after c j) from funext hS]
    exact (mx_after c fun b i => s (whole b i)).trans (top_whole s)
  rw [hm, hS, hS, hS, hS, hV, hV, hV, hV]
  exact (sum_after c fun b => num (top s) (fun i => s (whole b i)) fun i => v (whole b i)).trans
    (sum_whole fun J => Ideal.exp (s J - top s) * v J)

theorem merged_den (c : Fin 4) (s : Fin 8192 → EReal) (S : Fin 4 → Fin 2048 → EReal)
    (hS : ∀ j, S j = fun i => s (whole (after c j) i)) :
    mrg (mx S 2) (top (S 3)) (mx S 3) (mrg (mx S 1) (top (S 2)) (mx S 2) (mrg (mx S 0) (top (S 1)) (mx S 1)
      (den (top (S 0)) (S 0)) (den (top (S 1)) (S 1))) (den (top (S 2)) (S 2))) (den (top (S 3)) (S 3))
    = den (top s) s := by
  simp only [den_eq_num]
  exact merged_num c s (fun _ => 1) S (fun _ _ => 1) hS fun _ => rfl

/-- The scale may stand on the queries or on the scores. -/
theorem scale_dot {m : Nat} (q k : Fin m → EReal) {r : EReal} (h0 : 0 ≤ r) (ht : r ≠ ⊤) :
    ∑ d, q d * r * k d = (∑ d, q d * k d) * r := by
  rw [sum_mul_factor _ _ h0 ht]
  exact Finset.sum_congr rfl fun d _ => mul_right_comm _ _ _

end Cert.KernelIdeal.Softmax
-- ==== Proof.KernelIdeal.Read.lean ====
/- The device program's values read at an index, in the extended reals. -/
module

public import proofs.«01_k».proof.Proof.KernelIdeal.Model
public import proofs.«01_k».proof.Proof.KernelIdeal.Softmax
public import Idealize.ShloMosaic.Lib.Pointwise

@[expose] public section

set_option maxRecDepth 16384

noncomputable section

namespace Cert.KernelIdeal.K

open Cert.KernelIdeal Cert.KernelIdeal.Gen Cert.KernelIdeal.Softmax
open Idealize.ShloMosaic Idealize.SL.Sem

/-- The scale of the scores. -/
def scl : EReal := Ideal.ofBits .f32 0x3DB504F3#32

/-- Column `d` of head `t`. -/
def colOf (t : Fin 8) (d : Fin 128) : Fin 1024 := ⟨128 * t.val + d.val, by omega⟩

theorem pay1_apply (x : Vec Ideal S512x1024 .bf16) (w : Vec Ideal S1024x1024 .bf16) (r : Fin 512) (k : Fin 1024) :
    k0_pay1 x w (ix2 r k) = (∑ j : Fin 1024, x (ix2 r j) * w (ix2 j k)) * scl := by
  pointwise [k0_pay1]
  rfl

theorem qHead_apply (t : Fin 8) (q : FVec Ideal S512x1024 .bf16) (r : Fin 512) (d : Fin 128) :
    qHead t q (ix2 r d) = q (ix2 r (colOf t d)) := by
  have e (o : Nat) (h : o + d.val < 1024) (ho : o = 128 * t.val) : q (ix2 r ⟨o + d.val, h⟩) = q (ix2 r (colOf t d)) := by
    subst ho; rfl
  fin_cases t <;> (dsimp only [qHead]; pointwise; first | exact e _ (by omega) rfl | exact congrArg (fun z => q (ix2 r z)) (Fin.ext (Nat.zero_add _).symm))

theorem sc_apply (q : FVec Ideal S512x128 .bf16) (k : FVec Ideal S2048x128 .bf16) (r : Fin 512) (j : Fin 2048) :
    sc q k (ix2 r j) = ∑ d : Fin 128, q (ix2 r d) * k (ix2 j d) := by
  pointwise [sc]

theorem rowMax_apply (s : FVec Ideal S512x2048 .f32) (r : Fin 512) :
    rowMax s (ix2 r 0) = Finset.univ.fold max (Ideal.ofBits .f32 0xFF800000#32) fun j : Fin 2048 => s (ix2 r j) := by
  pointwise [rowMax]

theorem wts_apply (s : FVec Ideal S512x2048 .f32) (r : Fin 512) (j : Fin 2048) :
    wts s (ix2 r j) = Ideal.exp (s (ix2 r j) - rowMax s (ix2 r 0)) := by
  pointwise [wts]

theorem rowSum_apply (s : FVec Ideal S512x2048 .f32) (r : Fin 512) :
    rowSum s (ix2 r 0) = ∑ j : Fin 2048, wts s (ix2 r j) := by
  pointwise [rowSum]

theorem wvals_apply (s : FVec Ideal S512x2048 .f32) (v : FVec Ideal S2048x128 .bf16) (r : Fin 512) (d : Fin 128) :
    wvals s v (ix2 r d) = ∑ j : Fin 2048, wts s (ix2 r j) * v (ix2 j d) := by
  pointwise [wvals]

theorem ninf : Ideal.ofBits .f32 0xFF800000#32 = (⊥ : EReal) := by
  simp [Ideal.ofBits, Ideal.ieee]

theorem scl_eq : scl = ((((2 ^ 23 + 3474675 : Nat) : ℝ) * (2 : ℝ) ^ (-27 : ℤ) : ℝ) : EReal) := by
  simp [scl, Ideal.ofBits, Ideal.ieee]
theorem scl_nonneg : 0 ≤ scl := by
  rw [scl_eq]; exact_mod_cast mul_nonneg (Nat.cast_nonneg _) (zpow_nonneg (by norm_num) _)
theorem scl_ne_top : scl ≠ ⊤ := by rw [scl_eq]; exact EReal.coe_ne_top _

variable (I : Ins Ideal)

/-- Query `r`'s value in column `d` of head `t`, not yet scaled. -/
def qr (c : Dev nD) (r : Fin 512) (t : Fin 8) (d : Fin 128) : EReal := ∑ j : Fin 1024, I.x c (ix2 r j) * I.wq c (ix2 j (colOf t d))
/-- The scores of query `r` of head `h` of group `g` against device `b`'s keys, and the values they weigh. -/
def ks (b : Dev nD) (g : Fin 2) (h : Fin 4) (r : Fin 512) (j : Fin 2048) : EReal :=
  ∑ d : Fin 128, qr I b r (hd g h) d * scl * I.k b (ix2 j (at2 g d))
def vs (b : Dev nD) (g : Fin 2) (d : Fin 128) (j : Fin 2048) : EReal := I.v b (ix2 j (at2 g d))

theorem kc_apply (c : Dev nD) (g : Fin 2) (j : Fin 2048) (d : Fin 128) : kc I c g (ix2 j d) = I.k c (ix2 j (at2 g d)) := by
  unfold kc
  pointwise
  rfl
theorem vc_apply (c : Dev nD) (g : Fin 2) (j : Fin 2048) (d : Fin 128) : vc I c g (ix2 j d) = vs I c g d j := by
  unfold vc
  pointwise
  rfl

theorem hS_apply (c : Dev nD) (g : Fin 2) (h : Fin 4) (r : Fin 512) (j : Fin 2048) : hS I c g h (ix2 r j) = ks I c g h r j := by
  rw [hS, sc_apply]
  exact Finset.sum_congr rfl fun d _ => by rw [qHead_apply, kc_apply, qv, pay1_apply]; rfl
theorem hM_apply (c : Dev nD) (g : Fin 2) (h : Fin 4) (r : Fin 512) : hM I c g h (ix2 r 0) = top (ks I c g h r) := by
  rw [hM, rowMax_apply, ninf]
  exact congrArg (fun f => Finset.univ.fold max ⊥ f) (funext fun j => hS_apply I c g h r j)
theorem hW_apply (c : Dev nD) (g : Fin 2) (h : Fin 4) (r : Fin 512) (j : Fin 2048) :
    wts (hS I c g h) (ix2 r j) = Ideal.exp (ks I c g h r j - top (ks I c g h r)) := by
  rw [wts_apply, hS_apply, ← hM_apply]; rfl
theorem hL_apply (c : Dev nD) (g : Fin 2) (h : Fin 4) (r : Fin 512) : hL I c g h (ix2 r 0) = den (top (ks I c g h r)) (ks I c g h r) := by
  rw [hL, rowSum_apply]
  exact Finset.sum_congr rfl fun j _ => hW_apply I c g h r j
theorem hO_apply (c : Dev nD) (g : Fin 2) (h : Fin 4) (r : Fin 512) (d : Fin 128) :
    hO I c g h (ix2 r d) = num (top (ks I c g h r)) (ks I c g h r) (vs I c g d) := by
  rw [hO, wvals_apply]
  exact Finset.sum_congr rfl fun j _ => by rw [hW_apply, vc_apply]

/-! The buffers and slots, read at a head's place. -/

theorem mC_max (c : Dev nD) (g : Fin 2) (h : Fin 4) (r : Fin 512) : mC I c (ix3 g r (cm h)) = top (ks I c g h r) := by
  rw [← hM_apply]
  show (if h.val < 4 then hM I c g ⟨h.val % 4, _⟩ (ix2 r 0) else _) = _
  rw [if_pos h.isLt]
  exact congrArg (fun k => hM I c g k (ix2 r 0)) (Fin.ext (Nat.mod_eq_of_lt h.isLt))
theorem mC_sum (c : Dev nD) (g : Fin 2) (h : Fin 4) (r : Fin 512) : mC I c (ix3 g r (cl h)) = den (top (ks I c g h r)) (ks I c g h r) := by
  rw [← hL_apply]
  show (if 4 + h.val < 4 then _ else hL I c g ⟨(4 + h.val) % 4, _⟩ (ix2 r 0)) = _
  rw [if_neg (by omega)]
  exact congrArg (fun k => hL I c g k (ix2 r 0)) (Fin.ext (show (4 + h.val) % 4 = h.val by omega))
theorem oC_apply (c : Dev nD) (g : Fin 2) (h : Fin 4) (r : Fin 512) (d : Fin 128) :
    oC I c (ix3 g r (at4 h d)) = num (top (ks I c g h r)) (ks I c g h r) (vs I c g d) := by
  rw [← hO_apply]
  show hO I c g (grp (at4 h d)) (ix2 r (plc (at4 h d))) = _
  rw [show grp (at4 h d) = h from Fin.ext (show (128 * h.val + d.val) / 128 = h.val by omega),
    show plc (at4 h d) = d from Fin.ext (show (128 * h.val + d.val) % 128 = d.val by omega)]

variable (c : Dev nD) (g : Fin 2) (h : Fin 4) (a d : Fin 128)

/-- The four devices' scores and values in the order device `c` merges them. -/
def S4 (j : Fin 4) : Fin 2048 → EReal := ks I (after c j) g h (rowOf c a)
def V4 (j : Fin 4) : Fin 2048 → EReal := vs I (after c j) g d

theorem aft_eq (j : Fin 4) : aft c j = after c j := rfl
theorem after_zero : after c 0 = c := Fin.ext (Nat.mod_eq_of_lt c.isLt)

theorem own_max : shapeCast S128x1 (ldM I c g (cm h)) shapeCasts_S1x128x1_S128x1 (ix2 a 0) = top (S4 I c g h a 0) := by
  pointwise
  rw [S4, after_zero]
  exact mC_max I c g h (rowOf c a)
theorem own_sum : shapeCast S128x1 (ldM I c g (cl h)) shapeCasts_S1x128x1_S128x1 (ix2 a 0) = den (top (S4 I c g h a 0)) (S4 I c g h a 0) := by
  pointwise
  rw [S4, after_zero]
  exact mC_sum I c g h (rowOf c a)
theorem own_val : Vl I c g h 0 (ix2 a d) = num (top (S4 I c g h a 0)) (S4 I c g h a 0) (V4 I c g d 0) := by
  rw [Vl_zero]
  pointwise
  rw [S4, V4, after_zero]
  exact oC_apply I c g h (rowOf c a) d
theorem slot_max (j : Fin 4) : slMx I c g j h (ix2 a 0) = top (S4 I c g h a j) := by
  unfold slMx
  pointwise
  exact mC_max I (after c j) g h (rowOf c a)
theorem slot_sum (j : Fin 4) : slSm I c g j h (ix2 a 0) = den (top (S4 I c g h a j)) (S4 I c g h a j) := by
  unfold slSm
  pointwise
  exact mC_sum I (after c j) g h (rowOf c a)
theorem slot_val (j : Fin 4) : slVl I c g j h (ix2 a d) = num (top (S4 I c g h a j)) (S4 I c g h a j) (V4 I c g d j) := by
  unfold slVl
  pointwise
  exact oC_apply I (after c j) g h (rowOf c a) d

theorem mergeO_apply (M M' m : FVec Ideal S128x1 .f32) (O o : FVec Ideal S128x128 .f32) :
    mergeO M M' m O o (ix2 a d) = mrg (M (ix2 a 0)) (m (ix2 a 0)) (M' (ix2 a 0)) (O (ix2 a d)) (o (ix2 a d)) := by
  pointwise [mergeO]
  rfl
theorem mergeL_apply (M M' m L l : FVec Ideal S128x1 .f32) :
    mergeL M M' m L l (ix2 a 0) = mrg (M (ix2 a 0)) (m (ix2 a 0)) (M' (ix2 a 0)) (L (ix2 a 0)) (l (ix2 a 0)) := by
  pointwise [mergeL]
  rfl

theorem Mx_apply (n : Fin 4) : Mx I c g h n (ix2 a 0) = mx (S4 I c g h a) n := by
  match n with
  | 0 => rw [Mx_zero]; exact own_max I c g h a
  | 1 => rw [Mx_one, Mx_zero]; exact congrArg₂ max (own_max I c g h a) (slot_max I c g h a 1)
  | 2 => rw [Mx_two, Mx_one, Mx_zero]; exact congrArg₂ max (congrArg₂ max (own_max I c g h a) (slot_max I c g h a 1)) (slot_max I c g h a 2)
  | 3 =>
    rw [Mx_three, Mx_two, Mx_one, Mx_zero]
    exact congrArg₂ max (congrArg₂ max (congrArg₂ max (own_max I c g h a) (slot_max I c g h a 1)) (slot_max I c g h a 2)) (slot_max I c g h a 3)

/-- All four merged: the sums over all the keys. -/
theorem Vl_merged (s v : Fin 8192 → EReal) (hs : ∀ b, ks I b g h (rowOf c a) = fun i => s (whole b i)) (hv : ∀ b, vs I b g d = fun i => v (whole b i)) :
    Vl I c g h 3 (ix2 a d) = num (top s) s v := by
  rw [Vl_three, mergeO_apply, Vl_two, mergeO_apply, Vl_one, mergeO_apply, own_val]
  simp only [Mx_apply, slot_max, slot_val]
  exact merged_num c s v (S4 I c g h a) (V4 I c g d) (fun j => hs _) fun j => hv _
theorem Sm_merged (s : Fin 8192 → EReal) (hs : ∀ b, ks I b g h (rowOf c a) = fun i => s (whole b i)) :
    Sm I c g h 3 (ix2 a 0) = den (top s) s := by
  rw [Sm_three, mergeL_apply, Sm_two, mergeL_apply, Sm_one, mergeL_apply, Sm_zero, own_sum]
  simp only [Mx_apply, slot_max, slot_sum]
  exact merged_den c s (S4 I c g h a) fun j => hs _

theorem quot_merged (s v : Fin 8192 → EReal) (hs : ∀ b, ks I b g h (rowOf c a) = fun i => s (whole b i)) (hv : ∀ b, vs I b g d = fun i => v (whole b i)) :
    quot I c g h (ix2 a d) = Ideal.div (num (top s) s v) (den (top s) s) := by
  rw [← Vl_merged I c g h a d s v hs hv, ← Sm_merged I c g h a s hs]
  pointwise [quot]

/-! The finished row block: the eight heads side by side, times the output weights. -/

/-- The heads side by side, at a row and a column. -/
def heads (k : Fin 1024) : EReal :=
  quot I c ⟨k.val / 512, by omega⟩ ⟨k.val / 128 % 4, by omega⟩ (ix2 a ⟨k.val % 128, by omega⟩)

theorem quot_eq (x : Fin 128) : quot I c g h (ix2 a x) = Ideal.div (Vl I c g h 3 (ix2 a x)) (Sm I c g h 3 (ix2 a 0)) := by
  pointwise [quot]
theorem heads_at (x : Fin 128) (k : Fin 1024) (hk : k.val = 512 * g.val + (128 * h.val + x.val)) : quot I c g h (ix2 a x) = heads I c a k := by
  rw [heads, show (⟨k.val / 512, by omega⟩ : Fin 2) = g from Fin.ext (show k.val / 512 = g.val by omega),
    show (⟨k.val / 128 % 4, by omega⟩ : Fin 4) = h from Fin.ext (show k.val / 128 % 4 = h.val by omega),
    show (⟨k.val % 128, by omega⟩ : Fin 128) = x from Fin.ext (show k.val % 128 = x.val by omega)]

theorem fin_apply (n : Fin 1024) : fin I c (ix2 a n) = ∑ k : Fin 1024, heads I c a k * I.wo c (ix2 k n) := by
  unfold fin
  pointwise [k0_pay242]
  refine Finset.sum_congr rfl fun k _ => congrArg (fun z : EReal => z * I.wo c (ix2 k n)) ?_
  have hk := k.isLt
  simp only [← quot_eq]
  split
  · exact heads_at I c 0 0 a _ k (show k.val = 512 * 0 + (128 * 0 + k.val) by omega)
  split
  · exact heads_at I c 0 1 a _ k (show k.val = 512 * 0 + (128 * 1 + (k.val - 128)) by omega)
  split
  · exact heads_at I c 0 2 a _ k (show k.val = 512 * 0 + (128 * 2 + (k.val - 128 - 128)) by omega)
  split
  · exact heads_at I c 0 3 a _ k (show k.val = 512 * 0 + (128 * 3 + (k.val - 128 - 128 - 128)) by omega)
  split
  · exact heads_at I c 1 0 a _ k (show k.val = 512 * 1 + (128 * 0 + (k.val - 128 - 128 - 128 - 128)) by omega)
  split
  · exact heads_at I c 1 1 a _ k (show k.val = 512 * 1 + (128 * 1 + (k.val - 128 - 128 - 128 - 128 - 128)) by omega)
  split
  · exact heads_at I c 1 2 a _ k (show k.val = 512 * 1 + (128 * 2 + (k.val - 128 - 128 - 128 - 128 - 128 - 128)) by omega)
  · exact heads_at I c 1 3 a _ k (show k.val = 512 * 1 + (128 * 3 + (k.val - 128 - 128 - 128 - 128 - 128 - 128 - 128)) by omega)

theorem outC_apply (r : Fin 512) (n : Fin 1024) : outC I (ix2 r n) = ∑ k : Fin 1024, heads I (grp r) (plc r) k * I.wo (grp r) (ix2 k n) :=
  fin_apply I (grp r) (plc r) n

end Cert.KernelIdeal.K
-- ==== Proof.ReferenceIdeal.Read.lean ====
/- The reference's result read at an index, in the extended reals. -/
module

public import proofs.«01_k».proof.Proof.Gen.ReferenceIdeal.Run
public import proofs.«01_k».proof.Proof.KernelIdeal.Softmax
public import Idealize.ShloMosaic.Lib.Pointwise

@[expose] public section

set_option maxRecDepth 16384

noncomputable section

namespace Cert.ReferenceIdeal.V

open Cert.ReferenceIdeal Cert.ReferenceIdeal.Gen Cert.KernelIdeal.Softmax
open Idealize.ShloMosaic Idealize.SL.Sem

/-! The reference's values, stage by stage. -/

variable (x : FVec Ideal S512x1024 .bf16) (wq wo : FVec Ideal S1024x1024 .bf16) (k v : FVec Ideal S8192x256 .bf16)

/-- The queries, by row, head and column. -/
def rq : FVec Ideal S512x8x128 .f32 :=
  shapeCast _ (extf .f32 (truncf .bf16 (Host.dotGeneral dot_S512x1024_S1024x1024_S512x1024_1_0_0_1_n_n none (extf .f32 x bitsLt_bf16_f32)
    (extf .f32 wq bitsLt_bf16_f32)) bitsLt_bf16_f32) bitsLt_bf16_f32) shapeCasts_S512x1024_S512x8x128
/-- Keys or values with each group repeated for its four heads. -/
def rep (z : FVec Ideal S8192x256 .bf16) : FVec Ideal S8192x8x128 .f32 :=
  shapeCast _ (broadcastInDim S8192x2x4x128 ![0, 1, 3] bcast_S8192x2x128_S8192x2x4x128_0_1_3 (shapeCast _ (extf .f32 z bitsLt_bf16_f32)
    shapeCasts_S8192x256_S8192x2x128)) shapeCasts_S8192x2x4x128_S8192x8x128
/-- The scores. -/
def rs (q : FVec Ideal S512x8x128 .f32) (kk : FVec Ideal S8192x8x128 .f32) : FVec Ideal S8x512x8192 .f32 :=
  mulf (extf .f32 (truncf .bf16 (Host.dotGeneral dot_S512x8x128_S8192x8x128_S8x512x8192_2_2_0_0_1_1 none q kk) bitsLt_bf16_f32) bitsLt_bf16_f32)
    (broadcastInDim S8x512x8192 ![] bcast_S_S8x512x8192 (constant S_ .f32 0x3DB504F3#32))
/-- The weights. -/
def rw_ (s : FVec Ideal S8x512x8192 .f32) : FVec Ideal S8x512x8192 .f32 :=
  Host.exp (subf s (broadcastInDim S8x512x8192 ![0, 1, 2] bcast_S8x512x1_S8x512x8192_0_1_2 (broadcastInDim S8x512x1 ![0, 1] bcast_S8x512_S8x512x1_0_1
    (Host.reduce FloatOps.maximumf s (constant S_ .f32 0xFF800000#32) reducesTo_S8x512x8192_S8x512_d2 h_S_))))
/-- The attention's result, by row, head and column. -/
def ra (w : FVec Ideal S8x512x8192 .f32) (vv : FVec Ideal S8192x8x128 .f32) : FVec Ideal S512x8x128 .f32 :=
  Host.divf (transpose S512x8x128 [2, 0, 1] (Host.dotGeneral dot_S8192x8x128_S8x512x8192_S8x128x512_0_2_2_1_1_0 none vv w) transposes_S8x128x512_S512x8x128_2_0_1)
    (broadcastInDim S512x8x128 ![0, 1, 2] bcast_S512x8x1_S512x8x128_0_1_2 (transpose S512x8x1 [1, 0, 2]
      (broadcastInDim S8x512x1 ![0, 1] bcast_S8x512_S8x512x1_0_1 (Host.reduceAdd w (constant S_ .f32 0x00000000#32) reducesTo_S8x512x8192_S8x512_d2 h_S_))
      transposes_S8x512x1_S512x8x1_1_0_2))
def ro (o : FVec Ideal S512x8x128 .f32) : FVec Ideal S512x1024 .bf16 :=
  truncf .bf16 (Host.dotGeneral dot_S512x1024_S1024x1024_S512x1024_1_0_0_1_n_n none (shapeCast _ o shapeCasts_S512x8x128_S512x1024)
    (extf .f32 wo bitsLt_bf16_f32)) bitsLt_bf16_f32

theorem res_eq (m : (ℓ : Loc nD τ sig) → Buf (Elt Ideal) ℓ) (c : Dev nD) :
    Value.res_out0 m c = ro (m ((c.tc : Thread nD τ).loc main_arg2)) (ra (rw_ (rs (rq (m ((c.tc : Thread nD τ).loc main_arg0)) (m ((c.tc : Thread nD τ).loc main_arg1)))
      (rep (m ((c.tc : Thread nD τ).loc main_arg3))))) (rep (m ((c.tc : Thread nD τ).loc main_arg4)))) := rfl

theorem rq_apply (r : Fin 512) (t : Fin 8) (d : Fin 128) :
    rq x wq (ix3 r t d) = ∑ j : Fin 1024, x (ix2 r j) * wq (ix2 j ⟨128 * t.val + d.val, by omega⟩) := by
  pointwise [rq]
  exact Finset.sum_congr rfl fun j _ => congrArg (fun y => x (ix2 r j) * wq (ix2 j y)) (Fin.ext (show t.val * 128 + d.val = 128 * t.val + d.val by omega))
theorem rep_apply (J : Fin 8192) (t : Fin 8) (d : Fin 128) : rep k (ix3 J t d) = k (ix2 J ⟨128 * (t.val / 4) + d.val, by omega⟩) := by
  pointwise [rep]
  exact congrArg (fun y => k (ix2 J y)) (Fin.ext (show t.val / 4 * 128 + d.val = 128 * (t.val / 4) + d.val by omega))
theorem rs_apply (q : FVec Ideal S512x8x128 .f32) (kk : FVec Ideal S8192x8x128 .f32) (t : Fin 8) (r : Fin 512) (J : Fin 8192) :
    rs q kk (ix3 t r J) = (∑ d : Fin 128, q (ix3 r t d) * kk (ix3 J t d)) * Ideal.ofBits .f32 0x3DB504F3#32 := by
  pointwise [rs]
theorem rw_apply (s : FVec Ideal S8x512x8192 .f32) (t : Fin 8) (r : Fin 512) (J : Fin 8192) :
    rw_ s (ix3 t r J) = Ideal.exp (s (ix3 t r J) - Finset.univ.fold max (Ideal.ofBits .f32 0xFF800000#32) fun i : Fin 8192 => s (ix3 t r i)) := by
  pointwise [rw_]
theorem ra_apply (w : FVec Ideal S8x512x8192 .f32) (vv : FVec Ideal S8192x8x128 .f32) (r : Fin 512) (t : Fin 8) (d : Fin 128) :
    ra w vv (ix3 r t d) = Ideal.div (∑ J : Fin 8192, w (ix3 t r J) * vv (ix3 J t d)) (∑ J : Fin 8192, w (ix3 t r J)) := by
  pointwise [ra]
  exact congrArg (fun y => Ideal.div y _) (Finset.sum_congr rfl fun J _ => mul_comm _ _)
theorem ro_apply (o : FVec Ideal S512x8x128 .f32) (r : Fin 512) (n : Fin 1024) :
    ro wo o (ix2 r n) = ∑ j : Fin 1024, o (ix3 r ⟨j.val / 128, by omega⟩ ⟨j.val % 128, by omega⟩) * wo (ix2 j n) := by
  pointwise [ro]

end Cert.ReferenceIdeal.V
-- ==== Proof.KernelIdeal.Value.lean ====
/- The device program's result is the reference's, whatever the inputs hold. -/
module

public import proofs.«01_k».proof.Proof.KernelIdeal.Read
public import proofs.«01_k».proof.Proof.ReferenceIdeal.Read
public import Idealize.ShloMosaic.Lib.Layout

@[expose] public section

noncomputable section

namespace Cert.KernelIdeal.K

open Cert.KernelIdeal.Softmax
open Cert.ReferenceIdeal.V (rq rep rs rw_ ra ro)
open Idealize.ShloMosaic Idealize.SL.Sem

variable (I : Ins Ideal)
variable (x : FVec Ideal S512x1024 .bf16) (wq wo : FVec Ideal S1024x1024 .bf16) (k v : FVec Ideal ⟨2, ![8192, 256]⟩ .bf16)

/-- The devices hold the whole inputs: queries and weights each in full, keys and values block by block. -/
structure Holds : Prop where
  x : ∀ c, I.x c = x
  wq : ∀ c, I.wq c = wq
  wo : ∀ c, I.wo c = wo
  k : ∀ c j y, I.k c (ix2 j y) = k (ix2 (whole c j) y)
  v : ∀ c j y, I.v c (ix2 j y) = v (ix2 (whole c j) y)

variable {I x wq wo k v}

theorem rep_group (z : FVec Ideal ⟨2, ![8192, 256]⟩ .bf16) (g : Fin 2) (h : Fin 4) (d : Fin 128) (J : Fin 8192) :
    rep z (ix3 J (hd g h) d) = z (ix2 J (at2 g d)) := by
  rw [Cert.ReferenceIdeal.V.rep_apply]
  exact congrArg (fun y => z (ix2 J y)) (Fin.ext (show 128 * ((4 * g.val + h.val) / 4) + d.val = 128 * g.val + d.val by omega))

theorem scores_eq (H : Holds I x wq wo k v) (b : Dev nD) (g : Fin 2) (h : Fin 4) (r : Fin 512) :
    ks I b g h r = fun i => rs (rq x wq) (rep k) (ix3 (hd g h) r (whole b i)) := by
  funext i
  rw [Cert.ReferenceIdeal.V.rs_apply, ks, scale_dot _ _ scl_nonneg scl_ne_top]
  refine congrArg (fun z : EReal => z * scl) (Finset.sum_congr rfl fun d _ => ?_)
  rw [Cert.ReferenceIdeal.V.rq_apply, rep_group, H.k, qr, H.x, H.wq]
  rfl

theorem values_eq (H : Holds I x wq wo k v) (b : Dev nD) (g : Fin 2) (h : Fin 4) (d : Fin 128) :
    vs I b g d = fun i => rep v (ix3 (whole b i) (hd g h) d) := by
  funext i
  rw [rep_group, vs, H.v]

/-- One head's quotient is the reference's. -/
theorem quot_eq_ref (H : Holds I x wq wo k v) (c : Dev nD) (g : Fin 2) (h : Fin 4) (a d : Fin 128) :
    quot I c g h (ix2 a d) = ra (rw_ (rs (rq x wq) (rep k))) (rep v) (ix3 (rowOf c a) (hd g h) d) := by
  rw [quot_merged I c g h a d (fun J => rs (rq x wq) (rep k) (ix3 (hd g h) (rowOf c a) J)) (fun J => rep v (ix3 J (hd g h) d))
    (fun b => scores_eq H b g h _) (fun b => values_eq H b g h d), Cert.ReferenceIdeal.V.ra_apply]
  have e (J : Fin 8192) : rw_ (rs (rq x wq) (rep k)) (ix3 (hd g h) (rowOf c a) J)
      = Ideal.exp (rs (rq x wq) (rep k) (ix3 (hd g h) (rowOf c a) J) - top fun J => rs (rq x wq) (rep k) (ix3 (hd g h) (rowOf c a) J)) := by
    rw [Cert.ReferenceIdeal.V.rw_apply, ninf]; rfl
  refine congrArg₂ Ideal.div (Finset.sum_congr rfl fun J _ => ?_) (Finset.sum_congr rfl fun J _ => (e J).symm)
  rw [e]

theorem out_eq (H : Holds I x wq wo k v) : outC I = ro wo (ra (rw_ (rs (rq x wq) (rep k))) (rep v)) := by
  funext i
  obtain ⟨r, n, rfl⟩ : ∃ (r : Fin 512) (n : Fin 1024), i = ix2 r n := ⟨i 0, i 1, eq_ix2 i⟩
  rw [outC_apply, Cert.ReferenceIdeal.V.ro_apply]
  refine Finset.sum_congr rfl fun j _ => ?_
  rw [H.wo, heads, quot_eq_ref H]
  have e1 : rowOf (grp r) (plc r) = r := Fin.ext (Nat.div_add_mod r.val 128)
  have e2 : hd ⟨j.val / 512, by omega⟩ ⟨j.val / 128 % 4, by omega⟩ = ⟨j.val / 128, by omega⟩ :=
    Fin.ext (show 4 * (j.val / 512) + j.val / 128 % 4 = j.val / 128 by omega)
  rw [e1, e2]

/-- Device `c`'s block of the keys or values is rows `2048 c` onwards. -/
theorem block_apply (c : Fin 4) (z : (⟨2, ![8192, 256]⟩ : Shape).Idx → EReal) (j : Fin 2048) (y : Fin 256) :
    (Layout.block ⟨2, ![2048, 256]⟩ ⟨2, ![8192, 256]⟩ 0 4 c z) (ix2 j y) = z (ix2 (whole c j) y) := by
  rw [Layout.block_apply]
  refine congrArg z (funext fun a => Fin.ext ?_)
  match a with
  | ⟨0, _⟩ => exact (show c.val * 2048 + j.val = 2048 * c.val + j.val by omega)
  | ⟨1, _⟩ => rfl

end Cert.KernelIdeal.K
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Launch
public import proofs.«01_k».proof.Proof.KernelIdeal.Twin
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel ends, without fault, its arguments unchanged and every counter at zero. -/
theorem frame_kernel : Cert.quiescent_Kernel (hKernel := Cert.Kernel.Gen.facts) := fun m g _ => by
  letI := Cert.Kernel.Gen.facts
  rw [Cert.KernelIdeal.Twin.defs_eq, Cert.KernelIdeal.Twin.main_eq]
  exact (θ_run _ _ _).mono (fun _ h => ⟨fun c => (h.1 c).2, h.2⟩) (Cert.KernelIdeal.K.run (F := Bits) m g)

/-- So does its reading over the extended reals, -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.K.run (F := Ideal) m g)

/-- and the reference. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

/-- Over the extended reals every device ends with the reference's result. -/
theorem values : Cert.algebraic_KernelIdeal_ReferenceIdeal (hKernelIdeal := Cert.KernelIdeal.Gen.facts)
    (hReferenceIdeal := Cert.ReferenceIdeal.Gen.facts) := fun m g m' g' _ hin => by
  have H : Cert.KernelIdeal.K.Holds (Cert.KernelIdeal.K.ins (F := Ideal) m) _ _ _ _ _ :=
    ⟨fun c => (Cert.KernelIdeal.K.ins_x m c).trans (hin c).1, fun c => (Cert.KernelIdeal.K.ins_wq m c).trans (hin c).2.1,
      fun c => (Cert.KernelIdeal.K.ins_wo m c).trans (hin c).2.2.1,
      fun c j y => (congrFun ((Cert.KernelIdeal.K.ins_k m c).trans (hin c).2.2.2.1) _).trans (Cert.KernelIdeal.K.block_apply c _ j y),
      fun c j y => (congrFun ((Cert.KernelIdeal.K.ins_v m c).trans (hin c).2.2.2.2) _).trans (Cert.KernelIdeal.K.block_apply c _ j y)⟩
  have hv := (Cert.KernelIdeal.K.out_eq H).trans (Cert.ReferenceIdeal.V.res_eq m' 0).symm
  refine ⟨Cert.ReferenceIdeal.Value.res_out0 m' 0,
    (θ_run _ _ _).mono (fun r h c => ⟨?_, (h.1 c).2⟩) (Cert.KernelIdeal.K.run (F := Ideal) m g),
    (θ_run _ _ _).mono (fun r h => h 0) (Cert.ReferenceIdeal.Value.run (F := Ideal) m' g')⟩
  exact ((Cert.KernelIdeal.K.blk_read5 (F := Ideal) (r.2.mem ((c.tc : Thread Cert.KernelIdeal.nD Cert.KernelIdeal.τ).loc Cert.KernelIdeal.main_v1))).symm.trans
    (h.1 c).1).trans hv

theorem claim : Cert.Claim := ⟨Cert.Kernel.Gen.facts, Cert.KernelIdeal.Gen.facts, Cert.ReferenceIdeal.Gen.facts,
  frame_kernel, frame_ideal, frame_reference, trivial, values⟩

end Cert.Proof

end
